-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv448" .f32 0x3B124925#32 ((448⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S256x4096 : Shape := ⟨2, ![256, 4096]⟩
abbrev S3x256x2048 : Shape := ⟨3, ![3, 256, 2048]⟩
abbrev S16x128 : Shape := ⟨2, ![16, 128]⟩
abbrev S16 : Shape := ⟨1, ![16]⟩
abbrev S4 : Shape := ⟨1, ![4]⟩
abbrev S3 : Shape := ⟨1, ![3]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S256x256 : Shape := ⟨2, ![256, 256]⟩
abbrev S1x256x8192 : Shape := ⟨3, ![1, 256, 8192]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 3
  | .vmem => 12
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S256x8192, .f32⟩
  | .local _ .vmem, ⟨0, _⟩ => ⟨S4096x256, .bf16⟩
  | .local _ .vmem, ⟨1, _⟩ => ⟨S256x8192, .bf16⟩
  | .local _ .vmem, ⟨2, _⟩ => ⟨S256x8192, .f32⟩
  | .local _ .vmem, ⟨3, _⟩ => ⟨S4096x256, .bf16⟩
  | .local _ .vmem, ⟨4, _⟩ => ⟨S256x4096, .bf16⟩
  | .local _ .vmem, ⟨5, _⟩ => ⟨S256x8192, .bf16⟩
  | .local _ .vmem, ⟨6, _⟩ => ⟨S3x256x2048, .bf16⟩
  | .local _ .vmem, ⟨7, _⟩ => ⟨S3x256x2048, .bf16⟩
  | .local _ .vmem, ⟨8, _⟩ => ⟨S3x256x2048, .bf16⟩
  | .local _ .vmem, ⟨9, _⟩ => ⟨S3x256x2048, .bf16⟩
  | .local _ .vmem, ⟨10, _⟩ => ⟨S256x8192, .f32⟩
  | .local _ .vmem, ⟨11, _⟩ => ⟨S16x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 5 87 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_14 : BitVec 32 := 0#32
  let v27 : BitVec 1 := Scalar.cmpi .ne v2 c0_i32_14
  let v28 : BitVec 32 := Scalar.extui v27
  let c0_i32_15 : BitVec 32 := 0#32
  let v29 : BitVec 1 := Scalar.cmpi .ne v28 c0_i32_15
  v29

def k0_dev1 : Nat :=
  let c0_i32_3012 : BitVec 32 := 0#32
  let c0_i32_3010 : BitVec 32 := 0#32
  let c1_i32_3011 : BitVec 32 := 1#32
  let v2897 : BitVec 32 := Scalar.muli c0_i32_3010 c1_i32_3011
  let v2898 : BitVec 32 := Scalar.addi c0_i32_3012 v2897
  v2898.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v30 : BitVec 1 := Scalar.cmpi .ne v2 c1_i32_16
  let v31 : BitVec 32 := Scalar.extui v30
  let c0_i32_17 : BitVec 32 := 0#32
  let v32 : BitVec 1 := Scalar.cmpi .ne v31 c0_i32_17
  v32

def k0_dev2 : Nat :=
  let c0_i32_3012 : BitVec 32 := 0#32
  let c1_i32_3010 : BitVec 32 := 1#32
  let c1_i32_3011 : BitVec 32 := 1#32
  let v2897 : BitVec 32 := Scalar.muli c1_i32_3010 c1_i32_3011
  let v2898 : BitVec 32 := Scalar.addi c0_i32_3012 v2897
  v2898.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v33 : BitVec 1 := Scalar.cmpi .ne v2 c2_i32
  let v34 : BitVec 32 := Scalar.extui v33
  let c0_i32_18 : BitVec 32 := 0#32
  let v35 : BitVec 1 := Scalar.cmpi .ne v34 c0_i32_18
  v35

def k0_dev3 : Nat :=
  let c0_i32_3012 : BitVec 32 := 0#32
  let c2_i32_3010 : BitVec 32 := 2#32
  let c1_i32_3011 : BitVec 32 := 1#32
  let v2897 : BitVec 32 := Scalar.muli c2_i32_3010 c1_i32_3011
  let v2898 : BitVec 32 := Scalar.addi c0_i32_3012 v2897
  v2898.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v36 : BitVec 1 := Scalar.cmpi .ne v2 c3_i32
  let v37 : BitVec 32 := Scalar.extui v36
  let c0_i32_19 : BitVec 32 := 0#32
  let v38 : BitVec 1 := Scalar.cmpi .ne v37 c0_i32_19
  v38

def k0_dev4 : Nat :=
  let c0_i32_3012 : BitVec 32 := 0#32
  let c3_i32_3010 : BitVec 32 := 3#32
  let c1_i32_3011 : BitVec 32 := 1#32
  let v2897 : BitVec 32 := Scalar.muli c3_i32_3010 c1_i32_3011
  let v2898 : BitVec 32 := Scalar.addi c0_i32_3012 v2897
  v2898.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v39 : BitVec 1 := Scalar.cmpi .ne v2 c4_i32
  let v40 : BitVec 32 := Scalar.extui v39
  let c0_i32_20 : BitVec 32 := 0#32
  let v41 : BitVec 1 := Scalar.cmpi .ne v40 c0_i32_20
  v41

def k0_dev5 : Nat :=
  let c0_i32_3012 : BitVec 32 := 0#32
  let c4_i32_3010 : BitVec 32 := 4#32
  let c1_i32_3011 : BitVec 32 := 1#32
  let v2897 : BitVec 32 := Scalar.muli c4_i32_3010 c1_i32_3011
  let v2898 : BitVec 32 := Scalar.addi c0_i32_3012 v2897
  v2898.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v42 : BitVec 1 := Scalar.cmpi .ne v2 c5_i32
  let v43 : BitVec 32 := Scalar.extui v42
  let c0_i32_21 : BitVec 32 := 0#32
  let v44 : BitVec 1 := Scalar.cmpi .ne v43 c0_i32_21
  v44

def k0_dev6 : Nat :=
  let c0_i32_3012 : BitVec 32 := 0#32
  let c5_i32_3010 : BitVec 32 := 5#32
  let c1_i32_3011 : BitVec 32 := 1#32
  let v2897 : BitVec 32 := Scalar.muli c5_i32_3010 c1_i32_3011
  let v2898 : BitVec 32 := Scalar.addi c0_i32_3012 v2897
  v2898.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v45 : BitVec 1 := Scalar.cmpi .ne v2 c6_i32
  let v46 : BitVec 32 := Scalar.extui v45
  let c0_i32_22 : BitVec 32 := 0#32
  let v47 : BitVec 1 := Scalar.cmpi .ne v46 c0_i32_22
  v47

def k0_dev7 : Nat :=
  let c0_i32_3012 : BitVec 32 := 0#32
  let c6_i32_3010 : BitVec 32 := 6#32
  let c1_i32_3011 : BitVec 32 := 1#32
  let v2897 : BitVec 32 := Scalar.muli c6_i32_3010 c1_i32_3011
  let v2898 : BitVec 32 := Scalar.addi c0_i32_3012 v2897
  v2898.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v48 : BitVec 1 := Scalar.cmpi .ne v2 c7_i32
  let v49 : BitVec 32 := Scalar.extui v48
  let c0_i32_23 : BitVec 32 := 0#32
  let v50 : BitVec 1 := Scalar.cmpi .ne v49 c0_i32_23
  v50

def k0_dev8 : Nat :=
  let c0_i32_3012 : BitVec 32 := 0#32
  let c7_i32_3010 : BitVec 32 := 7#32
  let c1_i32_3011 : BitVec 32 := 1#32
  let v2897 : BitVec 32 := Scalar.muli c7_i32_3010 c1_i32_3011
  let v2898 : BitVec 32 := Scalar.addi c0_i32_3012 v2897
  v2898.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v51 : BitVec 1 := Scalar.cmpi .ne v2 c8_i32
  let v52 : BitVec 32 := Scalar.extui v51
  let c0_i32_24 : BitVec 32 := 0#32
  let v53 : BitVec 1 := Scalar.cmpi .ne v52 c0_i32_24
  v53

def k0_dev9 : Nat :=
  let c0_i32_3012 : BitVec 32 := 0#32
  let c8_i32_3010 : BitVec 32 := 8#32
  let c1_i32_3011 : BitVec 32 := 1#32
  let v2897 : BitVec 32 := Scalar.muli c8_i32_3010 c1_i32_3011
  let v2898 : BitVec 32 := Scalar.addi c0_i32_3012 v2897
  v2898.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v54 : BitVec 1 := Scalar.cmpi .ne v2 c9_i32
  let v55 : BitVec 32 := Scalar.extui v54
  let c0_i32_25 : BitVec 32 := 0#32
  let v56 : BitVec 1 := Scalar.cmpi .ne v55 c0_i32_25
  v56

def k0_dev10 : Nat :=
  let c0_i32_3012 : BitVec 32 := 0#32
  let c9_i32_3010 : BitVec 32 := 9#32
  let c1_i32_3011 : BitVec 32 := 1#32
  let v2897 : BitVec 32 := Scalar.muli c9_i32_3010 c1_i32_3011
  let v2898 : BitVec 32 := Scalar.addi c0_i32_3012 v2897
  v2898.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v57 : BitVec 1 := Scalar.cmpi .ne v2 c10_i32
  let v58 : BitVec 32 := Scalar.extui v57
  let c0_i32_26 : BitVec 32 := 0#32
  let v59 : BitVec 1 := Scalar.cmpi .ne v58 c0_i32_26
  v59

def k0_dev11 : Nat :=
  let c0_i32_3012 : BitVec 32 := 0#32
  let c10_i32_3010 : BitVec 32 := 10#32
  let c1_i32_3011 : BitVec 32 := 1#32
  let v2897 : BitVec 32 := Scalar.muli c10_i32_3010 c1_i32_3011
  let v2898 : BitVec 32 := Scalar.addi c0_i32_3012 v2897
  v2898.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v60 : BitVec 1 := Scalar.cmpi .ne v2 c11_i32
  let v61 : BitVec 32 := Scalar.extui v60
  let c0_i32_27 : BitVec 32 := 0#32
  let v62 : BitVec 1 := Scalar.cmpi .ne v61 c0_i32_27
  v62

def k0_dev12 : Nat :=
  let c0_i32_3012 : BitVec 32 := 0#32
  let c11_i32_3010 : BitVec 32 := 11#32
  let c1_i32_3011 : BitVec 32 := 1#32
  let v2897 : BitVec 32 := Scalar.muli c11_i32_3010 c1_i32_3011
  let v2898 : BitVec 32 := Scalar.addi c0_i32_3012 v2897
  v2898.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v63 : BitVec 1 := Scalar.cmpi .ne v2 c12_i32
  let v64 : BitVec 32 := Scalar.extui v63
  let c0_i32_28 : BitVec 32 := 0#32
  let v65 : BitVec 1 := Scalar.cmpi .ne v64 c0_i32_28
  v65

def k0_dev13 : Nat :=
  let c0_i32_3012 : BitVec 32 := 0#32
  let c12_i32_3010 : BitVec 32 := 12#32
  let c1_i32_3011 : BitVec 32 := 1#32
  let v2897 : BitVec 32 := Scalar.muli c12_i32_3010 c1_i32_3011
  let v2898 : BitVec 32 := Scalar.addi c0_i32_3012 v2897
  v2898.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v66 : BitVec 1 := Scalar.cmpi .ne v2 c13_i32
  let v67 : BitVec 32 := Scalar.extui v66
  let c0_i32_29 : BitVec 32 := 0#32
  let v68 : BitVec 1 := Scalar.cmpi .ne v67 c0_i32_29
  v68

def k0_dev14 : Nat :=
  let c0_i32_3012 : BitVec 32 := 0#32
  let c13_i32_3010 : BitVec 32 := 13#32
  let c1_i32_3011 : BitVec 32 := 1#32
  let v2897 : BitVec 32 := Scalar.muli c13_i32_3010 c1_i32_3011
  let v2898 : BitVec 32 := Scalar.addi c0_i32_3012 v2897
  v2898.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v69 : BitVec 1 := Scalar.cmpi .ne v2 c14_i32
  let v70 : BitVec 32 := Scalar.extui v69
  let c0_i32_30 : BitVec 32 := 0#32
  let v71 : BitVec 1 := Scalar.cmpi .ne v70 c0_i32_30
  v71

def k0_dev15 : Nat :=
  let c0_i32_3012 : BitVec 32 := 0#32
  let c14_i32_3010 : BitVec 32 := 14#32
  let c1_i32_3011 : BitVec 32 := 1#32
  let v2897 : BitVec 32 := Scalar.muli c14_i32_3010 c1_i32_3011
  let v2898 : BitVec 32 := Scalar.addi c0_i32_3012 v2897
  v2898.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v72 : BitVec 1 := Scalar.cmpi .ne v2 c15_i32
  let v73 : BitVec 32 := Scalar.extui v72
  let c0_i32_31 : BitVec 32 := 0#32
  let v74 : BitVec 1 := Scalar.cmpi .ne v73 c0_i32_31
  v74

def k0_dev16 : Nat :=
  let c0_i32_3012 : BitVec 32 := 0#32
  let c15_i32_3010 : BitVec 32 := 15#32
  let c1_i32_3011 : BitVec 32 := 1#32
  let v2897 : BitVec 32 := Scalar.muli c15_i32_3010 c1_i32_3011
  let v2898 : BitVec 32 := Scalar.addi c0_i32_3012 v2897
  v2898.toNat
def k0_dev17 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_39 : BitVec 32 := 1#32
  let v80 : BitVec 32 := Scalar.muli v25 c1_i32_39
  let v81 : BitVec 32 := Scalar.addi c0_i32_40 v80
  v81.toNat
def k0_dev18 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_48 : BitVec 32 := 1#32
  let v89 : BitVec 32 := Scalar.muli v25 c1_i32_48
  let v90 : BitVec 32 := Scalar.addi c0_i32_49 v89
  v90.toNat
def k0_dev19 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_56 : BitVec 32 := 1#32
  let v98 : BitVec 32 := Scalar.muli v14 c1_i32_56
  let v99 : BitVec 32 := Scalar.addi c0_i32_57 v98
  v99.toNat
def k0_dev20 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_64 : BitVec 32 := 1#32
  let v107 : BitVec 32 := Scalar.muli v14 c1_i32_64
  let v108 : BitVec 32 := Scalar.addi c0_i32_65 v107
  v108.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_73 : BitVec 32 := 0#32
  let v121 : BitVec 1 := Scalar.cmpi .ne v2 c0_i32_73
  let v122 : BitVec 32 := Scalar.extui v121
  let c0_i32_74 : BitVec 32 := 0#32
  let v123 : BitVec 1 := Scalar.cmpi .ne v122 c0_i32_74
  v123

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev21 : Nat :=
  let c0_i32_3013 : BitVec 32 := 0#32
  let c0_i32_3011 : BitVec 32 := 0#32
  let c1_i32_3012 : BitVec 32 := 1#32
  let v2898 : BitVec 32 := Scalar.muli c0_i32_3011 c1_i32_3012
  let v2899 : BitVec 32 := Scalar.addi c0_i32_3013 v2898
  v2899.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_75 : BitVec 32 := 1#32
  let v124 : BitVec 1 := Scalar.cmpi .ne v2 c1_i32_75
  let v125 : BitVec 32 := Scalar.extui v124
  let c0_i32_76 : BitVec 32 := 0#32
  let v126 : BitVec 1 := Scalar.cmpi .ne v125 c0_i32_76
  v126

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev22 : Nat :=
  let c0_i32_3013 : BitVec 32 := 0#32
  let c1_i32_3011 : BitVec 32 := 1#32
  let c1_i32_3012 : BitVec 32 := 1#32
  let v2898 : BitVec 32 := Scalar.muli c1_i32_3011 c1_i32_3012
  let v2899 : BitVec 32 := Scalar.addi c0_i32_3013 v2898
  v2899.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_77 : BitVec 32 := 2#32
  let v127 : BitVec 1 := Scalar.cmpi .ne v2 c2_i32_77
  let v128 : BitVec 32 := Scalar.extui v127
  let c0_i32_78 : BitVec 32 := 0#32
  let v129 : BitVec 1 := Scalar.cmpi .ne v128 c0_i32_78
  v129

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev23 : Nat :=
  let c0_i32_3013 : BitVec 32 := 0#32
  let c2_i32_3011 : BitVec 32 := 2#32
  let c1_i32_3012 : BitVec 32 := 1#32
  let v2898 : BitVec 32 := Scalar.muli c2_i32_3011 c1_i32_3012
  let v2899 : BitVec 32 := Scalar.addi c0_i32_3013 v2898
  v2899.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v130 : BitVec 1 := Scalar.cmpi .ne v2 c3_i32_79
  let v131 : BitVec 32 := Scalar.extui v130
  let c0_i32_80 : BitVec 32 := 0#32
  let v132 : BitVec 1 := Scalar.cmpi .ne v131 c0_i32_80
  v132

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev24 : Nat :=
  let c0_i32_3013 : BitVec 32 := 0#32
  let c3_i32_3011 : BitVec 32 := 3#32
  let c1_i32_3012 : BitVec 32 := 1#32
  let v2898 : BitVec 32 := Scalar.muli c3_i32_3011 c1_i32_3012
  let v2899 : BitVec 32 := Scalar.addi c0_i32_3013 v2898
  v2899.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_81 : BitVec 32 := 4#32
  let v133 : BitVec 1 := Scalar.cmpi .ne v2 c4_i32_81
  let v134 : BitVec 32 := Scalar.extui v133
  let c0_i32_82 : BitVec 32 := 0#32
  let v135 : BitVec 1 := Scalar.cmpi .ne v134 c0_i32_82
  v135

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev25 : Nat :=
  let c0_i32_3013 : BitVec 32 := 0#32
  let c4_i32_3011 : BitVec 32 := 4#32
  let c1_i32_3012 : BitVec 32 := 1#32
  let v2898 : BitVec 32 := Scalar.muli c4_i32_3011 c1_i32_3012
  let v2899 : BitVec 32 := Scalar.addi c0_i32_3013 v2898
  v2899.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_83 : BitVec 32 := 5#32
  let v136 : BitVec 1 := Scalar.cmpi .ne v2 c5_i32_83
  let v137 : BitVec 32 := Scalar.extui v136
  let c0_i32_84 : BitVec 32 := 0#32
  let v138 : BitVec 1 := Scalar.cmpi .ne v137 c0_i32_84
  v138

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev26 : Nat :=
  let c0_i32_3013 : BitVec 32 := 0#32
  let c5_i32_3011 : BitVec 32 := 5#32
  let c1_i32_3012 : BitVec 32 := 1#32
  let v2898 : BitVec 32 := Scalar.muli c5_i32_3011 c1_i32_3012
  let v2899 : BitVec 32 := Scalar.addi c0_i32_3013 v2898
  v2899.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_85 : BitVec 32 := 6#32
  let v139 : BitVec 1 := Scalar.cmpi .ne v2 c6_i32_85
  let v140 : BitVec 32 := Scalar.extui v139
  let c0_i32_86 : BitVec 32 := 0#32
  let v141 : BitVec 1 := Scalar.cmpi .ne v140 c0_i32_86
  v141

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev27 : Nat :=
  let c0_i32_3013 : BitVec 32 := 0#32
  let c6_i32_3011 : BitVec 32 := 6#32
  let c1_i32_3012 : BitVec 32 := 1#32
  let v2898 : BitVec 32 := Scalar.muli c6_i32_3011 c1_i32_3012
  let v2899 : BitVec 32 := Scalar.addi c0_i32_3013 v2898
  v2899.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_87 : BitVec 32 := 7#32
  let v142 : BitVec 1 := Scalar.cmpi .ne v2 c7_i32_87
  let v143 : BitVec 32 := Scalar.extui v142
  let c0_i32_88 : BitVec 32 := 0#32
  let v144 : BitVec 1 := Scalar.cmpi .ne v143 c0_i32_88
  v144

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev28 : Nat :=
  let c0_i32_3013 : BitVec 32 := 0#32
  let c7_i32_3011 : BitVec 32 := 7#32
  let c1_i32_3012 : BitVec 32 := 1#32
  let v2898 : BitVec 32 := Scalar.muli c7_i32_3011 c1_i32_3012
  let v2899 : BitVec 32 := Scalar.addi c0_i32_3013 v2898
  v2899.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_89 : BitVec 32 := 8#32
  let v145 : BitVec 1 := Scalar.cmpi .ne v2 c8_i32_89
  let v146 : BitVec 32 := Scalar.extui v145
  let c0_i32_90 : BitVec 32 := 0#32
  let v147 : BitVec 1 := Scalar.cmpi .ne v146 c0_i32_90
  v147

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev29 : Nat :=
  let c0_i32_3013 : BitVec 32 := 0#32
  let c8_i32_3011 : BitVec 32 := 8#32
  let c1_i32_3012 : BitVec 32 := 1#32
  let v2898 : BitVec 32 := Scalar.muli c8_i32_3011 c1_i32_3012
  let v2899 : BitVec 32 := Scalar.addi c0_i32_3013 v2898
  v2899.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_91 : BitVec 32 := 9#32
  let v148 : BitVec 1 := Scalar.cmpi .ne v2 c9_i32_91
  let v149 : BitVec 32 := Scalar.extui v148
  let c0_i32_92 : BitVec 32 := 0#32
  let v150 : BitVec 1 := Scalar.cmpi .ne v149 c0_i32_92
  v150

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev30 : Nat :=
  let c0_i32_3013 : BitVec 32 := 0#32
  let c9_i32_3011 : BitVec 32 := 9#32
  let c1_i32_3012 : BitVec 32 := 1#32
  let v2898 : BitVec 32 := Scalar.muli c9_i32_3011 c1_i32_3012
  let v2899 : BitVec 32 := Scalar.addi c0_i32_3013 v2898
  v2899.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_93 : BitVec 32 := 10#32
  let v151 : BitVec 1 := Scalar.cmpi .ne v2 c10_i32_93
  let v152 : BitVec 32 := Scalar.extui v151
  let c0_i32_94 : BitVec 32 := 0#32
  let v153 : BitVec 1 := Scalar.cmpi .ne v152 c0_i32_94
  v153

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev31 : Nat :=
  let c0_i32_3013 : BitVec 32 := 0#32
  let c10_i32_3011 : BitVec 32 := 10#32
  let c1_i32_3012 : BitVec 32 := 1#32
  let v2898 : BitVec 32 := Scalar.muli c10_i32_3011 c1_i32_3012
  let v2899 : BitVec 32 := Scalar.addi c0_i32_3013 v2898
  v2899.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_95 : BitVec 32 := 11#32
  let v154 : BitVec 1 := Scalar.cmpi .ne v2 c11_i32_95
  let v155 : BitVec 32 := Scalar.extui v154
  let c0_i32_96 : BitVec 32 := 0#32
  let v156 : BitVec 1 := Scalar.cmpi .ne v155 c0_i32_96
  v156

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev32 : Nat :=
  let c0_i32_3013 : BitVec 32 := 0#32
  let c11_i32_3011 : BitVec 32 := 11#32
  let c1_i32_3012 : BitVec 32 := 1#32
  let v2898 : BitVec 32 := Scalar.muli c11_i32_3011 c1_i32_3012
  let v2899 : BitVec 32 := Scalar.addi c0_i32_3013 v2898
  v2899.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_97 : BitVec 32 := 12#32
  let v157 : BitVec 1 := Scalar.cmpi .ne v2 c12_i32_97
  let v158 : BitVec 32 := Scalar.extui v157
  let c0_i32_98 : BitVec 32 := 0#32
  let v159 : BitVec 1 := Scalar.cmpi .ne v158 c0_i32_98
  v159

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev33 : Nat :=
  let c0_i32_3013 : BitVec 32 := 0#32
  let c12_i32_3011 : BitVec 32 := 12#32
  let c1_i32_3012 : BitVec 32 := 1#32
  let v2898 : BitVec 32 := Scalar.muli c12_i32_3011 c1_i32_3012
  let v2899 : BitVec 32 := Scalar.addi c0_i32_3013 v2898
  v2899.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_99 : BitVec 32 := 13#32
  let v160 : BitVec 1 := Scalar.cmpi .ne v2 c13_i32_99
  let v161 : BitVec 32 := Scalar.extui v160
  let c0_i32_100 : BitVec 32 := 0#32
  let v162 : BitVec 1 := Scalar.cmpi .ne v161 c0_i32_100
  v162

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev34 : Nat :=
  let c0_i32_3013 : BitVec 32 := 0#32
  let c13_i32_3011 : BitVec 32 := 13#32
  let c1_i32_3012 : BitVec 32 := 1#32
  let v2898 : BitVec 32 := Scalar.muli c13_i32_3011 c1_i32_3012
  let v2899 : BitVec 32 := Scalar.addi c0_i32_3013 v2898
  v2899.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_101 : BitVec 32 := 14#32
  let v163 : BitVec 1 := Scalar.cmpi .ne v2 c14_i32_101
  let v164 : BitVec 32 := Scalar.extui v163
  let c0_i32_102 : BitVec 32 := 0#32
  let v165 : BitVec 1 := Scalar.cmpi .ne v164 c0_i32_102
  v165

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev35 : Nat :=
  let c0_i32_3013 : BitVec 32 := 0#32
  let c14_i32_3011 : BitVec 32 := 14#32
  let c1_i32_3012 : BitVec 32 := 1#32
  let v2898 : BitVec 32 := Scalar.muli c14_i32_3011 c1_i32_3012
  let v2899 : BitVec 32 := Scalar.addi c0_i32_3013 v2898
  v2899.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_103 : BitVec 32 := 15#32
  let v166 : BitVec 1 := Scalar.cmpi .ne v2 c15_i32_103
  let v167 : BitVec 32 := Scalar.extui v166
  let c0_i32_104 : BitVec 32 := 0#32
  let v168 : BitVec 1 := Scalar.cmpi .ne v167 c0_i32_104
  v168

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let c0_i32_3014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3009 : BitVec 32 := 256#32
  let v2897 : BitVec 32 := Scalar.muli v2 c256_i32_3009
  ![0, v2897.toNat]
def k0_dev36 : Nat :=
  let c0_i32_3013 : BitVec 32 := 0#32
  let c15_i32_3011 : BitVec 32 := 15#32
  let c1_i32_3012 : BitVec 32 := 1#32
  let v2898 : BitVec 32 := Scalar.muli c15_i32_3011 c1_i32_3012
  let v2899 : BitVec 32 := Scalar.addi c0_i32_3013 v2898
  v2899.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v169 : BitVec 32 := Scalar.muli v2 c256_i32
  let v170 : Index := Scalar.indexCast v169
  let c0_105 : Index := 0#32
  ![v170.toNat, 0]
def k0_off34 (d0 : Dev nD) : Fin 2 → Nat :=
  let c0_111 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_110 : BitVec 32 := 256#32
  let v177 : BitVec 32 := Scalar.muli v2 c256_i32_110
  let v178 : Index := Scalar.indexCast v177
  ![0, v178.toNat]
def k0_dev37 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_158 : BitVec 32 := 1#32
  let v238 : BitVec 32 := Scalar.muli v25 c1_i32_158
  let v239 : BitVec 32 := Scalar.addi c0_i32_159 v238
  v239.toNat
def k0_dev38 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_178 : BitVec 32 := 1#32
  let v256 : BitVec 32 := Scalar.muli v14 c1_i32_178
  let v257 : BitVec 32 := Scalar.addi c0_i32_179 v256
  v257.toNat
def k0_dev39 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_198 : BitVec 32 := 1#32
  let v274 : BitVec 32 := Scalar.muli v25 c1_i32_198
  let v275 : BitVec 32 := Scalar.addi c0_i32_199 v274
  v275.toNat
def k0_dev40 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_218 : BitVec 32 := 1#32
  let v292 : BitVec 32 := Scalar.muli v14 c1_i32_218
  let v293 : BitVec 32 := Scalar.addi c0_i32_219 v292
  v293.toNat
def k0_off35 (d0 : Dev nD) (c15_i32_224 : BitVec 32) : Fin 2 → Nat :=
  let c0_240 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v302 : BitVec 32 := Scalar.addi v2 c15_i32_224
  let c16_i32_225 : BitVec 32 := 16#32
  let c0_i32_226 : BitVec 32 := 0#32
  let v303 : BitVec 1 := Scalar.cmpi .eq c16_i32_225 c0_i32_226
  let c1_i32_227 : BitVec 32 := 1#32
  let v304 : BitVec 32 := Scalar.select v303 c1_i32_227 c16_i32_225
  let v305 : BitVec 32 := Scalar.remsi v302 v304
  let c0_i32_229 : BitVec 32 := 0#32
  let v307 : BitVec 1 := Scalar.cmpi .slt v305 c0_i32_229
  let c0_i32_230 : BitVec 32 := 0#32
  let v308 : BitVec 1 := Scalar.cmpi .slt v304 c0_i32_230
  let v309 : BitVec 1 := Scalar.xori v307 v308
  let c0_i32_228 : BitVec 32 := 0#32
  let v306 : BitVec 1 := Scalar.cmpi .ne v305 c0_i32_228
  let v310 : BitVec 1 := Scalar.andi v309 v306
  let v311 : BitVec 32 := Scalar.addi v305 v304
  let v312 : BitVec 32 := Scalar.select v310 v311 v305
  let c256_i32_239 : BitVec 32 := 256#32
  let v325 : BitVec 32 := Scalar.muli v312 c256_i32_239
  let v326 : Index := Scalar.indexCast v325
  ![0, v326.toNat]
def k0_off36 (d0 : Dev nD) (c0_i32_231 : BitVec 32) : Fin 2 → Nat :=
  let c0_259 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v313 : BitVec 32 := Scalar.addi v2 c0_i32_231
  let c1_i32_232 : BitVec 32 := 1#32
  let v314 : BitVec 32 := Scalar.addi v313 c1_i32_232
  let c16_i32_233 : BitVec 32 := 16#32
  let c0_i32_234 : BitVec 32 := 0#32
  let v315 : BitVec 1 := Scalar.cmpi .eq c16_i32_233 c0_i32_234
  let c1_i32_235 : BitVec 32 := 1#32
  let v316 : BitVec 32 := Scalar.select v315 c1_i32_235 c16_i32_233
  let v317 : BitVec 32 := Scalar.remsi v314 v316
  let c0_i32_237 : BitVec 32 := 0#32
  let v319 : BitVec 1 := Scalar.cmpi .slt v317 c0_i32_237
  let c0_i32_238 : BitVec 32 := 0#32
  let v320 : BitVec 1 := Scalar.cmpi .slt v316 c0_i32_238
  let v321 : BitVec 1 := Scalar.xori v319 v320
  let c0_i32_236 : BitVec 32 := 0#32
  let v318 : BitVec 1 := Scalar.cmpi .ne v317 c0_i32_236
  let v322 : BitVec 1 := Scalar.andi v321 v318
  let v323 : BitVec 32 := Scalar.addi v317 v316
  let v324 : BitVec 32 := Scalar.select v322 v323 v317
  let c256_i32_258 : BitVec 32 := 256#32
  let v347 : BitVec 32 := Scalar.muli v324 c256_i32_258
  let v348 : Index := Scalar.indexCast v347
  ![0, v348.toNat]
def k0_dev41 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_296 : BitVec 32 := 1#32
  let v383 : BitVec 32 := Scalar.muli v14 c1_i32_296
  let v384 : BitVec 32 := Scalar.addi c0_i32_297 v383
  v384.toNat
def k0_dev42 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_302 : BitVec 32 := 1#32
  let v385 : BitVec 32 := Scalar.muli v25 c1_i32_302
  let v386 : BitVec 32 := Scalar.addi c0_i32_303 v385
  v386.toNat
def k0_dev43 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_328 : BitVec 32 := 1#32
  let v409 : BitVec 32 := Scalar.muli v25 c1_i32_328
  let v410 : BitVec 32 := Scalar.addi c0_i32_329 v409
  v410.toNat
def k0_dev44 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_334 : BitVec 32 := 1#32
  let v411 : BitVec 32 := Scalar.muli v14 c1_i32_334
  let v412 : BitVec 32 := Scalar.addi c0_i32_335 v411
  v412.toNat
def k0_dev45 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_360 : BitVec 32 := 1#32
  let v435 : BitVec 32 := Scalar.muli v14 c1_i32_360
  let v436 : BitVec 32 := Scalar.addi c0_i32_361 v435
  v436.toNat
def k0_dev46 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_366 : BitVec 32 := 1#32
  let v437 : BitVec 32 := Scalar.muli v25 c1_i32_366
  let v438 : BitVec 32 := Scalar.addi c0_i32_367 v437
  v438.toNat
def k0_dev47 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_392 : BitVec 32 := 1#32
  let v461 : BitVec 32 := Scalar.muli v25 c1_i32_392
  let v462 : BitVec 32 := Scalar.addi c0_i32_393 v461
  v462.toNat
def k0_dev48 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_398 : BitVec 32 := 1#32
  let v463 : BitVec 32 := Scalar.muli v14 c1_i32_398
  let v464 : BitVec 32 := Scalar.addi c0_i32_399 v463
  v464.toNat
def k0_dev49 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_478 : BitVec 32 := 1#32
  let v554 : BitVec 32 := Scalar.muli v14 c1_i32_478
  let v555 : BitVec 32 := Scalar.addi c0_i32_479 v554
  v555.toNat
def k0_dev50 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_486 : BitVec 32 := 1#32
  let v556 : BitVec 32 := Scalar.muli v25 c1_i32_486
  let v557 : BitVec 32 := Scalar.addi c0_i32_487 v556
  v557.toNat
def k0_dev51 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_512 : BitVec 32 := 1#32
  let v580 : BitVec 32 := Scalar.muli v25 c1_i32_512
  let v581 : BitVec 32 := Scalar.addi c0_i32_513 v580
  v581.toNat
def k0_dev52 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_520 : BitVec 32 := 1#32
  let v582 : BitVec 32 := Scalar.muli v14 c1_i32_520
  let v583 : BitVec 32 := Scalar.addi c0_i32_521 v582
  v583.toNat
def k0_dev53 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_546 : BitVec 32 := 1#32
  let v606 : BitVec 32 := Scalar.muli v14 c1_i32_546
  let v607 : BitVec 32 := Scalar.addi c0_i32_547 v606
  v607.toNat
def k0_dev54 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_554 : BitVec 32 := 1#32
  let v608 : BitVec 32 := Scalar.muli v25 c1_i32_554
  let v609 : BitVec 32 := Scalar.addi c0_i32_555 v608
  v609.toNat
def k0_dev55 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_580 : BitVec 32 := 1#32
  let v632 : BitVec 32 := Scalar.muli v25 c1_i32_580
  let v633 : BitVec 32 := Scalar.addi c0_i32_581 v632
  v633.toNat
def k0_dev56 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_588 : BitVec 32 := 1#32
  let v634 : BitVec 32 := Scalar.muli v14 c1_i32_588
  let v635 : BitVec 32 := Scalar.addi c0_i32_589 v634
  v635.toNat
def k0_dev57 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_668 : BitVec 32 := 1#32
  let v725 : BitVec 32 := Scalar.muli v14 c1_i32_668
  let v726 : BitVec 32 := Scalar.addi c0_i32_669 v725
  v726.toNat
def k0_dev58 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_676 : BitVec 32 := 1#32
  let v727 : BitVec 32 := Scalar.muli v25 c1_i32_676
  let v728 : BitVec 32 := Scalar.addi c0_i32_677 v727
  v728.toNat
def k0_dev59 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_702 : BitVec 32 := 1#32
  let v751 : BitVec 32 := Scalar.muli v25 c1_i32_702
  let v752 : BitVec 32 := Scalar.addi c0_i32_703 v751
  v752.toNat
def k0_dev60 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_710 : BitVec 32 := 1#32
  let v753 : BitVec 32 := Scalar.muli v14 c1_i32_710
  let v754 : BitVec 32 := Scalar.addi c0_i32_711 v753
  v754.toNat
def k0_dev61 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_736 : BitVec 32 := 1#32
  let v777 : BitVec 32 := Scalar.muli v14 c1_i32_736
  let v778 : BitVec 32 := Scalar.addi c0_i32_737 v777
  v778.toNat
def k0_dev62 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_744 : BitVec 32 := 1#32
  let v779 : BitVec 32 := Scalar.muli v25 c1_i32_744
  let v780 : BitVec 32 := Scalar.addi c0_i32_745 v779
  v780.toNat
def k0_dev63 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_770 : BitVec 32 := 1#32
  let v803 : BitVec 32 := Scalar.muli v25 c1_i32_770
  let v804 : BitVec 32 := Scalar.addi c0_i32_771 v803
  v804.toNat
def k0_dev64 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_778 : BitVec 32 := 1#32
  let v805 : BitVec 32 := Scalar.muli v14 c1_i32_778
  let v806 : BitVec 32 := Scalar.addi c0_i32_779 v805
  v806.toNat
def k0_dev65 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_859 : BitVec 32 := 1#32
  let v896 : BitVec 32 := Scalar.muli v14 c1_i32_859
  let v897 : BitVec 32 := Scalar.addi c0_i32_860 v896
  v897.toNat
def k0_dev66 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_867 : BitVec 32 := 1#32
  let v898 : BitVec 32 := Scalar.muli v25 c1_i32_867
  let v899 : BitVec 32 := Scalar.addi c0_i32_868 v898
  v899.toNat
def k0_dev67 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_893 : BitVec 32 := 1#32
  let v922 : BitVec 32 := Scalar.muli v25 c1_i32_893
  let v923 : BitVec 32 := Scalar.addi c0_i32_894 v922
  v923.toNat
def k0_dev68 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_901 : BitVec 32 := 1#32
  let v924 : BitVec 32 := Scalar.muli v14 c1_i32_901
  let v925 : BitVec 32 := Scalar.addi c0_i32_902 v924
  v925.toNat
def k0_dev69 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_927 : BitVec 32 := 1#32
  let v948 : BitVec 32 := Scalar.muli v14 c1_i32_927
  let v949 : BitVec 32 := Scalar.addi c0_i32_928 v948
  v949.toNat
def k0_dev70 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_935 : BitVec 32 := 1#32
  let v950 : BitVec 32 := Scalar.muli v25 c1_i32_935
  let v951 : BitVec 32 := Scalar.addi c0_i32_936 v950
  v951.toNat
def k0_dev71 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_961 : BitVec 32 := 1#32
  let v974 : BitVec 32 := Scalar.muli v25 c1_i32_961
  let v975 : BitVec 32 := Scalar.addi c0_i32_962 v974
  v975.toNat
def k0_dev72 (d0 : Dev nD) : Nat :=
  let c0_i32_970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_969 : BitVec 32 := 1#32
  let v976 : BitVec 32 := Scalar.muli v14 c1_i32_969
  let v977 : BitVec 32 := Scalar.addi c0_i32_970 v976
  v977.toNat
def k0_dev73 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1050 : BitVec 32 := 1#32
  let v1067 : BitVec 32 := Scalar.muli v14 c1_i32_1050
  let v1068 : BitVec 32 := Scalar.addi c0_i32_1051 v1067
  v1068.toNat
def k0_dev74 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1058 : BitVec 32 := 1#32
  let v1069 : BitVec 32 := Scalar.muli v25 c1_i32_1058
  let v1070 : BitVec 32 := Scalar.addi c0_i32_1059 v1069
  v1070.toNat
def k0_dev75 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1084 : BitVec 32 := 1#32
  let v1093 : BitVec 32 := Scalar.muli v25 c1_i32_1084
  let v1094 : BitVec 32 := Scalar.addi c0_i32_1085 v1093
  v1094.toNat
def k0_dev76 (d0 : Dev nD) : Nat :=
  let c0_i32_1093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1092 : BitVec 32 := 1#32
  let v1095 : BitVec 32 := Scalar.muli v14 c1_i32_1092
  let v1096 : BitVec 32 := Scalar.addi c0_i32_1093 v1095
  v1096.toNat
def k0_dev77 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1118 : BitVec 32 := 1#32
  let v1119 : BitVec 32 := Scalar.muli v14 c1_i32_1118
  let v1120 : BitVec 32 := Scalar.addi c0_i32_1119 v1119
  v1120.toNat
def k0_dev78 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1126 : BitVec 32 := 1#32
  let v1121 : BitVec 32 := Scalar.muli v25 c1_i32_1126
  let v1122 : BitVec 32 := Scalar.addi c0_i32_1127 v1121
  v1122.toNat
def k0_dev79 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1152 : BitVec 32 := 1#32
  let v1145 : BitVec 32 := Scalar.muli v25 c1_i32_1152
  let v1146 : BitVec 32 := Scalar.addi c0_i32_1153 v1145
  v1146.toNat
def k0_dev80 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1160 : BitVec 32 := 1#32
  let v1147 : BitVec 32 := Scalar.muli v14 c1_i32_1160
  let v1148 : BitVec 32 := Scalar.addi c0_i32_1161 v1147
  v1148.toNat
def k0_dev81 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1241 : BitVec 32 := 1#32
  let v1238 : BitVec 32 := Scalar.muli v14 c1_i32_1241
  let v1239 : BitVec 32 := Scalar.addi c0_i32_1242 v1238
  v1239.toNat
def k0_dev82 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1249 : BitVec 32 := 1#32
  let v1240 : BitVec 32 := Scalar.muli v25 c1_i32_1249
  let v1241 : BitVec 32 := Scalar.addi c0_i32_1250 v1240
  v1241.toNat
def k0_dev83 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1275 : BitVec 32 := 1#32
  let v1264 : BitVec 32 := Scalar.muli v25 c1_i32_1275
  let v1265 : BitVec 32 := Scalar.addi c0_i32_1276 v1264
  v1265.toNat
def k0_dev84 (d0 : Dev nD) : Nat :=
  let c0_i32_1284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1283 : BitVec 32 := 1#32
  let v1266 : BitVec 32 := Scalar.muli v14 c1_i32_1283
  let v1267 : BitVec 32 := Scalar.addi c0_i32_1284 v1266
  v1267.toNat
def k0_dev85 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1309 : BitVec 32 := 1#32
  let v1290 : BitVec 32 := Scalar.muli v14 c1_i32_1309
  let v1291 : BitVec 32 := Scalar.addi c0_i32_1310 v1290
  v1291.toNat
def k0_dev86 (d0 : Dev nD) : Nat :=
  let c0_i32_1318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1317 : BitVec 32 := 1#32
  let v1292 : BitVec 32 := Scalar.muli v25 c1_i32_1317
  let v1293 : BitVec 32 := Scalar.addi c0_i32_1318 v1292
  v1293.toNat
def k0_dev87 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1343 : BitVec 32 := 1#32
  let v1316 : BitVec 32 := Scalar.muli v25 c1_i32_1343
  let v1317 : BitVec 32 := Scalar.addi c0_i32_1344 v1316
  v1317.toNat
def k0_dev88 (d0 : Dev nD) : Nat :=
  let c0_i32_1352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1351 : BitVec 32 := 1#32
  let v1318 : BitVec 32 := Scalar.muli v14 c1_i32_1351
  let v1319 : BitVec 32 := Scalar.addi c0_i32_1352 v1318
  v1319.toNat
def k0_dev89 (d0 : Dev nD) : Nat :=
  let c0_i32_1433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1432 : BitVec 32 := 1#32
  let v1409 : BitVec 32 := Scalar.muli v14 c1_i32_1432
  let v1410 : BitVec 32 := Scalar.addi c0_i32_1433 v1409
  v1410.toNat
def k0_dev90 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1440 : BitVec 32 := 1#32
  let v1411 : BitVec 32 := Scalar.muli v25 c1_i32_1440
  let v1412 : BitVec 32 := Scalar.addi c0_i32_1441 v1411
  v1412.toNat
def k0_dev91 (d0 : Dev nD) : Nat :=
  let c0_i32_1467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1466 : BitVec 32 := 1#32
  let v1435 : BitVec 32 := Scalar.muli v25 c1_i32_1466
  let v1436 : BitVec 32 := Scalar.addi c0_i32_1467 v1435
  v1436.toNat
def k0_dev92 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1474 : BitVec 32 := 1#32
  let v1437 : BitVec 32 := Scalar.muli v14 c1_i32_1474
  let v1438 : BitVec 32 := Scalar.addi c0_i32_1475 v1437
  v1438.toNat
def k0_dev93 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1500 : BitVec 32 := 1#32
  let v1461 : BitVec 32 := Scalar.muli v14 c1_i32_1500
  let v1462 : BitVec 32 := Scalar.addi c0_i32_1501 v1461
  v1462.toNat
def k0_dev94 (d0 : Dev nD) : Nat :=
  let c0_i32_1509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1508 : BitVec 32 := 1#32
  let v1463 : BitVec 32 := Scalar.muli v25 c1_i32_1508
  let v1464 : BitVec 32 := Scalar.addi c0_i32_1509 v1463
  v1464.toNat
def k0_dev95 (d0 : Dev nD) : Nat :=
  let c0_i32_1535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1534 : BitVec 32 := 1#32
  let v1487 : BitVec 32 := Scalar.muli v25 c1_i32_1534
  let v1488 : BitVec 32 := Scalar.addi c0_i32_1535 v1487
  v1488.toNat
def k0_dev96 (d0 : Dev nD) : Nat :=
  let c0_i32_1543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1542 : BitVec 32 := 1#32
  let v1489 : BitVec 32 := Scalar.muli v14 c1_i32_1542
  let v1490 : BitVec 32 := Scalar.addi c0_i32_1543 v1489
  v1490.toNat
def k0_dev97 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1623 : BitVec 32 := 1#32
  let v1580 : BitVec 32 := Scalar.muli v14 c1_i32_1623
  let v1581 : BitVec 32 := Scalar.addi c0_i32_1624 v1580
  v1581.toNat
def k0_dev98 (d0 : Dev nD) : Nat :=
  let c0_i32_1632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1631 : BitVec 32 := 1#32
  let v1582 : BitVec 32 := Scalar.muli v25 c1_i32_1631
  let v1583 : BitVec 32 := Scalar.addi c0_i32_1632 v1582
  v1583.toNat
def k0_dev99 (d0 : Dev nD) : Nat :=
  let c0_i32_1658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1657 : BitVec 32 := 1#32
  let v1606 : BitVec 32 := Scalar.muli v25 c1_i32_1657
  let v1607 : BitVec 32 := Scalar.addi c0_i32_1658 v1606
  v1607.toNat
def k0_dev100 (d0 : Dev nD) : Nat :=
  let c0_i32_1666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1665 : BitVec 32 := 1#32
  let v1608 : BitVec 32 := Scalar.muli v14 c1_i32_1665
  let v1609 : BitVec 32 := Scalar.addi c0_i32_1666 v1608
  v1609.toNat
def k0_dev101 (d0 : Dev nD) : Nat :=
  let c0_i32_1692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1691 : BitVec 32 := 1#32
  let v1632 : BitVec 32 := Scalar.muli v14 c1_i32_1691
  let v1633 : BitVec 32 := Scalar.addi c0_i32_1692 v1632
  v1633.toNat
def k0_dev102 (d0 : Dev nD) : Nat :=
  let c0_i32_1700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1699 : BitVec 32 := 1#32
  let v1634 : BitVec 32 := Scalar.muli v25 c1_i32_1699
  let v1635 : BitVec 32 := Scalar.addi c0_i32_1700 v1634
  v1635.toNat
def k0_dev103 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1725 : BitVec 32 := 1#32
  let v1658 : BitVec 32 := Scalar.muli v25 c1_i32_1725
  let v1659 : BitVec 32 := Scalar.addi c0_i32_1726 v1658
  v1659.toNat
def k0_dev104 (d0 : Dev nD) : Nat :=
  let c0_i32_1734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1733 : BitVec 32 := 1#32
  let v1660 : BitVec 32 := Scalar.muli v14 c1_i32_1733
  let v1661 : BitVec 32 := Scalar.addi c0_i32_1734 v1660
  v1661.toNat
def k0_dev105 (d0 : Dev nD) : Nat :=
  let c0_i32_1815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1814 : BitVec 32 := 1#32
  let v1751 : BitVec 32 := Scalar.muli v14 c1_i32_1814
  let v1752 : BitVec 32 := Scalar.addi c0_i32_1815 v1751
  v1752.toNat
def k0_dev106 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1822 : BitVec 32 := 1#32
  let v1753 : BitVec 32 := Scalar.muli v25 c1_i32_1822
  let v1754 : BitVec 32 := Scalar.addi c0_i32_1823 v1753
  v1754.toNat
def k0_dev107 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1848 : BitVec 32 := 1#32
  let v1777 : BitVec 32 := Scalar.muli v25 c1_i32_1848
  let v1778 : BitVec 32 := Scalar.addi c0_i32_1849 v1777
  v1778.toNat
def k0_dev108 (d0 : Dev nD) : Nat :=
  let c0_i32_1857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1856 : BitVec 32 := 1#32
  let v1779 : BitVec 32 := Scalar.muli v14 c1_i32_1856
  let v1780 : BitVec 32 := Scalar.addi c0_i32_1857 v1779
  v1780.toNat
def k0_dev109 (d0 : Dev nD) : Nat :=
  let c0_i32_1883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1882 : BitVec 32 := 1#32
  let v1803 : BitVec 32 := Scalar.muli v14 c1_i32_1882
  let v1804 : BitVec 32 := Scalar.addi c0_i32_1883 v1803
  v1804.toNat
def k0_dev110 (d0 : Dev nD) : Nat :=
  let c0_i32_1891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1890 : BitVec 32 := 1#32
  let v1805 : BitVec 32 := Scalar.muli v25 c1_i32_1890
  let v1806 : BitVec 32 := Scalar.addi c0_i32_1891 v1805
  v1806.toNat
def k0_dev111 (d0 : Dev nD) : Nat :=
  let c0_i32_1917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1916 : BitVec 32 := 1#32
  let v1829 : BitVec 32 := Scalar.muli v25 c1_i32_1916
  let v1830 : BitVec 32 := Scalar.addi c0_i32_1917 v1829
  v1830.toNat
def k0_dev112 (d0 : Dev nD) : Nat :=
  let c0_i32_1925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1924 : BitVec 32 := 1#32
  let v1831 : BitVec 32 := Scalar.muli v14 c1_i32_1924
  let v1832 : BitVec 32 := Scalar.addi c0_i32_1925 v1831
  v1832.toNat
def k0_dev113 (d0 : Dev nD) : Nat :=
  let c0_i32_2006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2005 : BitVec 32 := 1#32
  let v1922 : BitVec 32 := Scalar.muli v14 c1_i32_2005
  let v1923 : BitVec 32 := Scalar.addi c0_i32_2006 v1922
  v1923.toNat
def k0_dev114 (d0 : Dev nD) : Nat :=
  let c0_i32_2014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2013 : BitVec 32 := 1#32
  let v1924 : BitVec 32 := Scalar.muli v25 c1_i32_2013
  let v1925 : BitVec 32 := Scalar.addi c0_i32_2014 v1924
  v1925.toNat
def k0_dev115 (d0 : Dev nD) : Nat :=
  let c0_i32_2040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2039 : BitVec 32 := 1#32
  let v1948 : BitVec 32 := Scalar.muli v25 c1_i32_2039
  let v1949 : BitVec 32 := Scalar.addi c0_i32_2040 v1948
  v1949.toNat
def k0_dev116 (d0 : Dev nD) : Nat :=
  let c0_i32_2048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2047 : BitVec 32 := 1#32
  let v1950 : BitVec 32 := Scalar.muli v14 c1_i32_2047
  let v1951 : BitVec 32 := Scalar.addi c0_i32_2048 v1950
  v1951.toNat
def k0_dev117 (d0 : Dev nD) : Nat :=
  let c0_i32_2074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2073 : BitVec 32 := 1#32
  let v1974 : BitVec 32 := Scalar.muli v14 c1_i32_2073
  let v1975 : BitVec 32 := Scalar.addi c0_i32_2074 v1974
  v1975.toNat
def k0_dev118 (d0 : Dev nD) : Nat :=
  let c0_i32_2082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2081 : BitVec 32 := 1#32
  let v1976 : BitVec 32 := Scalar.muli v25 c1_i32_2081
  let v1977 : BitVec 32 := Scalar.addi c0_i32_2082 v1976
  v1977.toNat
def k0_dev119 (d0 : Dev nD) : Nat :=
  let c0_i32_2108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2107 : BitVec 32 := 1#32
  let v2000 : BitVec 32 := Scalar.muli v25 c1_i32_2107
  let v2001 : BitVec 32 := Scalar.addi c0_i32_2108 v2000
  v2001.toNat
def k0_dev120 (d0 : Dev nD) : Nat :=
  let c0_i32_2116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2115 : BitVec 32 := 1#32
  let v2002 : BitVec 32 := Scalar.muli v14 c1_i32_2115
  let v2003 : BitVec 32 := Scalar.addi c0_i32_2116 v2002
  v2003.toNat
def k0_dev121 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2196 : BitVec 32 := 1#32
  let v2093 : BitVec 32 := Scalar.muli v14 c1_i32_2196
  let v2094 : BitVec 32 := Scalar.addi c0_i32_2197 v2093
  v2094.toNat
def k0_dev122 (d0 : Dev nD) : Nat :=
  let c0_i32_2205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2204 : BitVec 32 := 1#32
  let v2095 : BitVec 32 := Scalar.muli v25 c1_i32_2204
  let v2096 : BitVec 32 := Scalar.addi c0_i32_2205 v2095
  v2096.toNat
def k0_dev123 (d0 : Dev nD) : Nat :=
  let c0_i32_2231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2230 : BitVec 32 := 1#32
  let v2119 : BitVec 32 := Scalar.muli v25 c1_i32_2230
  let v2120 : BitVec 32 := Scalar.addi c0_i32_2231 v2119
  v2120.toNat
def k0_dev124 (d0 : Dev nD) : Nat :=
  let c0_i32_2239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2238 : BitVec 32 := 1#32
  let v2121 : BitVec 32 := Scalar.muli v14 c1_i32_2238
  let v2122 : BitVec 32 := Scalar.addi c0_i32_2239 v2121
  v2122.toNat
def k0_dev125 (d0 : Dev nD) : Nat :=
  let c0_i32_2265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2264 : BitVec 32 := 1#32
  let v2145 : BitVec 32 := Scalar.muli v14 c1_i32_2264
  let v2146 : BitVec 32 := Scalar.addi c0_i32_2265 v2145
  v2146.toNat
def k0_dev126 (d0 : Dev nD) : Nat :=
  let c0_i32_2273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2272 : BitVec 32 := 1#32
  let v2147 : BitVec 32 := Scalar.muli v25 c1_i32_2272
  let v2148 : BitVec 32 := Scalar.addi c0_i32_2273 v2147
  v2148.toNat
def k0_dev127 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2298 : BitVec 32 := 1#32
  let v2171 : BitVec 32 := Scalar.muli v25 c1_i32_2298
  let v2172 : BitVec 32 := Scalar.addi c0_i32_2299 v2171
  v2172.toNat
def k0_dev128 (d0 : Dev nD) : Nat :=
  let c0_i32_2307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2306 : BitVec 32 := 1#32
  let v2173 : BitVec 32 := Scalar.muli v14 c1_i32_2306
  let v2174 : BitVec 32 := Scalar.addi c0_i32_2307 v2173
  v2174.toNat
def k0_dev129 (d0 : Dev nD) : Nat :=
  let c0_i32_2388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2387 : BitVec 32 := 1#32
  let v2264 : BitVec 32 := Scalar.muli v14 c1_i32_2387
  let v2265 : BitVec 32 := Scalar.addi c0_i32_2388 v2264
  v2265.toNat
def k0_dev130 (d0 : Dev nD) : Nat :=
  let c0_i32_2396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2395 : BitVec 32 := 1#32
  let v2266 : BitVec 32 := Scalar.muli v25 c1_i32_2395
  let v2267 : BitVec 32 := Scalar.addi c0_i32_2396 v2266
  v2267.toNat
def k0_dev131 (d0 : Dev nD) : Nat :=
  let c0_i32_2422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2421 : BitVec 32 := 1#32
  let v2290 : BitVec 32 := Scalar.muli v25 c1_i32_2421
  let v2291 : BitVec 32 := Scalar.addi c0_i32_2422 v2290
  v2291.toNat
def k0_dev132 (d0 : Dev nD) : Nat :=
  let c0_i32_2430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2429 : BitVec 32 := 1#32
  let v2292 : BitVec 32 := Scalar.muli v14 c1_i32_2429
  let v2293 : BitVec 32 := Scalar.addi c0_i32_2430 v2292
  v2293.toNat
def k0_dev133 (d0 : Dev nD) : Nat :=
  let c0_i32_2456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2455 : BitVec 32 := 1#32
  let v2316 : BitVec 32 := Scalar.muli v14 c1_i32_2455
  let v2317 : BitVec 32 := Scalar.addi c0_i32_2456 v2316
  v2317.toNat
def k0_dev134 (d0 : Dev nD) : Nat :=
  let c0_i32_2464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2463 : BitVec 32 := 1#32
  let v2318 : BitVec 32 := Scalar.muli v25 c1_i32_2463
  let v2319 : BitVec 32 := Scalar.addi c0_i32_2464 v2318
  v2319.toNat
def k0_dev135 (d0 : Dev nD) : Nat :=
  let c0_i32_2490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2489 : BitVec 32 := 1#32
  let v2342 : BitVec 32 := Scalar.muli v25 c1_i32_2489
  let v2343 : BitVec 32 := Scalar.addi c0_i32_2490 v2342
  v2343.toNat
def k0_dev136 (d0 : Dev nD) : Nat :=
  let c0_i32_2498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2497 : BitVec 32 := 1#32
  let v2344 : BitVec 32 := Scalar.muli v14 c1_i32_2497
  let v2345 : BitVec 32 := Scalar.addi c0_i32_2498 v2344
  v2345.toNat
def k0_dev137 (d0 : Dev nD) : Nat :=
  let c0_i32_2584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2583 : BitVec 32 := 1#32
  let v2435 : BitVec 32 := Scalar.muli v25 c1_i32_2583
  let v2436 : BitVec 32 := Scalar.addi c0_i32_2584 v2435
  v2436.toNat
def k0_dev138 (d0 : Dev nD) : Nat :=
  let c0_i32_2615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2614 : BitVec 32 := 1#32
  let v2459 : BitVec 32 := Scalar.muli v14 c1_i32_2614
  let v2460 : BitVec 32 := Scalar.addi c0_i32_2615 v2459
  v2460.toNat
def k0_dev139 (d0 : Dev nD) : Nat :=
  let c0_i32_2646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2645 : BitVec 32 := 1#32
  let v2483 : BitVec 32 := Scalar.muli v25 c1_i32_2645
  let v2484 : BitVec 32 := Scalar.addi c0_i32_2646 v2483
  v2484.toNat
def k0_dev140 (d0 : Dev nD) : Nat :=
  let c0_i32_2677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2676 : BitVec 32 := 1#32
  let v2507 : BitVec 32 := Scalar.muli v14 c1_i32_2676
  let v2508 : BitVec 32 := Scalar.addi c0_i32_2677 v2507
  v2508.toNat
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2782 : Index := Scalar.indexCast v2
  let c0_2935 : Index := 0#32
  ![v2782.toNat, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2936 : BitVec 32 := 0#32
  let v2786 : BitVec 1 := Scalar.cmpi .ne v2 c0_i32_2936
  let v2787 : BitVec 32 := Scalar.extui v2786
  let c0_i32_2937 : BitVec 32 := 0#32
  let v2788 : BitVec 1 := Scalar.cmpi .ne v2787 c0_i32_2937
  v2788

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev141 : Nat :=
  let c0_i32_3012 : BitVec 32 := 0#32
  let c0_i32_3010 : BitVec 32 := 0#32
  let c1_i32_3011 : BitVec 32 := 1#32
  let v2897 : BitVec 32 := Scalar.muli c0_i32_3010 c1_i32_3011
  let v2898 : BitVec 32 := Scalar.addi c0_i32_3012 v2897
  v2898.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2938 : BitVec 32 := 1#32
  let v2789 : BitVec 1 := Scalar.cmpi .ne v2 c1_i32_2938
  let v2790 : BitVec 32 := Scalar.extui v2789
  let c0_i32_2939 : BitVec 32 := 0#32
  let v2791 : BitVec 1 := Scalar.cmpi .ne v2790 c0_i32_2939
  v2791

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev142 : Nat :=
  let c0_i32_3012 : BitVec 32 := 0#32
  let c1_i32_3010 : BitVec 32 := 1#32
  let c1_i32_3011 : BitVec 32 := 1#32
  let v2897 : BitVec 32 := Scalar.muli c1_i32_3010 c1_i32_3011
  let v2898 : BitVec 32 := Scalar.addi c0_i32_3012 v2897
  v2898.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2940 : BitVec 32 := 2#32
  let v2792 : BitVec 1 := Scalar.cmpi .ne v2 c2_i32_2940
  let v2793 : BitVec 32 := Scalar.extui v2792
  let c0_i32_2941 : BitVec 32 := 0#32
  let v2794 : BitVec 1 := Scalar.cmpi .ne v2793 c0_i32_2941
  v2794

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev143 : Nat :=
  let c0_i32_3012 : BitVec 32 := 0#32
  let c2_i32_3010 : BitVec 32 := 2#32
  let c1_i32_3011 : BitVec 32 := 1#32
  let v2897 : BitVec 32 := Scalar.muli c2_i32_3010 c1_i32_3011
  let v2898 : BitVec 32 := Scalar.addi c0_i32_3012 v2897
  v2898.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2942 : BitVec 32 := 3#32
  let v2795 : BitVec 1 := Scalar.cmpi .ne v2 c3_i32_2942
  let v2796 : BitVec 32 := Scalar.extui v2795
  let c0_i32_2943 : BitVec 32 := 0#32
  let v2797 : BitVec 1 := Scalar.cmpi .ne v2796 c0_i32_2943
  v2797

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev144 : Nat :=
  let c0_i32_3012 : BitVec 32 := 0#32
  let c3_i32_3010 : BitVec 32 := 3#32
  let c1_i32_3011 : BitVec 32 := 1#32
  let v2897 : BitVec 32 := Scalar.muli c3_i32_3010 c1_i32_3011
  let v2898 : BitVec 32 := Scalar.addi c0_i32_3012 v2897
  v2898.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2944 : BitVec 32 := 4#32
  let v2798 : BitVec 1 := Scalar.cmpi .ne v2 c4_i32_2944
  let v2799 : BitVec 32 := Scalar.extui v2798
  let c0_i32_2945 : BitVec 32 := 0#32
  let v2800 : BitVec 1 := Scalar.cmpi .ne v2799 c0_i32_2945
  v2800

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev145 : Nat :=
  let c0_i32_3012 : BitVec 32 := 0#32
  let c4_i32_3010 : BitVec 32 := 4#32
  let c1_i32_3011 : BitVec 32 := 1#32
  let v2897 : BitVec 32 := Scalar.muli c4_i32_3010 c1_i32_3011
  let v2898 : BitVec 32 := Scalar.addi c0_i32_3012 v2897
  v2898.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2946 : BitVec 32 := 5#32
  let v2801 : BitVec 1 := Scalar.cmpi .ne v2 c5_i32_2946
  let v2802 : BitVec 32 := Scalar.extui v2801
  let c0_i32_2947 : BitVec 32 := 0#32
  let v2803 : BitVec 1 := Scalar.cmpi .ne v2802 c0_i32_2947
  v2803

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev146 : Nat :=
  let c0_i32_3012 : BitVec 32 := 0#32
  let c5_i32_3010 : BitVec 32 := 5#32
  let c1_i32_3011 : BitVec 32 := 1#32
  let v2897 : BitVec 32 := Scalar.muli c5_i32_3010 c1_i32_3011
  let v2898 : BitVec 32 := Scalar.addi c0_i32_3012 v2897
  v2898.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2948 : BitVec 32 := 6#32
  let v2804 : BitVec 1 := Scalar.cmpi .ne v2 c6_i32_2948
  let v2805 : BitVec 32 := Scalar.extui v2804
  let c0_i32_2949 : BitVec 32 := 0#32
  let v2806 : BitVec 1 := Scalar.cmpi .ne v2805 c0_i32_2949
  v2806

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev147 : Nat :=
  let c0_i32_3012 : BitVec 32 := 0#32
  let c6_i32_3010 : BitVec 32 := 6#32
  let c1_i32_3011 : BitVec 32 := 1#32
  let v2897 : BitVec 32 := Scalar.muli c6_i32_3010 c1_i32_3011
  let v2898 : BitVec 32 := Scalar.addi c0_i32_3012 v2897
  v2898.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2950 : BitVec 32 := 7#32
  let v2807 : BitVec 1 := Scalar.cmpi .ne v2 c7_i32_2950
  let v2808 : BitVec 32 := Scalar.extui v2807
  let c0_i32_2951 : BitVec 32 := 0#32
  let v2809 : BitVec 1 := Scalar.cmpi .ne v2808 c0_i32_2951
  v2809

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev148 : Nat :=
  let c0_i32_3012 : BitVec 32 := 0#32
  let c7_i32_3010 : BitVec 32 := 7#32
  let c1_i32_3011 : BitVec 32 := 1#32
  let v2897 : BitVec 32 := Scalar.muli c7_i32_3010 c1_i32_3011
  let v2898 : BitVec 32 := Scalar.addi c0_i32_3012 v2897
  v2898.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2952 : BitVec 32 := 8#32
  let v2810 : BitVec 1 := Scalar.cmpi .ne v2 c8_i32_2952
  let v2811 : BitVec 32 := Scalar.extui v2810
  let c0_i32_2953 : BitVec 32 := 0#32
  let v2812 : BitVec 1 := Scalar.cmpi .ne v2811 c0_i32_2953
  v2812

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev149 : Nat :=
  let c0_i32_3012 : BitVec 32 := 0#32
  let c8_i32_3010 : BitVec 32 := 8#32
  let c1_i32_3011 : BitVec 32 := 1#32
  let v2897 : BitVec 32 := Scalar.muli c8_i32_3010 c1_i32_3011
  let v2898 : BitVec 32 := Scalar.addi c0_i32_3012 v2897
  v2898.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2954 : BitVec 32 := 9#32
  let v2813 : BitVec 1 := Scalar.cmpi .ne v2 c9_i32_2954
  let v2814 : BitVec 32 := Scalar.extui v2813
  let c0_i32_2955 : BitVec 32 := 0#32
  let v2815 : BitVec 1 := Scalar.cmpi .ne v2814 c0_i32_2955
  v2815

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev150 : Nat :=
  let c0_i32_3012 : BitVec 32 := 0#32
  let c9_i32_3010 : BitVec 32 := 9#32
  let c1_i32_3011 : BitVec 32 := 1#32
  let v2897 : BitVec 32 := Scalar.muli c9_i32_3010 c1_i32_3011
  let v2898 : BitVec 32 := Scalar.addi c0_i32_3012 v2897
  v2898.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2956 : BitVec 32 := 10#32
  let v2816 : BitVec 1 := Scalar.cmpi .ne v2 c10_i32_2956
  let v2817 : BitVec 32 := Scalar.extui v2816
  let c0_i32_2957 : BitVec 32 := 0#32
  let v2818 : BitVec 1 := Scalar.cmpi .ne v2817 c0_i32_2957
  v2818

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev151 : Nat :=
  let c0_i32_3012 : BitVec 32 := 0#32
  let c10_i32_3010 : BitVec 32 := 10#32
  let c1_i32_3011 : BitVec 32 := 1#32
  let v2897 : BitVec 32 := Scalar.muli c10_i32_3010 c1_i32_3011
  let v2898 : BitVec 32 := Scalar.addi c0_i32_3012 v2897
  v2898.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2958 : BitVec 32 := 11#32
  let v2819 : BitVec 1 := Scalar.cmpi .ne v2 c11_i32_2958
  let v2820 : BitVec 32 := Scalar.extui v2819
  let c0_i32_2959 : BitVec 32 := 0#32
  let v2821 : BitVec 1 := Scalar.cmpi .ne v2820 c0_i32_2959
  v2821

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev152 : Nat :=
  let c0_i32_3012 : BitVec 32 := 0#32
  let c11_i32_3010 : BitVec 32 := 11#32
  let c1_i32_3011 : BitVec 32 := 1#32
  let v2897 : BitVec 32 := Scalar.muli c11_i32_3010 c1_i32_3011
  let v2898 : BitVec 32 := Scalar.addi c0_i32_3012 v2897
  v2898.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2960 : BitVec 32 := 12#32
  let v2822 : BitVec 1 := Scalar.cmpi .ne v2 c12_i32_2960
  let v2823 : BitVec 32 := Scalar.extui v2822
  let c0_i32_2961 : BitVec 32 := 0#32
  let v2824 : BitVec 1 := Scalar.cmpi .ne v2823 c0_i32_2961
  v2824

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev153 : Nat :=
  let c0_i32_3012 : BitVec 32 := 0#32
  let c12_i32_3010 : BitVec 32 := 12#32
  let c1_i32_3011 : BitVec 32 := 1#32
  let v2897 : BitVec 32 := Scalar.muli c12_i32_3010 c1_i32_3011
  let v2898 : BitVec 32 := Scalar.addi c0_i32_3012 v2897
  v2898.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2962 : BitVec 32 := 13#32
  let v2825 : BitVec 1 := Scalar.cmpi .ne v2 c13_i32_2962
  let v2826 : BitVec 32 := Scalar.extui v2825
  let c0_i32_2963 : BitVec 32 := 0#32
  let v2827 : BitVec 1 := Scalar.cmpi .ne v2826 c0_i32_2963
  v2827

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev154 : Nat :=
  let c0_i32_3012 : BitVec 32 := 0#32
  let c13_i32_3010 : BitVec 32 := 13#32
  let c1_i32_3011 : BitVec 32 := 1#32
  let v2897 : BitVec 32 := Scalar.muli c13_i32_3010 c1_i32_3011
  let v2898 : BitVec 32 := Scalar.addi c0_i32_3012 v2897
  v2898.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2964 : BitVec 32 := 14#32
  let v2828 : BitVec 1 := Scalar.cmpi .ne v2 c14_i32_2964
  let v2829 : BitVec 32 := Scalar.extui v2828
  let c0_i32_2965 : BitVec 32 := 0#32
  let v2830 : BitVec 1 := Scalar.cmpi .ne v2829 c0_i32_2965
  v2830

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev155 : Nat :=
  let c0_i32_3012 : BitVec 32 := 0#32
  let c14_i32_3010 : BitVec 32 := 14#32
  let c1_i32_3011 : BitVec 32 := 1#32
  let v2897 : BitVec 32 := Scalar.muli c14_i32_3010 c1_i32_3011
  let v2898 : BitVec 32 := Scalar.addi c0_i32_3012 v2897
  v2898.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2966 : BitVec 32 := 15#32
  let v2831 : BitVec 1 := Scalar.cmpi .ne v2 c15_i32_2966
  let v2832 : BitVec 32 := Scalar.extui v2831
  let c0_i32_2967 : BitVec 32 := 0#32
  let v2833 : BitVec 1 := Scalar.cmpi .ne v2832 c0_i32_2967
  v2833

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3013 : BitVec 32 := 0#32
  ![v2.toNat, 0]
def k0_dev156 : Nat :=
  let c0_i32_3012 : BitVec 32 := 0#32
  let c15_i32_3010 : BitVec 32 := 15#32
  let c1_i32_3011 : BitVec 32 := 1#32
  let v2897 : BitVec 32 := Scalar.muli c15_i32_3010 c1_i32_3011
  let v2898 : BitVec 32 := Scalar.addi c0_i32_3012 v2897
  v2898.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv448" => some ((448⁻¹ : ℝ) : EReal)
  | _ => none
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 6
  | .vmem => 2
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Prog.lean ====
/-
  The kernel's body as a program of steps over generic stations: which device, which stream, which hop. The printed
  body is that program, step by step (`body_eq`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic.ProgEq

@[expose] public section

noncomputable section

namespace Cert.KernelIdeal.Pf

open Idealize.ShloMosaic Idealize.ShloMosaic.TcCoe
open Idealize.SL.Sem
open Cert.KernelIdeal Cert.KernelIdeal.Gen

variable {F : FTy → Type} [FloatOps F] [Named F]

/-- Programs of the kernel's core. -/
abbrev Pg (F : FTy → Type) (α : Type) : Type _ := Prog (TpuEff nD τ sig (Elt F) Λ₀ .tc) α

/-! ## Buffers -/

abbrev xI : Memref sig .tc .vmem S4096x256 .bf16 := Memref.whole cc0_stg0_0
abbrev wI : Memref sig .tc .vmem S256x8192 .bf16 := Memref.whole cc0_stg1_0
abbrev oO : Memref sig .tc .vmem S256x8192 .f32 := Memref.whole cc0_stg2_0
abbrev xB : Memref sig .tc .vmem S4096x256 .bf16 := Memref.whole cc0_scratch0
abbrev xR : Memref sig .tc .vmem S256x4096 .bf16 := Memref.whole cc0_scratch1
abbrev wB : Memref sig .tc .vmem S256x8192 .bf16 := Memref.whole cc0_scratch2
abbrev yB : Memref sig .tc .vmem S256x8192 .f32 := Memref.whole cc0_scratch7
abbrev aB : Memref sig .tc .vmem S16x128 .f32 := Memref.whole cc0_scratch8
/-- The landing buffer of a stream's scratch reference. -/
abbrev bufRef : Fin 4 → Ref sig .tc
  | 0 => cc0_scratch3
  | 1 => cc0_scratch4
  | 2 => cc0_scratch5
  | 3 => cc0_scratch6
/-- The landing buffer of a stream. -/
abbrev bufM : Fin 4 → Memref sig .tc .vmem S3x256x2048 .bf16
  | 0 => Memref.whole cc0_scratch3
  | 1 => Memref.whole cc0_scratch4
  | 2 => Memref.whole cc0_scratch5
  | 3 => Memref.whole cc0_scratch6
theorem bufM_whole (k : Fin 4) : (bufM k).IsWhole := by
  fin_cases k <;> exact Memref.isWhole_whole _

theorem slot_inb : ∀ (s : Fin 3) (a : Fin 3), (![s.val, 0, 0] : Fin 3 → Nat) a + S1x256x2048.size a ≤ S3x256x2048.size a := by decide
theorem slot_words : ∀ s : Fin 3, (Rect.unit (s := S3x256x2048) ![s.val, 0, 0] S1x256x2048.size (slot_inb s)).WholeWords (EltTy.packing .bf16) := by decide
theorem strip_inb : ∀ (k : Fin 4) (a : Fin 2), (![0, 2048 * k.val] : Fin 2 → Nat) a + S256x2048.size a ≤ S256x8192.size a := by decide
theorem strip_words : ∀ k : Fin 4, (Rect.unit (s := S256x8192) ![0, 2048 * k.val] S256x2048.size (strip_inb k)).WholeWords (EltTy.packing .bf16) := by decide
theorem row_inb : ∀ (q : Fin 16) (a : Fin 2), (![256 * q.val, 0] : Fin 2 → Nat) a + S256x256.size a ≤ S4096x256.size a := by decide
theorem row_words : ∀ q : Fin 16, (Rect.unit (s := S4096x256) ![256 * q.val, 0] S256x256.size (row_inb q)).WholeWords (EltTy.packing .bf16) := by decide
theorem col_inb : ∀ (q : Fin 16) (a : Fin 2), (![0, 256 * q.val] : Fin 2 → Nat) a + S256x256.size a ≤ S256x4096.size a := by decide
theorem col_words : ∀ q : Fin 16, (Rect.unit (s := S256x4096) ![0, 256 * q.val] S256x256.size (col_inb q)).WholeWords (EltTy.packing .bf16) := by decide
theorem arow_inb : ∀ (q : Fin 16) (a : Fin 2), (![q.val, 0] : Fin 2 → Nat) a + S1x128.size a ≤ S16x128.size a := by decide
theorem s16_inb : ∀ (q : Fin 16) (a : Fin 1), (![q.val] : Fin 1 → Nat) a + S1.size a ≤ S16.size a := by decide
theorem s4_inb : ∀ (q : Fin 4) (a : Fin 1), (![q.val] : Fin 1 → Nat) a + S1.size a ≤ S4.size a := by decide
theorem s3_inb : ∀ (q : Fin 3) (a : Fin 1), (![q.val] : Fin 1 → Nat) a + S1.size a ≤ S3.size a := by decide

theorem off1_inb (d0 : Dev nD) : ∀ a, (k0_off1 d0) a + S1.size a ≤ S16.size a := by
  rw [k0_off1_eq]; exact s16_inb d0
theorem off2_inb (d0 : Dev nD) : ∀ a, (k0_off2 d0) a + S256x256.size a ≤ S256x4096.size a := by
  rw [k0_off2_eq]; exact col_inb d0
theorem off2_words (d0 : Dev nD) : (Rect.unit (s := S256x4096) (k0_off2 d0) S256x256.size (off2_inb d0)).WholeWords (EltTy.packing .bf16) := by
  simp only [k0_off2_eq]; exact col_words d0
theorem off39_inb (d0 : Dev nD) : ∀ a, (k0_off39 d0) a + S1x128.size a ≤ S16x128.size a := by
  rw [k0_off39_eq]; exact arow_inb d0

/-- Slot `s` of stream `k`'s landing buffer. -/
abbrev slotM (k : Fin 4) (s : Fin 3) : Memref sig .tc .vmem S256x2048 .bf16 :=
  ((bufM k).slice (Rect.unit (s := S3x256x2048) ![s.val, 0, 0] S1x256x2048.size (slot_inb s)) (fun _ => rfl)).squeeze S256x2048 squeezes_S1x256x2048_S256x2048
/-- Stream `k`'s column strip of the weight block. -/
abbrev wStrip (k : Fin 4) : Memref sig .tc .vmem S256x2048 .bf16 :=
  wB.slice (Rect.unit (s := S256x8192) ![0, 2048 * k.val] S256x2048.size (strip_inb k)) (fun _ => rfl)
/-- Row block `q` of the input columns. -/
abbrev xRow (q : Fin 16) : Memref sig .tc .vmem S256x256 .bf16 :=
  xB.slice (Rect.unit (s := S4096x256) ![256 * q.val, 0] S256x256.size (row_inb q)) (fun _ => rfl)
/-- Column block `q` of the assembled input rows. -/
abbrev xCol (q : Fin 16) : Memref sig .tc .vmem S256x256 .bf16 :=
  xR.slice (Rect.unit (s := S256x4096) ![0, 256 * q.val] S256x256.size (col_inb q)) (fun _ => rfl)
/-- The column block that the printed offset names. -/
abbrev xColAt (d0 : Dev nD) : Memref sig .tc .vmem S256x256 .bf16 :=
  xR.slice (Rect.unit (s := S256x4096) (k0_off2 d0) S256x256.size (off2_inb d0)) (fun _ => rfl)
/-- Row `q` of the table of maxima. -/
abbrev aRow (q : Fin 16) : Memref sig .tc .vmem S1x128 .f32 :=
  aB.slice (Rect.unit (s := S16x128) ![q.val, 0] S1x128.size (arow_inb q)) (fun _ => rfl)
/-- The row that the printed offset names. -/
abbrev aRowAt (d0 : Dev nD) : Memref sig .tc .vmem S1x128 .f32 :=
  aB.slice (Rect.unit (s := S16x128) (k0_off39 d0) S1x128.size (off39_inb d0)) (fun _ => rfl)

/-! ## Semaphores -/

abbrev at16 (A : DmaSems sig S16) (q : Fin 16) : DmaSem sig :=
  ((A.slice (Rect.unit (s := S16) ![q.val] S1.size (s16_inb q))).squeeze S_ squeezes_S1_S_).sem
abbrev at16' (A : DmaSems sig S16) (d0 : Dev nD) : DmaSem sig :=
  ((A.slice (Rect.unit (s := S16) (k0_off1 d0) S1.size (off1_inb d0))).squeeze S_ squeezes_S1_S_).sem
abbrev at4 (A : DmaSems sig S4) (q : Fin 4) : DmaSem sig :=
  ((A.slice (Rect.unit (s := S4) ![q.val] S1.size (s4_inb q))).squeeze S_ squeezes_S1_S_).sem
abbrev at3 (A : DmaSems sig S3) (q : Fin 3) : DmaSem sig :=
  ((A.slice (Rect.unit (s := S3) ![q.val] S1.size (s3_inb q))).squeeze S_ squeezes_S1_S_).sem
abbrev recvA : Fin 4 → DmaSems sig S3
  | 0 => cc0_scratch13
  | 1 => cc0_scratch14
  | 2 => cc0_scratch15
  | 3 => cc0_scratch16
abbrev credA : Fin 4 → Sems sig S_
  | 0 => cc0_scratch19
  | 1 => cc0_scratch20
  | 2 => cc0_scratch21
  | 3 => cc0_scratch22
abbrev barS : Sem sig := (SemArray.scalar (sig.barrier 0 rfl) : Sems sig S_).sem

/-! ## Devices and conditions, as printed -/

abbrev rightD (d0 : Dev nD) : Dev nD := ⟨k0_dev17 d0, k0_dev17_lt d0⟩
abbrev leftD (d0 : Dev nD) : Dev nD := ⟨k0_dev19 d0, k0_dev19_lt d0⟩
/-- Where stream `k` sends to. -/
abbrev peer : Fin 4 → Dev nD → Dev nD
  | 0 => rightD
  | 1 => rightD
  | 2 => leftD
  | 3 => leftD
/-- Where stream `k` comes from. -/
abbrev back : Fin 4 → Dev nD → Dev nD
  | 0 => leftD
  | 1 => leftD
  | 2 => rightD
  | 3 => rightD
/-- Device `q` is another than `d0`, as printed. -/
def neW (d0 : Dev nD) (q : Fin 16) : BitVec 1 :=
  Scalar.cmpi .ne (Scalar.extui (Scalar.cmpi .ne (Scalar.remsi (Scalar.divsi (Dev.word d0) 1#32) 16#32) (BitVec.ofNat 32 q.val)) : BitVec 32) 0#32

/-! ## Steps -/

/-- A step taken where a condition holds, and then the rest. -/
def cnd (w : BitVec 1) (p : Pg F PUnit) (r : Pg F PUnit) : Pg F PUnit :=
  if w = 1#1 then Prog.bind p fun _ => r else r

/-- The barrier signal to device `q`. -/
abbrev sig1 (d0 : Dev nD) (q : Fin 16) (r : Pg F PUnit) : Pg F PUnit :=
  cnd (neW d0 q) ( semSignalWord (q : Dev nD) barS 1#32) r
/-- The wait for every other device's barrier signal. -/
abbrev barW  (r : Pg F PUnit) : Pg F PUnit :=
  Prog.bind (semWaitWord barS 15#32) fun _ => r
/-- The weight block cast into its own buffer. -/
abbrev castW (r : Pg F PUnit) : Pg F PUnit :=
  Prog.bind (Prog.lift (.load wI (Rect.unit (s := S256x8192) ![0, 0] S256x8192.size inb_S256x8192_S256x8192_0_0).toLoadRect (View.loadsAt_vmem h_S256x8192))) fun v =>
  Prog.bind (Prog.lift (.load wB (Rect.unit (s := S256x8192) ![0, 0] S256x8192.size inb_S256x8192_S256x8192_0_0).toLoadRect (View.loadsAt_vmem h_S256x8192))) fun _ =>
  Prog.bind (Prog.lift (.store wB (Rect.unit (s := S256x8192) ![0, 0] S256x8192.size inb_S256x8192_S256x8192_0_0) (k0_pay1 v) Finset.univ (View.stores_vmem h_S256x8192 ((Memref.isWhole_whole _).storeExact_slice rfl _ packedbf16_S256x8192_S256x8192_0_0) (fun _ => rfl)) (.inl rfl))) fun _ =>
  r
/-- The first hop's send of stream `k`. -/
abbrev initS (d0 : Dev nD) (k : Fin 4) (r : Pg F PUnit) : Pg F PUnit :=
  Prog.bind (Prog.lift (.enqueueDma (wStrip k) (.remote (Dev.tc (peer k d0)) (slotM k 0) (.dma (at4 cc0_scratch11 k))) (.dma (at3 (recvA k) 0))
    ((Memref.isWhole_whole _).wordExact_slice rfl _ (strip_words k)) (((bufM_whole k).wordExact_slice rfl _ (slot_words 0)).reshape _ _) ⟨⟨rfl, Or.inl rfl⟩, trivial⟩)) fun _ => r
/-- The input columns cast into their own buffer. -/
abbrev castX (r : Pg F PUnit) : Pg F PUnit :=
  Prog.bind (Prog.lift (.load xI (Rect.unit (s := S4096x256) ![0, 0] S4096x256.size inb_S4096x256_S4096x256_0_0).toLoadRect (View.loadsAt_vmem h_S4096x256))) fun v =>
  Prog.bind (Prog.lift (.load xB (Rect.unit (s := S4096x256) ![0, 0] S4096x256.size inb_S4096x256_S4096x256_0_0).toLoadRect (View.loadsAt_vmem h_S4096x256))) fun _ =>
  Prog.bind (Prog.lift (.store xB (Rect.unit (s := S4096x256) ![0, 0] S4096x256.size inb_S4096x256_S4096x256_0_0) (k0_pay2 v) Finset.univ (View.stores_vmem h_S4096x256 ((Memref.isWhole_whole _).storeExact_slice rfl _ packedbf16_S4096x256_S4096x256_0_0) (fun _ => rfl)) (.inl rfl))) fun _ =>
  r
/-- Row block `q` sent to device `q`. -/
abbrev sendX (d0 : Dev nD) (q : Fin 16) (r : Pg F PUnit) : Pg F PUnit :=
  cnd (neW d0 q) (
    Prog.lift (.enqueueDma (xRow q) (.remote (Dev.tc (q : Dev nD)) (xColAt d0) (.dma (at16 cc0_scratch9 q))) (.dma (at16' cc0_scratch10 d0))
      ((Memref.isWhole_whole _).wordExact_slice rfl _ (row_words q)) ((Memref.isWhole_whole _).wordExact_slice rfl _ (off2_words d0)) ⟨⟨rfl, Or.inl rfl⟩, trivial⟩)) r
/-- The device's own product, and its own column block. -/
abbrev ownY (d0 : Dev nD) (r : Pg F PUnit) : Pg F PUnit :=
  Prog.bind (Prog.lift (.load xB (Rect.unit (s := S4096x256) (k0_off33 d0) S256x256.size (k0_off33_inb d0)).toLoadRect (View.loadsAt_vmem h_S256x256))) fun x =>
  Prog.bind (Prog.lift (.load wB (Rect.unit (s := S256x8192) ![0, 0] S256x8192.size inb_S256x8192_S256x8192_0_0).toLoadRect (View.loadsAt_vmem h_S256x8192))) fun w =>
  Prog.bind (Prog.lift (.load yB (Rect.unit (s := S256x8192) ![0, 0] S256x8192.size inb_S256x8192_S256x8192_0_0).toLoadRect (View.loadsAt_vmem h_S256x8192))) fun _ =>
  Prog.bind (Prog.lift (.store yB (Rect.unit (s := S256x8192) ![0, 0] S256x8192.size inb_S256x8192_S256x8192_0_0) (k0_pay3 x w) Finset.univ (View.stores_vmem_bits_univ h_S256x8192 rfl) (.inl rfl))) fun _ =>
  Prog.bind (Prog.lift (.load xR (Rect.unit (s := S256x4096) (k0_off34 d0) S256x256.size (k0_off34_inb d0)).toLoadRect (View.loadsAt_vmem h_S256x256))) fun _ =>
  Prog.bind (Prog.lift (.store xR (Rect.unit (s := S256x4096) (k0_off34 d0) S256x256.size (k0_off34_inb d0)) (k0_pay4 x) Finset.univ (View.stores_vmem h_S256x256 ((Memref.isWhole_whole _).storeExact_slice rfl _ (k0_off34_packedbf16 d0)) (fun _ => rfl)) (.inl rfl))) fun _ =>
  r
/-- The wait for device `q`'s row block. -/
abbrev waitX (d0 : Dev nD) (q : Fin 16) (r : Pg F PUnit) : Pg F PUnit :=
  cnd (neW d0 q) ( Prog.lift (.waitDma2 (at16 cc0_scratch10 q) (xRow q) (xCol q)
      ((Memref.isWhole_whole _).wordExact_slice rfl _ (row_words q)) ((Memref.isWhole_whole _).wordExact_slice rfl _ (col_words q)))) r
/-- Slot of a hop. -/
abbrev sl (h : Nat) : Fin 3 := ⟨h % 3, Nat.mod_lt _ (by decide)⟩
/-- The wait for hop `h` of stream `k`. -/
abbrev waitR (k : Fin 4) (h : Fin 15) (r : Pg F PUnit) : Pg F PUnit :=
  Prog.bind (Prog.lift (.waitDma2 (at3 (recvA k) (sl h.val)) (slotM k (sl h.val)) (slotM k (sl h.val))
    (((bufM_whole k).wordExact_slice rfl _ (slot_words _)).reshape _ _) (((bufM_whole k).wordExact_slice rfl _ (slot_words _)).reshape _ _))) fun _ => r
/-- The wait for the forward of the hop before. -/
abbrev waitF (k : Fin 4) (h : Fin 15) (r : Pg F PUnit) : Pg F PUnit :=
  Prog.bind (Prog.lift (.waitDma2 (at4 cc0_scratch12 k) (slotM k (sl h.val)) (slotM k (sl (h.val - 1)))
    (((bufM_whole k).wordExact_slice rfl _ (slot_words _)).reshape _ _) (((bufM_whole k).wordExact_slice rfl _ (slot_words _)).reshape _ _))) fun _ => r
/-- The credit back along stream `k`. -/
abbrev sigC (d0 : Dev nD) (k : Fin 4) (r : Pg F PUnit) : Pg F PUnit :=
  Prog.bind (semSignalWord (back k d0) (credA k).sem 1#32) fun _ => r
/-- The wait for a credit of stream `k`. -/
abbrev waitC (k : Fin 4) (r : Pg F PUnit) : Pg F PUnit :=
  Prog.bind (semWaitWord (credA k).sem 1#32) fun _ => r
/-- The forward of hop `h` of stream `k`. -/
abbrev fwdS (d0 : Dev nD) (k : Fin 4) (h : Fin 15) (r : Pg F PUnit) : Pg F PUnit :=
  Prog.bind (Prog.lift (.enqueueDma (slotM k (sl h.val)) (.remote (Dev.tc (peer k d0)) (slotM k (sl (h.val + 1))) (.dma (at4 cc0_scratch12 k))) (.dma (at3 (recvA k) (sl (h.val + 1))))
    (((bufM_whole k).wordExact_slice rfl _ (slot_words _)).reshape _ _) (((bufM_whole k).wordExact_slice rfl _ (slot_words _)).reshape _ _) ⟨⟨rfl, Or.inl rfl⟩, trivial⟩)) fun _ => r
/-- The column block that hop `h` of stream `k` multiplies, as printed. -/
abbrev accOff (d0 : Dev nD) : Fin 4 → Fin 15 → Fin 2 → Nat
  | 0, h => k0_off35 d0 (BitVec.ofNat 32 (1 + (14 - h.val)))
  | 1, h => k0_off35 d0 (BitVec.ofNat 32 (1 + (14 - h.val)))
  | 2, h => k0_off36 d0 (BitVec.ofNat 32 h.val)
  | 3, h => k0_off36 d0 (BitVec.ofNat 32 h.val)
theorem accOff_inb (d0 : Dev nD) (k : Fin 4) (h : Fin 15) : ∀ a, (accOff d0 k h) a + S256x256.size a ≤ S256x4096.size a :=
  match k with
  | 0 => k0_off35_inb d0 ⟨14 - h.val, by omega⟩
  | 1 => k0_off35_inb d0 ⟨14 - h.val, by omega⟩
  | 2 => k0_off36_inb d0 h
  | 3 => k0_off36_inb d0 h
/-- Hop `h` of stream `k` accumulated. -/
abbrev accY (d0 : Dev nD) (k : Fin 4) (h : Fin 15) (r : Pg F PUnit) : Pg F PUnit :=
  Prog.bind (Prog.lift (.load xR (Rect.unit (s := S256x4096) (accOff d0 k h) S256x256.size (accOff_inb d0 k h)).toLoadRect (View.loadsAt_vmem h_S256x256))) fun x =>
  Prog.bind (Prog.lift (.load (bufM k) (Rect.unit (s := S3x256x2048) ![(sl h.val).val, 0, 0] S1x256x2048.size (slot_inb _)).toLoadRect (View.loadsAt_vmem h_S1x256x2048))) fun b =>
  Prog.bind (Prog.lift (.load yB (Rect.unit (s := S256x8192) ![0, 2048 * k.val] S256x2048.size (strip_inb k)).toLoadRect (View.loadsAt_vmem h_S256x2048))) fun y =>
  Prog.bind (Prog.lift (.load yB (Rect.unit (s := S256x8192) ![0, 2048 * k.val] S256x2048.size (strip_inb k)).toLoadRect (View.loadsAt_vmem h_S256x2048))) fun _ =>
  Prog.bind (Prog.lift (.store yB (Rect.unit (s := S256x8192) ![0, 2048 * k.val] S256x2048.size (strip_inb k)) (k0_pay5 x b y) Finset.univ (View.stores_vmem_bits_univ h_S256x2048 rfl) (.inl rfl))) fun _ =>
  r
/-- The wait for the first hop's send of stream `k`. -/
abbrev waitI (k : Fin 4) (r : Pg F PUnit) : Pg F PUnit :=
  Prog.bind (Prog.lift (.waitDma2 (at4 cc0_scratch11 k) (slotM k 0) (wStrip k)
    (((bufM_whole k).wordExact_slice rfl _ (slot_words 0)).reshape _ _) ((Memref.isWhole_whole _).wordExact_slice rfl _ (strip_words k)))) fun _ => r
/-- The wait for the send of row block `q`. -/
abbrev waitXS (d0 : Dev nD) (q : Fin 16) (r : Pg F PUnit) : Pg F PUnit :=
  cnd (neW d0 q) ( Prog.lift (.waitDma2 (at16 cc0_scratch9 q) (xCol q) (xRow q)
      ((Memref.isWhole_whole _).wordExact_slice rfl _ (col_words q)) ((Memref.isWhole_whole _).wordExact_slice rfl _ (row_words q)))) r
/-- The device's own maximum, written into its row. -/
abbrev ownA (d0 : Dev nD) (r : Pg F PUnit) : Pg F PUnit :=
  Prog.bind (Prog.lift (.load yB (Rect.unit (s := S256x8192) ![0, 0] S256x8192.size inb_S256x8192_S256x8192_0_0).toLoadRect (View.loadsAt_vmem h_S256x8192))) fun y =>
  Prog.bind (Prog.lift (.load aB (Rect.unit (s := S16x128) (k0_off37 d0) S1x128.size (k0_off37_inb d0)).toLoadRect (View.loadsAt_vmem h_S1x128))) fun _ =>
  Prog.bind (Prog.lift (.store aB (Rect.unit (s := S16x128) (k0_off37 d0) S1x128.size (k0_off37_inb d0)) (k0_pay76 y) Finset.univ (View.stores_vmem_bits_univ h_S1x128 rfl) (.inl rfl))) fun _ =>
  r
/-- The own maximum sent to device `q`. -/
abbrev sendA (d0 : Dev nD) (q : Fin 16) (r : Pg F PUnit) : Pg F PUnit :=
  cnd (neW d0 q) (
    Prog.lift (.enqueueDma (aRowAt d0) (.remote (Dev.tc (q : Dev nD)) (aRowAt d0) (.dma (at16 cc0_scratch17 q))) (.dma (at16' cc0_scratch18 d0))
      (View.wordExact_bits rfl) (View.wordExact_bits rfl) ⟨⟨rfl, Or.inl rfl⟩, trivial⟩)) r
/-- The waits for the maximum sent to and received from device `q`. -/
abbrev waitA (d0 : Dev nD) (q : Fin 16) (r : Pg F PUnit) : Pg F PUnit :=
  cnd (neW d0 q) (do
    Prog.lift (.waitDma2 (at16 cc0_scratch17 q) (aRow q) (aRow q) (View.wordExact_bits rfl) (View.wordExact_bits rfl))
    Prog.lift (.waitDma2 (at16 cc0_scratch18 q) (aRow q) (aRow q) (View.wordExact_bits rfl) (View.wordExact_bits rfl))) r
/-- The quantised product stored. -/
abbrev outY (r : Pg F PUnit) : Pg F PUnit :=
  Prog.bind (Prog.lift (.load aB (Rect.unit (s := S16x128) ![0, 0] S16x128.size inb_S16x128_S16x128_0_0).toLoadRect (View.loadsAt_vmem h_S16x128))) fun a =>
  Prog.bind (Prog.lift (.load yB (Rect.unit (s := S256x8192) ![0, 0] S256x8192.size inb_S256x8192_S256x8192_0_0).toLoadRect (View.loadsAt_vmem h_S256x8192))) fun y =>
  Prog.bind (Prog.lift (.load oO (Rect.unit (s := S256x8192) ![0, 0] S256x8192.size inb_S256x8192_S256x8192_0_0).toLoadRect (View.loadsAt_vmem h_S256x8192))) fun _ =>
  Prog.bind (Prog.lift (.store oO (Rect.unit (s := S256x8192) ![0, 0] S256x8192.size inb_S256x8192_S256x8192_0_0) (k0_pay78 (k0_pay77 a) y) Finset.univ (View.stores_vmem_bits_univ h_S256x8192 rfl) (.inl rfl))) fun _ =>
  r
/-! ## The whole -/

/-- A step taken where a bit says so, and then the rest. -/
def whn (b : Bool) (p : Pg F PUnit → Pg F PUnit) (r : Pg F PUnit) : Pg F PUnit := match b with | true => p r | false => r
/-- Every device in turn. -/
abbrev all16 (f : Fin 16 → Pg F PUnit → Pg F PUnit) (r : Pg F PUnit) : Pg F PUnit :=
  ([0, 1, 2, 3, 4, 5, 6, 7, 8, 9, 10, 11, 12, 13, 14, 15] : List (Fin 16)).foldr f r
/-- Every hop in turn. -/
abbrev all15 (f : Fin 15 → Pg F PUnit → Pg F PUnit) (r : Pg F PUnit) : Pg F PUnit :=
  ([0, 1, 2, 3, 4, 5, 6, 7, 8, 9, 10, 11, 12, 13, 14] : List (Fin 15)).foldr f r
/-- The transfers of hop `h` of stream `k`. -/
def comm (d0 : Dev nD) (k : Fin 4) (h : Fin 15) (r : Pg F PUnit) : Pg F PUnit :=
  waitR k h (whn (Nat.ble 1 h.val) (waitF k h) (whn (Nat.ble 1 h.val && Nat.ble h.val 12) (sigC d0 k)
    (whn (Nat.ble 2 h.val && Nat.ble h.val 13) (waitC k) (whn (Nat.ble h.val 13) (fwdS d0 k h) r))))
/-- One hop. -/
def hop (d0 : Dev nD) (h : Fin 15) (r : Pg F PUnit) : Pg F PUnit :=
  comm d0 0 h (comm d0 2 h (comm d0 1 h (comm d0 3 h
    (accY d0 0 h (accY d0 1 h (accY d0 2 h (accY d0 3 h r)))))))
/-- What follows the last hop. -/
def tailP (d0 : Dev nD) : Pg F PUnit :=
  waitI 0 (waitI 1 (waitI 2 (waitI 3 (all16 (waitXS d0) (ownA d0 (all16 (sendA d0) (all16 (waitA d0) (outY (.ret ⟨⟩)))))))))
/-- What precedes the first hop. -/
def headP (d0 : Dev nD) (r : Pg F PUnit) : Pg F PUnit :=
  all16 (sig1 d0) (barW (castW (initS d0 0 (initS d0 1 (initS d0 2 (initS d0 3 (castX (all16 (sendX d0) (ownY d0 (all16 (waitX d0) r))))))))))
/-- The body. -/
def bodyP : Pg F PUnit := .op .deviceId fun d0 => headP d0 (all15 (hop d0) (tailP d0))

theorem op_congr {α β : Type} {e e' : TpuEff nD τ sig (Elt F) Λ₀ .tc β} {k k' : β → Pg F α} (he : e = e') (hk : ∀ x, k x = k' x) :
    Prog.op e k = Prog.op e' k' := ProgEq.op_congr _ _ _ _ _ _ _ he hk
theorem ret_step {α β : Type} {a : α} {k : α → Pg F β} {r : Pg F β} (h : k a = r) : Prog.bind (.ret a) k = r := h
theorem pure_step {α β : Type} {a : α} {k : α → Pg F β} {r : Pg F β} (h : k a = r) : Prog.bind (pure a) k = r := h
theorem pure_step' {α β : Type} {a : α} {k : α → Pg F β} {r : Pg F β} (h : k a = r) : ((pure a : Pg F α) >>= k) = r := h
theorem assoc_step {α β γ : Type} {p : Pg F α} {f : α → Pg F β} {g : β → Pg F γ} {r : Pg F γ}
    (h : Prog.bind p (fun a => Prog.bind (f a) g) = r) : Prog.bind (Prog.bind p f) g = r :=
  (ProgEq.bind_assoc _ _ _ _ _ _ _).trans h
theorem assoc_step' {α β γ : Type} {p : Pg F α} {f : α → Pg F β} {g : β → Pg F γ} {r : Pg F γ}
    (h : Prog.bind p (fun a => Prog.bind (f a) g) = r) : Prog.bind (p >>= f) g = r :=
  (ProgEq.bind_assoc _ _ _ _ _ _ _).trans h
theorem lift_step {α β : Type} {e e' : TpuEff nD τ sig (Elt F) Λ₀ .tc β} {k k' : β → Pg F α} (he : e = e') (hk : ∀ x, k x = k' x) :
    Prog.bind (Prog.lift e) k = Prog.bind (Prog.lift e') k' := by
  subst he; exact congrArg _ (funext hk)
theorem sig_step {α : Type} {d d' : Dev nD} {s s' : Sem sig} {n n' : BitVec 32} {k k' : PUnit → Pg F α} (hd : d = d') (hs : s = s') (hn : n = n')
    (hk : ∀ x, k x = k' x) : Prog.bind (semSignalWord d s n) k = Prog.bind (semSignalWord d' s' n') k' := by
  subst hd; subst hs; subst hn; exact congrArg _ (funext hk)
theorem wait_step {α : Type} {s s' : Sem sig} {n n' : BitVec 32} {k k' : PUnit → Pg F α} (hs : s = s') (hn : n = n')
    (hk : ∀ x, k x = k' x) : Prog.bind (semWaitWord s n) k = Prog.bind (semWaitWord s' n') k' := by
  subst hs; subst hn; exact congrArg _ (funext hk)
theorem whn_t {A : Pg F PUnit} {b : Bool} {p : Pg F PUnit → Pg F PUnit} {r : Pg F PUnit} (hb : b = true) (h : A = p r) : A = whn b p r := by
  subst hb; exact h
theorem whn_f {A : Pg F PUnit} {b : Bool} {p : Pg F PUnit → Pg F PUnit} {r : Pg F PUnit} (hb : b = false) (h : A = r) : A = whn b p r := by
  subst hb; exact h
theorem cnd_here {A : Pg F PUnit} {w : BitVec 1} {p r : Pg F PUnit} (h : A = cnd w p r) : A = cnd w p r := h
theorem jp_step {α : Type} {w w' : BitVec 1} {d : Decidable (w = 1#1)} {t : w = 1#1 → Pg F α} {J : Pg F α} {K : α → Pg F PUnit}
    {p r : Pg F PUnit} (hw : w = w') (ht : ∀ h, t h = Prog.bind p fun _ => J) (hr : Prog.bind J K = r) :
    Prog.bind (@dite _ (w = 1#1) d t (fun _ => J)) K = cnd w' p r := by
  subst hr; subst hw
  unfold cnd
  by_cases h : w = 1#1
  · rw [dif_pos h, if_pos h, ht h]; exact ProgEq.bind_assoc _ _ _ _ _ _ _
  · rw [dif_neg h, if_neg h]

end Cert.KernelIdeal.Pf
-- ==== Proof.Common.lean ====
/-
  The protocol of the kernel's devices: its semaphores by kind, its payments, and the schedule of which payment lands on
  which semaphore in which round with which buffer contents.
-/
module

public import proofs.«01_k».proof.Proof.Prog
public import Idealize.ShloMosaic.Lib.Rounds
public import Mathlib.Tactic.DeriveFintype
public import Idealize.ShloMosaic.Lib.Release
public import Idealize.ShloMosaic.Lib.MemrefSat
public import Idealize.ShloMosaic.Lib.Pipeline.Launch
public import Idealize.ShloMosaic.Lib.Pipeline.Kit
public import Idealize.ShloMosaic.Lib.Pipeline.SiteBlocks
public import Idealize.ShloMosaic.Lib.Pipeline.TalkSched
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]

/-! ## Devices -/

theorem peer_val (k : Fin 4) (d : Dev nD) : (peer k d).val = (d.val + if k.val < 2 then 1 else 15) % 16 := by
  fin_cases k <;> revert d <;> decide
theorem back_peer (k : Fin 4) (d : Dev nD) : back k (peer k d) = d := by fin_cases k <;> revert d <;> decide
theorem peer_back (k : Fin 4) (d : Dev nD) : peer k (back k d) = d := by fin_cases k <;> revert d <;> decide
theorem peer_ne (k : Fin 4) (d : Dev nD) : peer k d ≠ d := by fin_cases k <;> revert d <;> decide
theorem back_ne (k : Fin 4) (d : Dev nD) : back k d ≠ d := by fin_cases k <;> revert d <;> decide
theorem neW_iff (d0 : Dev nD) (q : Fin 16) : neW d0 q = 1#1 ↔ q ≠ d0 := by
  revert d0 q; decide

/-! ## Semaphores by kind -/

/-- The kinds of a device's own semaphores: sends and arrivals of the row blocks, of the first hops, of the forwards, of the
    landing slots, of the maxima, and the credits. -/
inductive Sd
  | xs (q : Fin 16) | xr (q : Fin 16) | ini (k : Fin 4) | fwd (k : Fin 4) | rv (k : Fin 4) (s : Fin 3)
  | sa (q : Fin 16) | ra (q : Fin 16) | cr (k : Fin 4)
  deriving DecidableEq, Fintype

/-- The semaphore of a kind; -/
abbrev osem : Sd → SemLoc sig
  | .xs q => .dma (at16 cc0_scratch9 q)
  | .xr q => .dma (at16 cc0_scratch10 q)
  | .ini k => .dma (at4 cc0_scratch11 k)
  | .fwd k => .dma (at4 cc0_scratch12 k)
  | .rv k s => .dma (at3 (recvA k) s)
  | .sa q => .dma (at16 cc0_scratch17 q)
  | .ra q => .dma (at16 cc0_scratch18 q)
  | .cr k => .reg (credA k).sem
/-- the barrier's with them. -/
abbrev csem : Option Sd → SemLoc sig
  | none => .reg barS
  | some κ => osem κ

/-- A semaphore's number. -/
def snum : SemLoc sig → ℕ
  | .dma i => i.val
  | .reg i => 1000 + i.val
/-- The number of a kind's semaphore. -/
def knum : Option Sd → ℕ
  | none => 1004
  | some (.xs q) => 3 + q.val
  | some (.xr q) => 19 + q.val
  | some (.ini k) => 35 + k.val
  | some (.fwd k) => 39 + k.val
  | some (.rv k s) => 43 + 3 * k.val + s.val
  | some (.sa q) => 55 + q.val
  | some (.ra q) => 71 + q.val
  | some (.cr k) => 1000 + k.val
theorem snum_csem (κ : Option Sd) : snum (csem κ) = knum κ := by
  cases κ with
  | none => decide
  | some κ =>
    cases κ with
    | xs q => revert q; decide
    | xr q => revert q; decide
    | ini q => revert q; decide
    | fwd q => revert q; decide
    | rv k s => revert k s; decide
    | sa q => revert q; decide
    | ra q => revert q; decide
    | cr q => revert q; decide
theorem knum_inj {κ κ' : Option Sd} (h : knum κ = knum κ') : κ = κ' := by
  rcases κ with _ | κ <;> rcases κ' with _ | κ'
  · rfl
  · cases κ' <;> simp only [knum] at h <;> omega
  · cases κ <;> simp only [knum] at h <;> omega
  · cases κ <;> cases κ' <;> simp only [knum] at h <;>
      first
      | omega
      | (congr 2 <;> omega)
      | (congr 3 <;> omega)
theorem csem_inj {κ κ' : Option Sd} (h : csem κ = csem κ') : κ = κ' :=
  knum_inj (by rw [← snum_csem, ← snum_csem, h])

/-- The semaphore of a kind on a device. -/
def cell (c : Dev nD) (κ : Option Sd) : GSem nD τ sig := ((c : Thread nD τ), csem κ)
theorem cell_inj {c c' : Dev nD} {κ κ' : Option Sd} : cell c κ = cell c' κ' ↔ c = c' ∧ κ = κ' := by
  constructor
  · intro h
    have h2 := congrArg Prod.snd h
    have h1 := congrArg (fun g => g.1.1) h
    exact ⟨h1, csem_inj h2⟩
  · rintro ⟨rfl, rfl⟩; rfl

/-! ## Payments -/

/-- What a device pays: the barrier signals, the row blocks, the first hops, the forwards, the credits, the maxima. -/
inductive Py
  | bar (q : Fin 16) | xs (q : Fin 16) | ini (k : Fin 4) | fwd (k : Fin 4) (h : Fin 14) | cr (k : Fin 4) (j : Fin 12) | am (q : Fin 16)
  deriving DecidableEq, Fintype

/-- The payment is made by device `d`. -/
abbrev ok (d : Dev nD) : Py → Prop
  | .bar q => q ≠ d
  | .xs q => q ≠ d
  | .am q => q ≠ d
  | _ => True
instance (d : Dev nD) (i : Py) : Decidable (ok d i) := by cases i <;> unfold ok <;> infer_instance
/-- The device it goes to, -/
abbrev tgt (d : Dev nD) : Py → Dev nD
  | .bar q => q
  | .xs q => q
  | .am q => q
  | .ini k => peer k d
  | .fwd k _ => peer k d
  | .cr k _ => back k d
/-- the semaphore it lands on, -/
abbrev akd (d : Dev nD) : Py → Option Sd
  | .bar _ => none
  | .xs _ => some (.xr d)
  | .am _ => some (.ra d)
  | .ini k => some (.rv k 0)
  | .fwd k h => some (.rv k (sl (h.val + 1)))
  | .cr k _ => some (.cr k)
/-- in which round. -/
abbrev ard : Py → ℕ
  | .fwd _ h => (h.val + 1) / 3
  | _ => 0
/-- The semaphore its departure is seen on, -/
abbrev dkd : Py → Option Sd
  | .xs q => some (.xs q)
  | .am q => some (.sa q)
  | .ini k => some (.ini k)
  | .fwd k _ => some (.fwd k)
  | _ => none
/-- in which round. -/
abbrev drd : Py → ℕ
  | .fwd _ h => h.val
  | _ => 0
/-- Its amount. -/
def amt : Py → ℕ
  | .bar _ => 1
  | .cr _ _ => 1
  | .xs _ => (xCol 0).view.dmaCredit
  | .am _ => (aRow 0).view.dmaCredit
  | _ => (slotM 0 0).view.dmaCredit
theorem amt_pos (i : Py) : 0 < amt i := by
  cases i <;> unfold amt
  · exact Nat.one_pos
  · exact View.dmaCredit_pos _ (by decide)
  · exact View.dmaCredit_pos _ (by decide)
  · exact View.dmaCredit_pos _ (by decide)
  · exact Nat.one_pos
  · exact View.dmaCredit_pos _ (by decide)
/-- Its level: a wait is below all that is still owed then. -/
def lev : Py → ℕ
  | .bar _ => 1
  | .xs _ => 2
  | .ini _ => 10
  | .fwd _ h => 2 * (h.val + 1) + 10
  | .cr _ j => 2 * j.val + 13
  | .am _ => 100
theorem lev_lt (i : Py) : lev i < 101 := by cases i <;> simp only [lev] <;> omega
theorem lev_pos (i : Py) : 0 < lev i := by cases i <;> simp only [lev] <;> omega

/-! ## Contents -/

section Contents
variable (xin : Dev nD → Vec F S4096x256 .bf16) (win : Dev nD → Vec F S256x8192 .bf16)

abbrev slotR (s : Fin 3) : Rect S3x256x2048 := Rect.unit (s := S3x256x2048) ![s.val, 0, 0] S1x256x2048.size (slot_inb s)
abbrev stripR (k : Fin 4) : Rect S256x8192 := Rect.unit (s := S256x8192) ![0, 2048 * k.val] S256x2048.size (strip_inb k)
abbrev rowR (q : Fin 16) : Rect S4096x256 := Rect.unit (s := S4096x256) ![256 * q.val, 0] S256x256.size (row_inb q)
abbrev colR (q : Fin 16) : Rect S256x4096 := Rect.unit (s := S256x4096) ![0, 256 * q.val] S256x256.size (col_inb q)
abbrev arowR (q : Fin 16) : Rect S16x128 := Rect.unit (s := S16x128) ![q.val, 0] S1x128.size (arow_inb q)

/-- Contents assembled from those of a covering family of rectangles. -/
def glue {s : Shape} {T α : Type} (r : T → Rect s) (hcov : ∀ i, ∃ t j, (r t).emb j = i) (X : ∀ t, (r t).shape.Idx → α) : s.Idx → α :=
  fun i => X (hcov i).choose (hcov i).choose_spec.choose
theorem glue_emb {s : Shape} {T α : Type} (r : T → Rect s) (hcov : ∀ i, ∃ t j, (r t).emb j = i) (X : ∀ t, (r t).shape.Idx → α)
    (hd : ∀ t t' j j', (r t).emb j = (r t').emb j' → t = t') (t : T) (j : (r t).shape.Idx) : glue r hcov X ((r t).emb j) = X t j := by
  have key : ∀ t' j', (r t').emb j' = (r t).emb j → X t' j' = X t j := by
    intro t' j' h
    obtain rfl := hd _ _ _ _ h
    rw [(r t').emb.injective h]
  exact key _ _ (hcov _).choose_spec.choose_spec

/-- Row block `q` of device `d`'s columns, as cast. -/
def XR (d : Dev nD) (q : Fin 16) : Vec F S256x256 .bf16 := fun j => k0_pay2 (xin d) ((rowR q).emb j)
/-- Strip `k` of device `d`'s weights, as cast. -/
def WS (d : Dev nD) (k : Fin 4) : Vec F S256x2048 .bf16 := fun j => k0_pay1 (win d) ((stripR k).emb j)
/-- The device whose strip hop `h` of stream `k` brings to `c`. -/
def orig (c : Dev nD) (k : Fin 4) : ℕ → Dev nD
  | 0 => back k c
  | h + 1 => orig (back k c) k h
/-- A strip as a slot's block. -/
def blk3 (V : Vec F S256x2048 .bf16) : Vec F S1x256x2048 .bf16 := fun i => V ((Shape.reshapeEquiv (squeezes_S1x256x2048_S256x2048).numel_eq).symm i)
/-- The product of the device's own block. -/
def Y0 (c : Dev nD) : Vec F S256x8192 .f32 := k0_pay3 (XR xin c c) (k0_pay1 (win c))
/-- Strip `k` of the product after `n` hops. -/
def Ys (c : Dev nD) (k : Fin 4) : ℕ → Vec F S256x2048 .f32
  | 0 => fun j => Y0 xin win c ((stripR k).emb j)
  | n + 1 => k0_pay5 (XR xin (orig c k n) c) (blk3 (WS win (orig c k n) k)) (Ys c k n)
end Contents

/-! ## The rectangles cover disjointly -/

theorem strip_dis : ∀ t t', t ≠ t' → Disjoint (stripR t).set (stripR t').set := by
  intro t t' h; rw [Finset.disjoint_left]; intro i hi hi'
  rw [Rect.mem_set_unit] at hi hi'
  have h1 := hi 1; have h2 := hi' 1
  have : t.val ≠ t'.val := fun e => h (Fin.ext e)
  change 2048 * t.val ≤ (i 1).val ∧ (i 1).val < 2048 * t.val + 2048 at h1
  change 2048 * t'.val ≤ (i 1).val ∧ (i 1).val < 2048 * t'.val + 2048 at h2
  omega
theorem strip_cov : (Finset.univ : Finset (Fin 4)).biUnion (fun t => (stripR t).set) = Finset.univ := by
  refine Finset.eq_univ_of_forall fun i => Finset.mem_biUnion.mpr ?_
  have hb : (i 1).val < 8192 := (i 1).isLt
  have ha : (i 0).val < 256 := (i 0).isLt
  refine ⟨⟨(i 1).val / 2048, by omega⟩, Finset.mem_univ _, ?_⟩
  rw [Rect.mem_set_unit]; intro a
  match a with
  | ⟨0, _⟩ => exact ⟨Nat.zero_le _, by change (i 0).val < 0 + 256; omega⟩
  | ⟨1, _⟩ => change 2048 * ((i 1).val / 2048) ≤ (i 1).val ∧ (i 1).val < 2048 * ((i 1).val / 2048) + 2048; omega
theorem row_dis : ∀ t t', t ≠ t' → Disjoint (rowR t).set (rowR t').set := by
  intro t t' h; rw [Finset.disjoint_left]; intro i hi hi'
  rw [Rect.mem_set_unit] at hi hi'
  have h1 := hi 0; have h2 := hi' 0
  have : t.val ≠ t'.val := fun e => h (Fin.ext e)
  change 256 * t.val ≤ (i 0).val ∧ (i 0).val < 256 * t.val + 256 at h1
  change 256 * t'.val ≤ (i 0).val ∧ (i 0).val < 256 * t'.val + 256 at h2
  omega
theorem row_cov : (Finset.univ : Finset (Fin 16)).biUnion (fun t => (rowR t).set) = Finset.univ := by
  refine Finset.eq_univ_of_forall fun i => Finset.mem_biUnion.mpr ?_
  have hb : (i 0).val < 4096 := (i 0).isLt
  have ha : (i 1).val < 256 := (i 1).isLt
  refine ⟨⟨(i 0).val / 256, by omega⟩, Finset.mem_univ _, ?_⟩
  rw [Rect.mem_set_unit]; intro a
  match a with
  | ⟨0, _⟩ => change 256 * ((i 0).val / 256) ≤ (i 0).val ∧ (i 0).val < 256 * ((i 0).val / 256) + 256; omega
  | ⟨1, _⟩ => exact ⟨Nat.zero_le _, by change (i 1).val < 0 + 256; omega⟩
theorem col_dis : ∀ t t', t ≠ t' → Disjoint (colR t).set (colR t').set := by
  intro t t' h; rw [Finset.disjoint_left]; intro i hi hi'
  rw [Rect.mem_set_unit] at hi hi'
  have h1 := hi 1; have h2 := hi' 1
  have : t.val ≠ t'.val := fun e => h (Fin.ext e)
  change 256 * t.val ≤ (i 1).val ∧ (i 1).val < 256 * t.val + 256 at h1
  change 256 * t'.val ≤ (i 1).val ∧ (i 1).val < 256 * t'.val + 256 at h2
  omega
theorem col_cov : (Finset.univ : Finset (Fin 16)).biUnion (fun t => (colR t).set) = Finset.univ := by
  refine Finset.eq_univ_of_forall fun i => Finset.mem_biUnion.mpr ?_
  have hb : (i 1).val < 4096 := (i 1).isLt
  have ha : (i 0).val < 256 := (i 0).isLt
  refine ⟨⟨(i 1).val / 256, by omega⟩, Finset.mem_univ _, ?_⟩
  rw [Rect.mem_set_unit]; intro a
  match a with
  | ⟨0, _⟩ => exact ⟨Nat.zero_le _, by change (i 0).val < 0 + 256; omega⟩
  | ⟨1, _⟩ => change 256 * ((i 1).val / 256) ≤ (i 1).val ∧ (i 1).val < 256 * ((i 1).val / 256) + 256; omega
theorem arow_dis : ∀ t t', t ≠ t' → Disjoint (arowR t).set (arowR t').set := by
  intro t t' h; rw [Finset.disjoint_left]; intro i hi hi'
  rw [Rect.mem_set_unit] at hi hi'
  have h1 := hi 0; have h2 := hi' 0
  have : t.val ≠ t'.val := fun e => h (Fin.ext e)
  change t.val ≤ (i 0).val ∧ (i 0).val < t.val + 1 at h1
  change t'.val ≤ (i 0).val ∧ (i 0).val < t'.val + 1 at h2
  omega
theorem arow_cov : (Finset.univ : Finset (Fin 16)).biUnion (fun t => (arowR t).set) = Finset.univ := by
  refine Finset.eq_univ_of_forall fun i => Finset.mem_biUnion.mpr ?_
  have hb : (i 0).val < 16 := (i 0).isLt
  have ha : (i 1).val < 128 := (i 1).isLt
  refine ⟨⟨(i 0).val, by omega⟩, Finset.mem_univ _, ?_⟩
  rw [Rect.mem_set_unit]; intro a
  match a with
  | ⟨0, _⟩ => change (i 0).val ≤ (i 0).val ∧ (i 0).val < (i 0).val + 1; omega
  | ⟨1, _⟩ => exact ⟨Nat.zero_le _, by change (i 1).val < 0 + 128; omega⟩
theorem slot_dis : ∀ t t', t ≠ t' → Disjoint (slotR t).set (slotR t').set := by
  intro t t' h; rw [Finset.disjoint_left]; intro i hi hi'
  rw [Rect.mem_set_unit] at hi hi'
  have h1 := hi 0; have h2 := hi' 0
  have : t.val ≠ t'.val := fun e => h (Fin.ext e)
  change t.val ≤ (i 0).val ∧ (i 0).val < t.val + 1 at h1
  change t'.val ≤ (i 0).val ∧ (i 0).val < t'.val + 1 at h2
  omega
theorem slot_cov : (Finset.univ : Finset (Fin 3)).biUnion (fun t => (slotR t).set) = Finset.univ := by
  refine Finset.eq_univ_of_forall fun i => Finset.mem_biUnion.mpr ?_
  have hb : (i 0).val < 3 := (i 0).isLt
  have ha : (i 1).val < 256 := (i 1).isLt
  have hc : (i 2).val < 2048 := (i 2).isLt
  refine ⟨⟨(i 0).val, by omega⟩, Finset.mem_univ _, ?_⟩
  rw [Rect.mem_set_unit]; intro a
  match a with
  | ⟨0, _⟩ => change (i 0).val ≤ (i 0).val ∧ (i 0).val < (i 0).val + 1; omega
  | ⟨1, _⟩ => exact ⟨Nat.zero_le _, by change (i 1).val < 0 + 256; omega⟩
  | ⟨2, _⟩ => exact ⟨Nat.zero_le _, by change (i 2).val < 0 + 2048; omega⟩

/-- A covering family's rectangles hold every index; -/
theorem cov_ex {s : Shape} {T : Type} [Fintype T] {r : T → Rect s} (h : (Finset.univ : Finset T).biUnion (fun t => (r t).set) = Finset.univ) :
    ∀ i, ∃ t j, (r t).emb j = i := by
  intro i
  obtain ⟨t, -, ht⟩ := Finset.mem_biUnion.mp (h.symm ▸ Finset.mem_univ i)
  rw [← Rect.map_emb_univ, Finset.mem_map] at ht
  obtain ⟨j, -, hj⟩ := ht
  exact ⟨t, j, hj⟩
/-- a disjoint family's hold it once. -/
theorem dis_emb {s : Shape} {T : Type} {r : T → Rect s} (h : ∀ t t', t ≠ t' → Disjoint (r t).set (r t').set) :
    ∀ t t' j j', (r t).emb j = (r t').emb j' → t = t' := by
  intro t t' j j' he
  by_contra hn
  have h1 : (r t).emb j ∈ (r t).set := by rw [← Rect.map_emb_univ]; exact Finset.mem_map_of_mem _ (Finset.mem_univ _)
  have h2 : (r t).emb j ∈ (r t').set := by rw [he, ← Rect.map_emb_univ]; exact Finset.mem_map_of_mem _ (Finset.mem_univ _)
  exact (Finset.disjoint_left.mp (h t t' hn)) h1 h2

section Contents2
variable (xin : Dev nD → Vec F S4096x256 .bf16) (win : Dev nD → Vec F S256x8192 .bf16)
/-- The device's product. -/
def YF (c : Dev nD) : Vec F S256x8192 .f32 := glue stripR (cov_ex strip_cov) fun k => Ys xin win c k 15
theorem YF_strip (c : Dev nD) (k : Fin 4) : (fun j => YF xin win c ((stripR k).emb j)) = Ys xin win c k 15 :=
  funext fun j => glue_emb stripR _ _ (dis_emb strip_dis) k j
/-- The device's maximum. -/
def AV (d : Dev nD) : Vec F S1x128 .f32 := k0_pay76 (YF xin win d)
/-- The table of maxima. -/
def AT : Vec F S16x128 .f32 := glue arowR (cov_ex arow_cov) fun q => AV xin win q
theorem AT_row (q : Fin 16) : (fun j => AT xin win ((arowR q).emb j)) = AV xin win q :=
  funext fun j => glue_emb arowR _ _ (dis_emb arow_dis) q j
/-- The device's result. -/
def outV (c : Dev nD) : Vec F S256x8192 .f32 := k0_pay78 (k0_pay77 (AT xin win)) (YF xin win c)
end Contents2

/-! ## The schedule -/

abbrev UB : Type := URounds (GSem nD τ sig) (Dev nD × Py)
abbrev UK : Type := USlots (Dev nD × Fin 4 × Fin 3)
abbrev UU : Type := UR sig nD τ × (UB × UK)

local notation "𝕄" => MT nD τ sig ℕ (Elt F) ℕ UU ℕ

abbrev ER : Emb UB (MT nD τ sig ℕ (Elt F) ℕ UU ℕ) := (Emb.inl).trans embR
abbrev ES : Emb UK (MT nD τ sig ℕ (Elt F) ℕ UU ℕ) := (Emb.inr).trans embR

/-- A memref owned at any contents. -/
abbrev ownsE (c : Dev nD) {sp : Space} {sh : Shape} {e : EltTy} (m : Memref sig .tc sp sh e) : sProp 𝕄 :=
  iprop(∃ X, owns (Ix := ℕ) (Name := ℕ) (U := UU) (Lvl := ℕ) (c : Thread nD τ) m fullShare X)
abbrev ownsV (c : Dev nD) {sp : Space} {sh : Shape} {e : EltTy} (m : Memref sig .tc sp sh e) (q : PosShare TreeShare) (X : sh.Idx → Elt F e) : sProp 𝕄 :=
  owns (Ix := ℕ) (Name := ℕ) (U := UU) (Lvl := ℕ) (c : Thread nD τ) m q X

/-- Device `d` has made its slot of hop `h` of stream `k` ready for the arrival. -/
def SF (d : Dev nD) (k : Fin 4) (h : ℕ) : sProp 𝕄 :=
  iprop(released ES (d, k, sl h) (h / 3 + 1) ∗ reached ER (cell d (some (.rv k (sl h)))) (h / 3))
/-- Its slots of all hops below `n`. -/
def Ready (d : Dev nD) (k : Fin 4) (n : ℕ) : sProp 𝕄 := bigSep (Finset.range n) (SF d k)
instance SF_pers (d : Dev nD) (k : Fin 4) (h : ℕ) : BI.Persistent (SF (F := F) d k h) := by unfold SF; infer_instance
instance Ready_pers (d : Dev nD) (k : Fin 4) (n : ℕ) : BI.Persistent (Ready (F := F) d k n) := by unfold Ready; infer_instance
instance SF_stor (d : Dev nD) (k : Fin 4) (h : ℕ) : BI.Storable (upEmb : UEmb _ 𝕄) (SF (F := F) d k h) := by unfold SF; infer_instance
instance Ready_stor (d : Dev nD) (k : Fin 4) (n : ℕ) : BI.Storable (upEmb : UEmb _ 𝕄) (Ready (F := F) d k n) := by unfold Ready; infer_instance

/-- The share that is left after `n` halves are lent, -/
def shR : ℕ → PosShare TreeShare
  | 0 => fullShare
  | n + 1 => (shR n).right
/-- and the one lent then. -/
def shL (n : ℕ) : PosShare TreeShare := (shR n).left

variable (xin : Dev nD → Vec F S4096x256 .bf16) (win : Dev nD → Vec F S256x8192 .bf16)

/-- What an arrival hands over. -/
def apay (d : Dev nD) : Py → sProp 𝕄
  | .bar q => iprop(ownsE d (xCol q) ∗ ownsE d (aRow q) ∗ bigSep Finset.univ fun k => Ready d k 3)
  | .xs q => ownsV q (xCol d) fullShare (XR xin d q)
  | .ini k => ownsV (peer k d) (slotM k 0) fullShare (WS win d k)
  | .fwd k h => ownsV (peer k d) (slotM k (sl (h.val + 1))) fullShare (WS win (orig d k h.val) k)
  | .cr k j => Ready d k (j.val + 4)
  | .am q => ownsV q (aRow d) fullShare (AV xin win d)
/-- What a departure gives back. -/
def dpay (d : Dev nD) : Py → sProp 𝕄
  | .xs q => ownsV d (xRow q) fullShare (XR xin d q)
  | .ini k => ownsV d (wStrip k) fullShare.left (WS win d k)
  | .fwd k h => ownsV d (slotM k (sl h.val)) fullShare.left (WS win (orig d k h.val) k)
  | .am q => ownsV d (aRow d) (shL q.val) (AV xin win d)
  | _ => iprop(emp)

/-- The schedule. -/
def Rd : Rounds.Schedule (GSem nD τ sig) (Dev nD × Py) 𝕄 where
  duties g r := Finset.univ.filter fun p => ok p.1 p.2 ∧
    ((g = cell (tgt p.1 p.2) (akd p.1 p.2) ∧ r = ard p.2) ∨ (g = cell p.1 (dkd p.2) ∧ dkd p.2 ≠ none ∧ r = drd p.2))
  amount _ _ p := amt p.2
  payload g _ p := if g = cell p.1 (dkd p.2) ∧ dkd p.2 ≠ none then dpay xin win p.1 p.2 else apay xin win p.1 p.2
  amount_pos _ _ p _ := amt_pos p.2

instance apay_stor (d : Dev nD) (i : Py) : BI.Storable (upEmb : UEmb _ 𝕄) (apay xin win d i) := by
  cases i <;> unfold apay <;> infer_instance
instance dpay_stor (d : Dev nD) (i : Py) : BI.Storable (upEmb : UEmb _ 𝕄) (dpay xin win d i) := by
  cases i <;> unfold dpay <;> infer_instance
instance Rd_stor (g : GSem nD τ sig) (r : ℕ) (p : Dev nD × Py) : BI.Storable (upEmb : UEmb _ 𝕄) ((Rd xin win).payload g r p) := by
  show BI.Storable upEmb (if g = cell p.1 (dkd p.2) ∧ dkd p.2 ≠ none then dpay xin win p.1 p.2 else apay xin win p.1 p.2)
  split <;> infer_instance

theorem mem_duties {c : Dev nD} {κ : Option Sd} {r : ℕ} {p : Dev nD × Py} : p ∈ (Rd xin win).duties (cell c κ) r ↔
    ok p.1 p.2 ∧ ((c = tgt p.1 p.2 ∧ κ = akd p.1 p.2 ∧ r = ard p.2) ∨ (c = p.1 ∧ κ = dkd p.2 ∧ dkd p.2 ≠ none ∧ r = drd p.2)) := by
  unfold Rd
  simp only [Finset.mem_filter, Finset.mem_univ, true_and, cell_inj, and_assoc]
theorem akd_ne_dkd (d : Dev nD) (i : Py) (h : dkd i ≠ none) : akd d i ≠ dkd i := by cases i <;> simp_all [akd, dkd]
theorem payload_arr (d : Dev nD) (i : Py) (r : ℕ) : (Rd xin win).payload (cell (tgt d i) (akd d i)) r (d, i) = apay xin win d i := by
  unfold Rd
  dsimp only
  rw [if_neg]
  rintro ⟨h, hn⟩
  exact akd_ne_dkd d i hn (cell_inj.mp h).2
theorem payload_dep (d : Dev nD) (i : Py) (hn : dkd i ≠ none) (r : ℕ) : (Rd xin win).payload (cell d (dkd i)) r (d, i) = dpay xin win d i := by
  unfold Rd
  dsimp only
  rw [if_pos ⟨rfl, hn⟩]

theorem mem_arr (d : Dev nD) (i : Py) (h : ok d i) : (d, i) ∈ (Rd xin win).duties (cell (tgt d i) (akd d i)) (ard i) :=
  (mem_duties xin win).mpr ⟨h, .inl ⟨rfl, rfl, rfl⟩⟩
theorem mem_dep (d : Dev nD) (i : Py) (h : ok d i) (hn : dkd i ≠ none) : (d, i) ∈ (Rd xin win).duties (cell d (dkd i)) (drd i) :=
  (mem_duties xin win).mpr ⟨h, .inr ⟨rfl, rfl, hn, rfl⟩⟩

end Cert.KernelIdeal.Pf
-- ==== Proof.Rules.lean ====
/-
  Loads and stores over owned memrefs: a slice, a slot, a whole buffer.
-/
module

public import proofs.«01_k».proof.Proof.Common

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

abbrev 𝒱₀ : Variants := Variants.none
/-- The weakest precondition of a program of device `c`'s core. -/
abbrev wpc (c : Dev nD) (p : Pg F PUnit) (Kt : PUnit → sProp 𝕄) : sProp 𝕄 :=
  wp frame (wpE (defs₀ (F := F)) 𝒱₀ (c : Thread nD τ) none) Set.univ p Kt

variable (c : Dev nD) (Kt : PUnit.{1} → sProp (MT nD τ sig ℕ (Elt F) ℕ UU ℕ))

theorem lift_bind {α : Type} (e : TpuEff nD τ sig (Elt F) Λ₀ .tc α) (k : α → Pg F PUnit) : Prog.bind (Prog.lift e) k = .op e k := rfl

theorem ld_slice {cs : CoreSpace} {s : Shape} {e : EltTy} {m : Memref sig .tc cs s e} {r : Rect s} (hr : ∀ a, r.stride a = 1)
    {hl : m.view.LoadsAt r} {q : PosShare TreeShare} {X : r.shape.Idx → Elt F e} {k : (r.shape.Idx → Elt F e) → Pg F PUnit} :
    ownsV c (m.slice r hr) q X ⊢ iprop((ownsV c (m.slice r hr) q X -∗ wpc c (k X) Kt) -∗ wpc c (Prog.bind (Prog.lift (.load m r hl)) k) Kt) := by
  unfold ownsV owns
  rw [lift_bind]
  iintro ⟨%f, %hf, H⟩ Hk
  iapply (wp_load_rect 𝒱₀ (c : Thread nD τ) none Set.univ (m := m) (r := r) (f := f) (Finset.Subset.refl _)) $$ H
  iintro H
  rw [show (m.access r).read (Elt F) f = X from hf]
  iapply Hk
  iexists f
  isplitr; · ipureintro; exact hf
  iexact H

theorem ld_slice_at {cs : CoreSpace} {s : Shape} {e : EltTy} {m : Memref sig .tc cs s e} {off off' size : Fin s.rank → ℕ} (he : off' = off)
    {inb : ∀ a, off a + size a ≤ s.size a} {inb' : ∀ a, off' a + size a ≤ s.size a}
    {hl : m.view.LoadsAt (Rect.unit off' size inb')} {q : PosShare TreeShare} {X : (Shape.Idx ⟨s.rank, size⟩) → Elt F e} {k : ((Shape.Idx ⟨s.rank, size⟩) → Elt F e) → Pg F PUnit} :
    ownsV c (m.slice (Rect.unit off size inb) (fun _ => rfl)) q X
      ⊢ iprop((ownsV c (m.slice (Rect.unit off size inb) (fun _ => rfl)) q X -∗ wpc c (k X) Kt)
        -∗ wpc c (Prog.bind (Prog.lift (.load m (Rect.unit off' size inb').toLoadRect hl)) k) Kt) := by
  subst he
  exact ld_slice c Kt (fun _ => rfl)

theorem st_slice {cs : CoreSpace} {s : Shape} {e : EltTy} {m : Memref sig .tc cs s e} {r : Rect s} (hr : ∀ a, r.stride a = 1)
    {w : r.shape.Idx → Elt F e} {hx : (m.access r).Stores Finset.univ} {hm : (Finset.univ : Finset r.shape.Idx) = Finset.univ ∨ ∀ a, r.stride a = 1}
    {k : PUnit → Pg F PUnit} {X : r.shape.Idx → Elt F e} :
    ownsV c (m.slice r hr) fullShare X
      ⊢ iprop((ownsV c (m.slice r hr) fullShare w -∗ wpc c (k ⟨⟩) Kt) -∗ wpc c (Prog.bind (Prog.lift (.store m r w Finset.univ hx hm)) k) Kt) := by
  unfold ownsV owns
  rw [lift_bind]
  iintro ⟨%f, %hf, H⟩ Hk
  iapply (wp_store 𝒱₀ (c : Thread nD τ) none Set.univ (m := m) (r := r) (f := f) (w := w) (Mk := Finset.univ) (S := (m.access r).set) (View.setOn_univ _).subset) $$ H
  iintro H
  iapply Hk
  iexists ((m.access r).write (Elt F) f w Finset.univ)
  isplitr; · ipureintro; exact View.read_write_univ _ _
  iexact H

theorem st_slice_at {cs : CoreSpace} {s : Shape} {e : EltTy} {m : Memref sig .tc cs s e} {off off' size : Fin s.rank → ℕ} (he : off' = off)
    {inb : ∀ a, off a + size a ≤ s.size a} {inb' : ∀ a, off' a + size a ≤ s.size a}
    {w : (Shape.Idx ⟨s.rank, size⟩) → Elt F e} {hx : (m.access (Rect.unit off' size inb')).Stores Finset.univ}
    {hm : (Finset.univ : Finset (Rect.unit off' size inb').shape.Idx) = Finset.univ ∨ ∀ a, (Rect.unit off' size inb').stride a = 1}
    {k : PUnit → Pg F PUnit} {X : (Shape.Idx ⟨s.rank, size⟩) → Elt F e} :
    ownsV c (m.slice (Rect.unit off size inb) (fun _ => rfl)) fullShare X
      ⊢ iprop((ownsV c (m.slice (Rect.unit off size inb) (fun _ => rfl)) fullShare w -∗ wpc c (k ⟨⟩) Kt)
        -∗ wpc c (Prog.bind (Prog.lift (.store m (Rect.unit off' size inb') w Finset.univ hx hm)) k) Kt) := by
  subst he
  exact st_slice c Kt (fun _ => rfl)

theorem hz2 : (![0, 0] : Fin 2 → Nat) = fun _ => 0 := funext fun a => by fin_cases a <;> rfl

theorem emb_zero {s : Shape} {off : Fin s.rank → ℕ} (hz : off = fun _ => 0) {inb : ∀ a, off a + s.size a ≤ s.size a} (j : s.Idx) :
    (Rect.unit off s.size inb).emb j = j := by
  subst hz
  funext a
  exact Fin.ext (by show 0 + 1 * (j a).val = _; omega)
theorem read_zero {cs : Space} {s : Shape} {e : EltTy} (m : Memref sig .tc cs s e) {off : Fin s.rank → ℕ} (hz : off = fun _ => 0)
    {inb : ∀ a, off a + s.size a ≤ s.size a} (f : m.view.ty.Contents (Elt F)) :
    (m.access (Rect.unit off s.size inb)).read (Elt F) f = m.view.read (Elt F) f := by
  funext j
  show m.view.read (Elt F) f ((Rect.unit off s.size inb).emb j) = _
  rw [emb_zero hz]

theorem ld_whole {cs : CoreSpace} {s : Shape} {e : EltTy} {m : Memref sig .tc cs s e} {off : Fin s.rank → ℕ} (hz : off = fun _ => 0)
    {inb : ∀ a, off a + s.size a ≤ s.size a}
    {hl : m.view.LoadsAt (Rect.unit off s.size inb).toLoadRect} {q : PosShare TreeShare} {X : s.Idx → Elt F e}
    {k : (s.Idx → Elt F e) → Pg F PUnit} :
    ownsV c m q X ⊢ iprop((ownsV c m q X -∗ wpc c (k X) Kt)
      -∗ wpc c (Prog.bind (Prog.lift (.load m (Rect.unit off s.size inb).toLoadRect hl)) k) Kt) := by
  unfold ownsV owns
  rw [lift_bind]
  iintro ⟨%f, %hf, H⟩ Hk
  iapply (wp_load_rect 𝒱₀ (c : Thread nD τ) none Set.univ (m := m) (r := Rect.unit off s.size inb) (f := f) (S := m.view.set)
    (View.set_slice_subset _ _)) $$ H
  iintro H
  rw [show (m.access (Rect.unit off s.size inb)).read (Elt F) f = X from (read_zero m hz f).trans hf]
  iapply Hk
  iexists f
  isplitr; · ipureintro; exact hf
  iexact H

theorem st_whole {cs : CoreSpace} {s : Shape} {e : EltTy} {m : Memref sig .tc cs s e} {off : Fin s.rank → ℕ} (hz : off = fun _ => 0)
    {inb : ∀ a, off a + s.size a ≤ s.size a}
    {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {k : PUnit → Pg F PUnit} {X : s.Idx → Elt F e} :
    ownsV c m fullShare X ⊢ iprop((ownsV c m fullShare w -∗ wpc c (k ⟨⟩) Kt)
      -∗ wpc c (Prog.bind (Prog.lift (.store m (Rect.unit off s.size inb) w Finset.univ hx hm)) k) Kt) := by
  unfold ownsV owns
  rw [lift_bind]
  iintro ⟨%f, %hf, H⟩ Hk
  iapply (wp_store 𝒱₀ (c : Thread nD τ) none Set.univ (m := m) (r := Rect.unit off s.size inb) (f := f) (w := w) (Mk := Finset.univ)
    (S := m.view.set) ((View.setOn_univ _).subset.trans (View.set_slice_subset _ _))) $$ H
  iintro H
  iapply Hk
  iexists ((m.access (Rect.unit off s.size inb)).write (Elt F) f w Finset.univ)
  isplitr; · ipureintro; exact (read_zero m hz _).symm.trans (View.read_write_univ _ _)
  iexact H

/-- A slot is the squeeze of the buffer's slice. -/
theorem slot_owns (k : Fin 4) (s : Fin 3) (q : PosShare TreeShare) (V : Vec F S256x2048 .bf16) :
    ownsV c (slotM k s) q V ⊣⊢ ownsV c ((bufM k).slice (slotR s) (fun _ => rfl)) q (blk3 V) := by
  have hset : (slotM k s).view.set = ((bufM k).slice (slotR s) (fun _ => rfl)).view.set := View.set_reshape _ _
  constructor
  · unfold ownsV owns
    iintro ⟨%f, %hf, H⟩
    iexists f
    isplitr
    · ipureintro
      rw [← hf]
      funext i
      show _ = ((bufM k).slice (slotR s) (fun _ => rfl)).view.read (Elt F) f (Shape.reshapeEquiv _ ((Shape.reshapeEquiv _).symm i))
      rw [Equiv.apply_symm_apply]
    rw [hset]
    iexact H
  · unfold ownsV owns
    iintro ⟨%f, %hf, H⟩
    iexists f
    isplitr
    · ipureintro
      funext i
      show ((bufM k).slice (slotR s) (fun _ => rfl)).view.read (Elt F) f (Shape.reshapeEquiv _ i) = _
      rw [hf]
      unfold blk3
      rw [Equiv.symm_apply_apply]
    rw [hset]
    iexact H

theorem ld_slot {k : Fin 4} {s : Fin 3} {hl : (bufM k).view.LoadsAt (slotR s).toLoadRect} {q : PosShare TreeShare} {V : Vec F S256x2048 .bf16}
    {kk : Vec F S1x256x2048 .bf16 → Pg F PUnit} :
    ownsV c (slotM k s) q V ⊢ iprop((ownsV c (slotM k s) q V -∗ wpc c (kk (blk3 V)) Kt)
      -∗ wpc c (Prog.bind (Prog.lift (.load (bufM k) (slotR s).toLoadRect hl)) kk) Kt) := by
  refine (slot_owns c k s q V).1.trans ?_
  iintro H Hk
  iapply (ld_slice c Kt (m := bufM k) (r := slotR s) (fun _ => rfl)) $$ H
  iintro H
  iapply Hk
  iapply (slot_owns c k s q V).2
  iexact H

/-- The same slot owned twice is absurd. -/
theorem slot_false (k : Fin 4) (s : Fin 3) : iprop(ownsE c (slotM k s) ∗ ownsE c (slotM k s)) ⊢ (False : sProp 𝕄) := by
  unfold ownsE owns
  iintro ⟨⟨%X, %f, -, H⟩, ⟨%X', %f', -, H'⟩⟩
  iapply (slot_slot_false (ℓ := (slotM k s).view.loc (c : Thread nD τ)) (I := (slotM k s).view.set) ?_)
  · exact ⟨_, Finset.mem_map_of_mem _ (Finset.mem_univ (fun a => ⟨0, by fin_cases a <;> decide⟩))⟩
  · unfold slot
    isplitl [H]
    · iexists f; iexact H
    · iexists f'; iexact H'

end Cert.KernelIdeal.Pf
-- ==== Proof.Steps.lean ====
/-
  The accounts of a device and the steps of its program: a signal, a send, a wait.
-/
module

public import proofs.«01_k».proof.Proof.Rules

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

/-! ## What is still to be paid and to be waited for -/

/-- The order of the streams within a hop. -/
def ord : Fin 4 → ℕ
  | 0 => 0
  | 1 => 2
  | 2 => 1
  | 3 => 3
theorem ord_lt (k : Fin 4) : ord k < 4 := by revert k; decide
theorem ord_inj {k k' : Fin 4} (h : ord k = ord k') : k = k' := by revert k k'; decide
/-- When a payment is made, -/
def time : Py → ℕ
  | .bar q => q.val
  | .ini k => 16 + k.val
  | .xs q => 20 + q.val
  | .cr k j => 36 + 8 * (j.val + 1) + 2 * ord k
  | .fwd k h => 36 + 8 * h.val + 2 * ord k + 1
  | .am q => 200 + q.val
/-- and when it is waited for. -/
def wtime : Py → ℕ
  | .bar _ => 0
  | .xs q => 1 + q.val
  | .ini k => 20 + 2 * ord k
  | .fwd k h => 20 + 8 * (h.val + 1) + 2 * ord k
  | .cr k j => 20 + 8 * (j.val + 2) + 2 * ord k + 1
  | .am q => 200 + q.val
theorem time_inj {i i' : Py} (h : time i = time i') : i = i' := by
  rcases i with q | q | k | ⟨k, h⟩ | ⟨k, j⟩ | q <;> rcases i' with q' | q' | k' | ⟨k', h'⟩ | ⟨k', j'⟩ | q' <;> simp only [time] at h <;>
    first
    | omega
    | (have h1 := ord_lt k; omega)
    | (have h1 := ord_lt k'; omega)
    | (have h1 := ord_lt k; have h2 := ord_lt k'; omega)
    | (congr 1; omega)
    | (have h1 := ord_lt k; have h2 := ord_lt k'
       obtain rfl : k = k' := ord_inj (by omega)
       congr 1; omega)
theorem wtime_inj {i i' : Py} (h : wtime i = wtime i') (hp : 0 < wtime i) : i = i' := by
  rcases i with q | q | k | ⟨k, h⟩ | ⟨k, j⟩ | q <;> rcases i' with q' | q' | k' | ⟨k', h'⟩ | ⟨k', j'⟩ | q' <;> simp only [wtime] at h hp <;>
    first
    | omega
    | (have h1 := ord_lt k; omega)
    | (have h1 := ord_lt k'; omega)
    | (have h1 := ord_lt k; have h2 := ord_lt k'; omega)
    | (congr 1; omega)
    | (have h1 := ord_lt k; have h2 := ord_lt k'
       obtain rfl : k = k' := ord_inj (by omega)
       first
       | rfl
       | (congr 1; omega))

/-- The payments at or after `t`. -/
def rem (f : Py → ℕ) (d : Dev nD) (t : ℕ) : Finset Py := Finset.univ.filter fun i => ok d i ∧ t ≤ f i
theorem mem_rem {f : Py → ℕ} {d : Dev nD} {t : ℕ} {i : Py} : i ∈ rem f d t ↔ ok d i ∧ t ≤ f i := by
  unfold rem; simp only [Finset.mem_filter, Finset.mem_univ, true_and]
theorem rem_step {f : Py → ℕ} {d : Dev nD} {t : ℕ} {i : Py} (hi : ok d i) (ht : f i = t) (hu : ∀ i', f i' = t → i' = i) :
    rem f d t = insert i (rem f d (t + 1)) := by
  ext i'
  rw [Finset.mem_insert, mem_rem, mem_rem]
  constructor
  · rintro ⟨h, h'⟩
    by_cases he : f i' = t
    · exact .inl (hu _ he)
    · exact .inr ⟨h, by omega⟩
  · rintro (rfl | ⟨h, h'⟩)
    · exact ⟨hi, by omega⟩
    · exact ⟨h, by omega⟩
theorem rem_notMem {f : Py → ℕ} {d : Dev nD} {t : ℕ} {i : Py} (ht : f i = t) : i ∉ rem f d (t + 1) := by
  rw [mem_rem]; rintro ⟨-, h⟩; omega
theorem rem_eq {f : Py → ℕ} {d : Dev nD} {t t' : ℕ} (hle : t ≤ t') (hn : ∀ i, ok d i → t ≤ f i → t' ≤ f i) : rem f d t = rem f d t' := by
  ext i
  rw [mem_rem, mem_rem]
  exact ⟨fun h => ⟨h.1, hn i h.1 h.2⟩, fun h => ⟨h.1, hle.trans h.2⟩⟩

/-- The semaphore a payment to `d` lands on, by the payment's number there. -/
abbrev okd : Py → Option Sd
  | .bar _ => none
  | .xs q => some (.xr q)
  | .am q => some (.ra q)
  | .ini k => some (.rv k 0)
  | .fwd k h => some (.rv k (sl (h.val + 1)))
  | .cr k _ => some (.cr k)

/-- What device `d` owes from time `t`. -/
def Ow (d : Dev nD) (t : ℕ) : CellTallies nD τ sig ℕ := ∑ i ∈ rem time d t, tallyAt (cell (tgt d i) (akd d i)) (lev i) (amt i)
theorem Ow_pos {d : Dev nD} {t : ℕ} {g : GSem nD τ sig} {k : ℕ} (h : 0 < Ow d t g k) : ∃ i ∈ rem time d t, g = cell (tgt d i) (akd d i) ∧ k = lev i := by
  unfold Ow at h
  rw [Finset.sum_apply, Finsupp.finset_sum_apply] at h
  obtain ⟨i, hi, hp⟩ := Finset.exists_ne_zero_of_sum_ne_zero (Nat.pos_iff_ne_zero.mp h)
  obtain ⟨h1, h2⟩ := Pipeline.tallyAt_pos (Nat.pos_of_ne_zero hp)
  exact ⟨i, hi, h1, h2⟩

variable (xin : Dev nD → Vec F S4096x256 .bf16) (win : Dev nD → Vec F S256x8192 .bf16)

/-- The slot write that goes with a payment. -/
def wtok (d : Dev nD) : Py → sProp 𝕄
  | .ini k => writeTok ES (peer k d, k, (0 : Fin 3)) 1
  | .fwd k h => writeTok ES (peer k d, k, sl (h.val + 1)) ((h.val + 1) / 3 + 1)
  | _ => iprop(emp)
/-- The departure's token. -/
def dtok (d : Dev nD) (i : Py) : sProp 𝕄 := if dkd i = none then iprop(emp) else dutyTok ER (cell d (dkd i)) (drd i) (d, i)
/-- What a payment takes. -/
def tok (d : Dev nD) (i : Py) : sProp 𝕄 := iprop(dutyTok ER (cell (tgt d i) (akd d i)) (ard i) (d, i) ∗ dtok d i ∗ wtok d i)
/-- What a wait takes. -/
def wcr (d : Dev nD) (j : Py) : sProp 𝕄 := cred (tallyAt (cell d (okd j)) (lev j) (amt j))
/-- Device `d`'s accounts when the payments before `t` and the waits before `u` are done. -/
def St (d : Dev nD) (t u : ℕ) : sProp 𝕄 :=
  iprop((∃ W, owes (d : Thread nD τ) (Ow d t) W) ∗ bigSep (rem time d t) (tok d) ∗ bigSep (rem wtime d u) (wcr d))

theorem bs_ins {I : Type} [DecidableEq I] {s : Finset I} {i : I} (hi : i ∉ s) {Φ : I → sProp 𝕄} : bigSep (insert i s) Φ ⊢ iprop(Φ i ∗ bigSep s Φ) :=
  Entails.of_eq (BI.bigSep_insert hi)
theorem bs_elim {I : Type} [DecidableEq I] {s : Finset I} {i : I} (hi : i ∈ s) {Φ : I → sProp 𝕄} : bigSep s Φ ⊢ Φ i := BI.bigSep_elim hi

theorem pay_open {d : Dev nD} {i : Py} {t u : ℕ} (hi : ok d i) (ht : time i = t) :
    St d t u ⊢ (iprop((∃ W, owes (d : Thread nD τ) (Ow d (t + 1) + tallyAt (cell (tgt d i) (akd d i)) (lev i) (amt i)) W) ∗ tok d i
      ∗ bigSep (rem time d (t + 1)) (tok d) ∗ bigSep (rem wtime d u) (wcr d)) : sProp 𝕄) := by
  have hr := rem_step (f := time) hi ht (fun i' h => time_inj (h.trans ht.symm))
  have hn : i ∉ rem time d (t + 1) := rem_notMem ht
  have hO : Ow d t = Ow d (t + 1) + tallyAt (cell (tgt d i) (akd d i)) (lev i) (amt i) := by
    unfold Ow; rw [hr, Finset.sum_insert hn, add_comm]
  unfold St
  rw [hO, hr]
  iintro ⟨HO, HT, HC⟩
  ihave HT := (bs_ins hn) $$ HT
  icases HT with ⟨Ht, HT⟩
  isplitl [HO]; · iexact HO
  isplitl [Ht]; · iexact Ht
  isplitl [HT]; · iexact HT
  iexact HC

theorem wait_open {d : Dev nD} {j : Py} {t u : ℕ} (hj : ok d j) (hu : wtime j = u) (hp : 0 < u) :
    St d t u ⊢ (iprop(wcr d j ∗ St d t (u + 1)) : sProp 𝕄) := by
  have hr := rem_step (f := wtime) hj hu (fun i' h => (wtime_inj (hu.trans h.symm) (hu.symm ▸ hp)).symm)
  have hn : j ∉ rem wtime d (u + 1) := rem_notMem hu
  unfold St
  rw [hr]
  iintro ⟨HO, HT, HC⟩
  ihave HC := (bs_ins hn) $$ HC
  icases HC with ⟨Hc, HC⟩
  isplitl [Hc]; · iexact Hc
  isplitl [HO]; · iexact HO
  isplitl [HT]; · iexact HT
  iexact HC

theorem St_eq {d : Dev nD} {t t' u u' : ℕ} (h : rem time d t = rem time d t') (h' : rem wtime d u = rem wtime d u') :
    (St d t u : sProp 𝕄) = St d t' u' := by
  unfold St Ow; rw [h, h']

/-! ## What every device knows -/

variable (K : Dev nD × Option Sd → ℕ) (ιs : Dev nD × Fin 4 × Fin 3 → ℕ)

/-- The invariants, the rounds reached at the start, the slots' invariants, the levels. -/
def Ctx : sProp 𝕄 :=
  iprop((bigSep Finset.univ fun p => cellInv ER (Rd xin win) (K p) (cell p.1 p.2))
    ∗ (bigSep Finset.univ fun p : Dev nD × Option Sd => reached ER (cell p.1 p.2) 0)
    ∗ (bigSep Finset.univ fun x => slotInv ES (ιs x) x (ownsE x.1 (slotM x.2.1 x.2.2)))
    ∗ levAts (SiteBlocks.L 101) SiteBlocks.lv)
instance Ctx_pers : BI.Persistent (Ctx xin win K ιs) := by unfold Ctx; infer_instance

theorem ctx_inv (c : Dev nD) (κ : Option Sd) : Ctx xin win K ιs ⊢ (cellInv ER (Rd xin win) (K (c, κ)) (cell c κ) : sProp 𝕄) := by
  unfold Ctx
  iintro ⟨#H, -⟩
  iapply (bs_elim (i := (c, κ)) (Finset.mem_univ _) (Φ := fun p => cellInv ER (Rd xin win) (K p) (cell p.1 p.2)))
  iexact H
theorem ctx_reached (c : Dev nD) (κ : Option Sd) : Ctx xin win K ιs ⊢ (reached ER (cell c κ) 0 : sProp 𝕄) := by
  unfold Ctx
  iintro ⟨-, #H, -⟩
  iapply (bs_elim (i := (c, κ)) (Finset.mem_univ _) (Φ := fun p : Dev nD × Option Sd => reached ER (cell p.1 p.2) 0))
  iexact H
theorem ctx_slot (x : Dev nD × Fin 4 × Fin 3) : Ctx xin win K ιs ⊢ (slotInv ES (ιs x) x (ownsE x.1 (slotM x.2.1 x.2.2)) : sProp 𝕄) := by
  unfold Ctx
  iintro ⟨-, -, #H, -⟩
  iapply (bs_elim (i := x) (Finset.mem_univ _) (Φ := fun x => slotInv ES (ιs x) x (ownsE x.1 (slotM x.2.1 x.2.2))))
  iexact H
theorem ctx_may (d : Dev nD) (sm : SemLoc sig) (ι t : ℕ) (hι : ι < 101) (h : ∀ i ∈ rem time d t, ι < lev i) :
    Ctx xin win K ιs ⊢ (MayWait (d : Thread nD τ) sm ι (Ow d t) : sProp 𝕄) := by
  unfold Ctx
  iintro ⟨-, -, -, #H⟩
  iapply (SiteBlocks.mayWait_of (N := 101) hι d sm (Ow d t) (fun g k hp => by
    obtain ⟨i, hi, rfl, rfl⟩ := Ow_pos hp
    exact ⟨SiteBlocks.mem_L' rfl (lev_lt i), h i hi⟩))
  iexact H

/-! ## The steps -/

variable (Kt : PUnit.{1} → sProp (MT nD τ sig ℕ (Elt F) ℕ UU ℕ))

theorem signal_step {d : Dev nD} {i : Py} {t u : ℕ} (hi : ok d i) (ht : time i = t) (ha : amt i = 1) {c' : Dev nD} (hc : c' = tgt d i) {sem : Sem sig}
    (hs : csem (akd d i) = .reg sem) {k : PUnit → Pg F PUnit} :
    iprop(Ctx xin win K ιs ∗ St d t u ∗ apay xin win d i ∗ reached ER (cell (tgt d i) (akd d i)) (ard i))
      ⊢ iprop((St d (t + 1) u -∗ wpc d (k ⟨⟩) Kt) -∗ wpc d (Prog.bind (semSignalWord c' sem 1#32) k) Kt) := by
  subst hc
  have hg : cell (tgt d i) (akd d i) = ((tgt d i : Thread nD τ), .reg sem) := by unfold cell; rw [hs]
  have hd := mem_arr xin win d i hi
  have hp := (Entails.of_eq (payload_arr xin win d i (ard i)).symm)
  have hI := ctx_inv xin win K ιs (tgt d i) (akd d i)
  have hO := pay_open (F := F) (t := t) (u := u) hi ht
  rw [show tok (F := F) d i = iprop(dutyTok ER (cell (tgt d i) (akd d i)) (ard i) (d, i) ∗ dtok (F := F) d i ∗ wtok (F := F) d i) from rfl] at hO
  rw [ha] at hO
  rw [hg] at hd hp hI hO
  rw [hg]
  rw [show Prog.bind (semSignalWord (tgt d i) sem 1#32 : Pg F PUnit) k = .op (.semSignal (tgt d i : Thread nD τ) sem ((1 : ℕ) : ℤ)) k from rfl]
  iintro ⟨#Hc, HS, Hp, #Hr⟩ Hk
  ihave HS := hO $$ HS
  icases HS with ⟨⟨%W, HO⟩, ⟨Ht, -, -⟩, HT, HC⟩
  ihave #HI := hI $$ Hc
  ihave Hp := hp $$ Hp
  iapply (Rounds.wp_signal 𝒱₀ ER (Rd xin win) (d : Thread nD τ) none (dst := (tgt d i : Thread nD τ)) (κ := K (tgt d i, akd d i))
      (d := (d, i)) (r := ard i) (k' := 1) hd ha (lev i) (Ow d (t + 1)) rfl) $$ [HO Ht Hp]
  · isplitr; · iexact HI
    isplitl [HO]; · iexact HO
    isplitl [Ht]; · iexact Ht
    isplitl [Hp]; · iexact Hp
    iexact Hr
  iintro HO
  iapply Hk
  unfold St
  isplitl [HO]; · iexists W; iexact HO
  isplitl [HT]; · iexact HT
  iexact HC

theorem send_step {d : Dev nD} {i : Py} {t u : ℕ} (hi : ok d i) (ht : time i = t) (hn : dkd i ≠ none) {c' : Dev nD} (hc : c' = tgt d i)
    {sp sp' : Space} {s : Shape} {e : EltTy} {src : Memref sig .tc sp s e} {dst : Memref sig .tc sp' s e}
    {sS sR : SemLoc sig} (hsS : sS = csem (dkd i)) (hsR : sR = csem (akd d i))
    {hsc : (dst : Memref sig (Dev.tc c' : Thread nD τ).2.kind sp' s e).view.ref.isScScratch = false} {hsrc : src.view.WordExact} {hdst : dst.view.WordExact}
    {hsem : DmaTarget.Typed sp sR (.remote (Dev.tc c' : Thread nD τ) dst sS hsc)} {k : PUnit → Pg F PUnit}
    (hN : dst.view.amount sR = amt i) {q : PosShare TreeShare} {X : s.Idx → Elt F e} {R : sProp 𝕄}
    (hp1 : ownsV d src q X ⊢ dpay xin win d i) (hp2 : ownsV (tgt d i) dst fullShare X ⊢ apay xin win d i)
    (hR : iprop(R ∗ wtok d i) ⊢ |={Set.univ}=> ownsE (tgt d i) dst) :
    iprop(Ctx xin win K ιs ∗ St d t u ∗ ownsV d src q X ∗ R ∗ reached ER (cell (tgt d i) (akd d i)) (ard i) ∗ reached ER (cell d (dkd i)) (drd i))
      ⊢ iprop(((cred (tallyAt (cell d (dkd i)) 0 (amt i)) ∗ St d (t + 1) u) -∗ wpc d (k ⟨⟩) Kt)
        -∗ wpc d (Prog.bind (Prog.lift (.enqueueDma src (.remote (Dev.tc c' : Thread nD τ) dst sS hsc) sR hsrc hdst hsem)) k) Kt) := by
  subst hc hsS hsR
  rw [lift_bind]
  have hdt : dtok (F := F) d i = dutyTok ER (cell d (dkd i)) (drd i) (d, i) := by unfold dtok; rw [if_neg hn]
  iintro ⟨#Hc, HS, Hsrc, HR, #Hr, #Hr'⟩ Hk
  ihave HS := (pay_open hi ht) $$ HS
  icases HS with ⟨⟨%W, HO⟩, Ht, HT, HC⟩
  unfold tok
  rw [hdt]
  icases Ht with ⟨Ht, Ht', Hw⟩
  ihave #HI := (ctx_inv xin win K ιs (tgt d i) (akd d i)) $$ Hc
  ihave #HI' := (ctx_inv xin win K ιs d (dkd i)) $$ Hc
  imod hR $$ [HR Hw] with Hdst
  · isplitl [HR]; · iexact HR
    iexact Hw
  ihave Hsrc := (show ownsV d src q X ⊢ iprop(∃ f, ⌜src.view.read (Elt F) f = X⌝ ∗ (src.view.loc (d : Thread nD τ) ↦[src.view.set]{q} f)) from .rfl) $$ Hsrc
  icases Hsrc with ⟨%fs, %hfs, Hsrc⟩
  ihave Hdst := (show ownsE (tgt d i) dst ⊢ iprop(∃ (X' : s.Idx → Elt F e) (f : _), ⌜dst.view.read (Elt F) f = X'⌝ ∗ (dst.view.loc (tgt d i : Thread nD τ) ↦[dst.view.set]{fullShare} f)) from .rfl) $$ Hdst
  icases Hdst with ⟨%X', %fd, -, Hdst⟩
  have h1 : (src.view.loc (d : Thread nD τ) ↦[src.view.set]{q} fs) ⊢ ownsV d src q X := by
    unfold ownsV owns
    iintro H; iexists fs; isplitr; · ipureintro; exact hfs
    iexact H
  have h2 : (dst.view.loc (tgt d i : Thread nD τ) ↦[dst.view.set]{fullShare} (dst.view.write (Elt F) fd (src.view.read (Elt F) fs) Finset.univ))
      ⊢ ownsV (tgt d i) dst fullShare X := by
    unfold ownsV owns
    iintro H; iexists (dst.view.write (Elt F) fd (src.view.read (Elt F) fs) Finset.univ)
    isplitr; · ipureintro; rw [View.read_write_univ]; exact hfs
    iexact H
  iapply (Rounds.wp_send_pointsTo 𝒱₀ ER (Rd xin win) (d : Thread nD τ) none (κ₁ := K (d, dkd i)) (κ₂ := K (tgt d i, akd d i))
      (r₁ := drd i) (r₂ := ard i) (d₁ := (d, i)) (d₂ := (d, i)) (fs := fs) (fd := fd) (q := q)
      (mem_dep xin win d i hi hn) (mem_arr xin win d i hi) (lev i) 0 (amt i) hN rfl rfl (Ow d (t + 1)) rfl (W := W)
(h1.trans (hp1.trans (Entails.of_eq (payload_dep xin win d i hn (drd i)).symm))) (h2.trans (hp2.trans (Entails.of_eq (payload_arr xin win d i (ard i)).symm)))) $$ [HO Ht Ht' Hsrc Hdst]
  · isplitr; · iexact HI'
    isplitr; · iexact HI
    isplitl [Hsrc]; · iexact Hsrc
    isplitl [Hdst]; · iexact Hdst
    isplitl [HO]; · iexact HO
    isplitl [Ht']; · iexact Ht'
    isplitr; · iexact Hr'
    isplitl [Ht]; · iexact Ht
    iexact Hr
  iintro ⟨Hcr, HO⟩
  iapply Hk
  isplitl [Hcr]; · iexact Hcr
  unfold St
  isplitl [HO]; · iexists W; iexact HO
  isplitl [HT]; · iexact HT
  iexact HC

theorem expect_one {g : GSem nD τ sig} {r : ℕ} {p : Dev nD × Py} (h : (Rd xin win).duties g r = {p}) : (Rd xin win).expect g r = amt p.2 := by
  unfold Schedule.expect Schedule.amountOf; rw [h, Finset.sum_singleton]; rfl

theorem wait_dma {d : Dev nD} {κ : Option Sd} {r : ℕ} {p : Dev nD × Py} {ι t u : ℕ} {sem : DmaSem sig} (hs : SemLoc.dma sem = csem κ)
    (hduty : (Rd xin win).duties (cell d κ) r = {p}) {sp sp' : Space} {s s' : Shape} {e e' : EltTy} {src : Memref sig .tc sp' s' e'} {dst : Memref sig .tc sp s e}
    {hsrc : src.view.WordExact} {hdst : dst.view.WordExact} (hN : dst.view.dmaCredit = amt p.2) (hι : ι < 101) (hl : ∀ i ∈ rem time d t, ι < lev i)
    {k : PUnit → Pg F PUnit} :
    iprop(Ctx xin win K ιs ∗ cred (tallyAt (cell d κ) ι (amt p.2)) ∗ atPos ER (cell d κ) r ∅ 0 ∗ St d t u)
      ⊢ iprop(((St d t u ∗ atPos ER (cell d κ) (r + 1) ∅ 0 ∗ reached ER (cell d κ) (r + 1) ∗ (Rd xin win).payload (cell d κ) r p) -∗ wpc d (k ⟨⟩) Kt)
        -∗ wpc d (Prog.bind (Prog.lift (.waitDma2 sem src dst hsrc hdst)) k) Kt) := by
  rw [lift_bind]
  have hg : cell d κ = ((d : Thread nD τ), .dma sem) := by unfold cell; rw [hs]
  have hI := ctx_inv xin win K ιs d κ
  have he := expect_one xin win hduty
  have hb : bigSep ((Rd xin win).duties (cell d κ) r \ ∅) (fun p => (Rd xin win).payload (cell d κ) r p) ⊢ (Rd xin win).payload (cell d κ) r p :=
    Entails.of_eq (by rw [Finset.sdiff_empty, hduty, bigSep_singleton])
  rw [hg] at hI he hduty hb
  rw [hg]
  unfold St
  iintro ⟨#Hc, Hcr, Hat, ⟨%W, HO⟩, HT, HC⟩ Hk
  ihave #HI := hI $$ Hc
  ihave #HM := (ctx_may xin win K ιs d (.dma sem) ι t hι hl) $$ Hc
  iapply (Rounds.wp_wait_rest_token 𝒱₀ ER (Rd xin win) (d : Thread nD τ) none (κ := K (d, κ))
      (wpE_waitDma2_eq 𝒱₀ (d : Thread nD τ) none Set.univ) (Set.mem_univ _) ι (O := Ow d t) (W := W) (R := r) (m := 0) (T := ∅)
      (by rw [Nat.zero_add, he, hN])) $$ [Hcr HO Hat]
  · isplitr; · iexact HI
    rw [hN]
    isplitl [Hcr]; · iexact Hcr
    isplitl [HO]; · iexact HO
    isplitr; · iexact HM
    iexact Hat
  iintro ⟨HO, Hat, Hr, Hp⟩
  iapply Hk
  isplitl [HO HT HC]
  · isplitl [HO]; · iexists _; iexact HO
    isplitl [HT]; · iexact HT
    iexact HC
  isplitl [Hat]; · iexact Hat
  isplitl [Hr]; · iexact Hr
  iapply hb
  iexact Hp

end Cert.KernelIdeal.Pf
-- ==== Proof.Waits.lean ====
/-
  The duties of each semaphore's rounds; the barrier's wait and the credits' waits.
-/
module

public import proofs.«01_k».proof.Proof.Steps

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

variable (xin : Dev nD → Vec F S4096x256 .bf16) (win : Dev nD → Vec F S256x8192 .bf16)
variable (K : Dev nD × Option Sd → ℕ) (ιs : Dev nD × Fin 4 × Fin 3 → ℕ)

/-! ## Which duties a semaphore's round has -/

theorem peer_eq {k : Fin 4} {d c : Dev nD} : c = peer k d ↔ d = back k c :=
  ⟨fun h => by rw [h, back_peer], fun h => by rw [h, peer_back]⟩
theorem back_eq {k : Fin 4} {d c : Dev nD} : c = back k d ↔ d = peer k c :=
  ⟨fun h => by rw [h, peer_back], fun h => by rw [h, back_peer]⟩
theorem sl_eq {a b : ℕ} (h : sl a = sl b) (h' : a / 3 = b / 3) : a = b := by
  have := congrArg Fin.val h
  change a % 3 = b % 3 at this
  omega
theorem sl_eq0 {a : ℕ} (h : sl a = 0) (h' : a / 3 = 0) : a = 0 := by
  have := congrArg Fin.val h
  change a % 3 = 0 at this
  omega

theorem du_xr {c : Dev nD} {q : Fin 16} (h : q ≠ c) : (Rd xin win).duties (cell c (some (.xr q))) 0 = {(q, .xs c)} := by
  ext ⟨d, i⟩
  rw [mem_duties, Finset.mem_singleton]
  cases i <;> simp only [ok, tgt, akd, ard, dkd, drd, Prod.mk.injEq, Option.some.injEq, reduceCtorEq, Sd.xr.injEq, Py.xs.injEq, ne_eq, not_false_eq_true, true_and, and_true, false_and, and_false, or_false, false_or, iff_false, iff_true]
  constructor
  · rintro ⟨h1, h2, h3⟩; exact ⟨h3.symm, h2.symm⟩
  · rintro ⟨h1, h2⟩; subst h1 h2; exact ⟨fun e => h e.symm, rfl, rfl⟩
theorem du_ra {c : Dev nD} {q : Fin 16} (h : q ≠ c) : (Rd xin win).duties (cell c (some (.ra q))) 0 = {(q, .am c)} := by
  ext ⟨d, i⟩
  rw [mem_duties, Finset.mem_singleton]
  cases i <;> simp only [ok, tgt, akd, ard, dkd, drd, Prod.mk.injEq, Option.some.injEq, reduceCtorEq, Sd.ra.injEq, Py.am.injEq, ne_eq, not_false_eq_true, true_and, and_true, false_and, and_false, or_false, false_or, iff_false, iff_true]
  constructor
  · rintro ⟨h1, h2, h3⟩; exact ⟨h3.symm, h2.symm⟩
  · rintro ⟨h1, h2⟩; subst h1 h2; exact ⟨fun e => h e.symm, rfl, rfl⟩
theorem du_xs {c : Dev nD} {q : Fin 16} (h : q ≠ c) : (Rd xin win).duties (cell c (some (.xs q))) 0 = {(c, .xs q)} := by
  ext ⟨d, i⟩
  rw [mem_duties, Finset.mem_singleton]
  cases i <;> simp only [ok, tgt, akd, ard, dkd, drd, Prod.mk.injEq, Option.some.injEq, reduceCtorEq, Sd.xs.injEq, Py.xs.injEq, ne_eq, not_false_eq_true, true_and, and_true, false_and, and_false, or_false, false_or, iff_false, iff_true]
  constructor
  · rintro ⟨h1, h2, h3⟩; exact ⟨h2.symm, h3.symm⟩
  · rintro ⟨h1, h2⟩; subst h1 h2; exact ⟨h, rfl, rfl⟩
theorem du_sa {c : Dev nD} {q : Fin 16} (h : q ≠ c) : (Rd xin win).duties (cell c (some (.sa q))) 0 = {(c, .am q)} := by
  ext ⟨d, i⟩
  rw [mem_duties, Finset.mem_singleton]
  cases i <;> simp only [ok, tgt, akd, ard, dkd, drd, Prod.mk.injEq, Option.some.injEq, reduceCtorEq, Sd.sa.injEq, Py.am.injEq, ne_eq, not_false_eq_true, true_and, and_true, false_and, and_false, or_false, false_or, iff_false, iff_true]
  constructor
  · rintro ⟨h1, h2, h3⟩; exact ⟨h2.symm, h3.symm⟩
  · rintro ⟨h1, h2⟩; subst h1 h2; exact ⟨h, rfl, rfl⟩
theorem du_ini {c : Dev nD} {k : Fin 4} : (Rd xin win).duties (cell c (some (.ini k))) 0 = {(c, .ini k)} := by
  ext ⟨d, i⟩
  rw [mem_duties, Finset.mem_singleton]
  cases i <;> simp only [ok, tgt, akd, ard, dkd, drd, Prod.mk.injEq, Option.some.injEq, reduceCtorEq, Sd.ini.injEq, Py.ini.injEq, ne_eq, not_false_eq_true, true_and, and_true, false_and, and_false, or_false, false_or, iff_false, iff_true]
  constructor
  · rintro ⟨h1, h2⟩; exact ⟨h1.symm, h2.symm⟩
  · rintro ⟨h1, h2⟩; subst h1 h2; exact ⟨rfl, rfl⟩
theorem du_fwd {c : Dev nD} {k : Fin 4} (h : Fin 14) : (Rd xin win).duties (cell c (some (.fwd k))) h.val = {(c, .fwd k h)} := by
  ext ⟨d, i⟩
  rw [mem_duties, Finset.mem_singleton]
  cases i <;> simp only [ok, tgt, akd, ard, dkd, drd, Prod.mk.injEq, Option.some.injEq, reduceCtorEq, Sd.fwd.injEq, Py.fwd.injEq, ne_eq, not_false_eq_true, true_and, and_true, false_and, and_false, or_false, false_or, iff_false, iff_true]
  constructor
  · rintro ⟨h1, h2, h3⟩; exact ⟨h1.symm, h2.symm, (Fin.ext h3).symm⟩
  · rintro ⟨h1, h2, h3⟩; subst h1 h2 h3; exact ⟨rfl, rfl, rfl⟩
theorem du_rv0 {c : Dev nD} {k : Fin 4} : (Rd xin win).duties (cell c (some (.rv k 0))) 0 = {(back k c, .ini k)} := by
  ext ⟨d, i⟩
  rw [mem_duties, Finset.mem_singleton]
  cases i <;> simp only [ok, tgt, akd, ard, dkd, drd, Prod.mk.injEq, Option.some.injEq, reduceCtorEq, Sd.rv.injEq, Py.ini.injEq, ne_eq, not_false_eq_true, true_and, and_true, false_and, and_false, or_false, false_or, iff_false, iff_true]
  · constructor
    · rintro ⟨h1, h2⟩; subst h2; exact ⟨peer_eq.mp h1, rfl⟩
    · rintro ⟨h1, h2⟩; subst h2; exact ⟨peer_eq.mpr h1, rfl⟩
  · rintro ⟨h1, ⟨h2, h3⟩, h4⟩
    have := sl_eq0 h3.symm h4.symm
    omega
theorem du_rv {c : Dev nD} {k : Fin 4} (h : Fin 14) :
    (Rd xin win).duties (cell c (some (.rv k (sl (h.val + 1))))) ((h.val + 1) / 3) = {(back k c, .fwd k h)} := by
  ext ⟨d, i⟩
  rw [mem_duties, Finset.mem_singleton]
  cases i <;> simp only [ok, tgt, akd, ard, dkd, drd, Prod.mk.injEq, Option.some.injEq, reduceCtorEq, Sd.rv.injEq, Py.fwd.injEq, ne_eq, not_false_eq_true, true_and, and_true, false_and, and_false, or_false, false_or, iff_false, iff_true]
  · rintro ⟨h1, ⟨h2, h3⟩, h4⟩
    have := sl_eq0 h3 h4
    omega
  · constructor
    · rintro ⟨h1, ⟨h2, h3⟩, h4⟩
      have h5 := sl_eq h3 h4
      subst h2
      exact ⟨peer_eq.mp h1, rfl, Fin.ext (by omega)⟩
    · rintro ⟨h1, h2, h3⟩; subst h2 h3; exact ⟨peer_eq.mpr h1, ⟨rfl, rfl⟩, rfl⟩
theorem du_bar {c : Dev nD} : (Rd xin win).duties (cell c none) 0 = (Finset.univ.erase c).image fun q : Fin 16 => ((q : Dev nD), Py.bar c) := by
  ext ⟨d, i⟩
  rw [mem_duties, Finset.mem_image]
  cases i <;> simp only [ok, tgt, akd, ard, dkd, drd, Prod.mk.injEq, Option.some.injEq, reduceCtorEq, Py.bar.injEq, ne_eq, not_true_eq_false, not_false_eq_true, true_and, and_true, false_and, and_false, or_false, false_or, iff_false, iff_true, Finset.mem_erase, Finset.mem_univ, exists_false, not_exists]
  constructor
  · rintro ⟨h1, h2⟩; subst h2; exact ⟨d, fun e => h1 e.symm, rfl, rfl⟩
  · rintro ⟨q, h1, h2, h3⟩; subst h2 h3; exact ⟨fun e => h1 e.symm, rfl⟩
theorem du_cr {c : Dev nD} {k : Fin 4} : (Rd xin win).duties (cell c (some (.cr k))) 0 = Finset.univ.image fun j : Fin 12 => (peer k c, Py.cr k j) := by
  ext ⟨d, i⟩
  rw [mem_duties, Finset.mem_image]
  cases i <;> simp only [ok, tgt, akd, ard, dkd, drd, Prod.mk.injEq, Option.some.injEq, reduceCtorEq, Sd.cr.injEq, Py.cr.injEq, ne_eq, not_false_eq_true, true_and, and_true, false_and, and_false, or_false, false_or, iff_false, iff_true, Finset.mem_univ, exists_false, not_exists]
  constructor
  · rintro ⟨h1, h2⟩; subst h2; exact ⟨_, (back_eq.mp h1).symm, rfl, rfl⟩
  · rintro ⟨j, h1, h2, h3⟩; subst h2 h3; exact ⟨back_eq.mpr h1.symm, rfl⟩

/-- The rounds a semaphore has. -/
def fin (c : Dev nD) : Option Sd → ℕ
  | some (.xs q) => if q = c then 0 else 1
  | some (.xr q) => if q = c then 0 else 1
  | some (.sa q) => if q = c then 0 else 1
  | some (.ra q) => if q = c then 0 else 1
  | some (.fwd _) => 14
  | some (.rv _ _) => 5
  | _ => 1
theorem du_fin {c : Dev nD} {κ : Option Sd} {r : ℕ} (h : fin c κ ≤ r) : (Rd xin win).duties (cell c κ) r = ∅ := by
  refine Finset.eq_empty_of_forall_notMem ?_
  rintro ⟨d, i⟩ hm
  rw [mem_duties] at hm
  obtain ⟨ho, ⟨rfl, rfl, rfl⟩ | ⟨rfl, rfl, hn, rfl⟩⟩ := hm
  · cases i <;> simp only [fin, akd, ard, tgt, ok] at h ho <;> try omega
    · rw [if_neg (fun e => ho e.symm)] at h; omega
    · rw [if_neg (fun e => ho e.symm)] at h; omega
  · cases i <;> simp only [fin, dkd, drd, ok, ne_eq, not_true_eq_false] at h ho hn <;> try omega
    · rw [if_neg ho] at h; omega
    · rw [if_neg ho] at h; omega

/-! ## The barrier's wait -/

theorem tally_card {α : Type} [DecidableEq α] (g : GSem nD τ sig) (ι : ℕ) (s : Finset α) :
    ∑ _x ∈ s, (tallyAt g ι 1 : CellTallies nD τ sig ℕ) = tallyAt g ι s.card := by
  induction s using Finset.induction_on with
  | empty => rw [Finset.sum_empty, Finset.card_empty, tallyAt_zero]
  | insert a s ha ih => rw [Finset.sum_insert ha, ih, tallyAt_add, Finset.card_insert_of_notMem ha, add_comm]

/-- The payments of a device's barrier. -/
def bars (c : Dev nD) : Finset Py := (Finset.univ.erase c).image fun q : Fin 16 => Py.bar q
theorem bars_card (c : Dev nD) : (bars c).card = 15 := by
  unfold bars
  rw [Finset.card_image_of_injective _ (fun a b h => by cases h; rfl), Finset.card_erase_of_mem (Finset.mem_univ _), Finset.card_univ]
  rfl
theorem rem_bar (c : Dev nD) : rem wtime c 0 = bars c ∪ rem wtime c 1 := by
  ext i
  rw [Finset.mem_union, mem_rem, mem_rem]
  unfold bars
  rw [Finset.mem_image]
  cases i <;> simp only [ok, wtime, Nat.zero_le, and_true, true_and, Finset.mem_erase, Finset.mem_univ, ne_eq, Py.bar.injEq, exists_eq_right, reduceCtorEq, and_false, exists_false, false_or, or_false, true_iff, iff_true] <;> omega
theorem bar_disj (c : Dev nD) : Disjoint (bars c) (rem wtime c 1) := by
  rw [Finset.disjoint_left]
  intro i hi hi'
  unfold bars at hi
  obtain ⟨q, -, rfl⟩ := Finset.mem_image.mp hi
  rw [mem_rem] at hi'
  simp only [wtime] at hi'
  omega
theorem bar_cred (c : Dev nD) : (bigSep (bars c) (wcr c) : sProp 𝕄) ⊢ cred (tallyAt (cell c none) 1 15) := by
  have h1 : ∀ i ∈ bars c, (wcr c i : sProp 𝕄) = cred (tallyAt (cell c none) 1 1) := by
    intro i hi
    unfold bars at hi
    obtain ⟨q, -, rfl⟩ := Finset.mem_image.mp hi
    rfl
  rw [BI.bigSep_congr h1, ← Pipeline.cred_finsetSum, tally_card, bars_card]

theorem rem_time_bar {c : Dev nD} {i : Py} (h : i ∈ rem time c 16) : 1 < lev i := by
  rw [mem_rem] at h
  obtain ⟨-, h⟩ := h
  cases i <;> simp only [time] at h <;> simp only [lev] <;> omega

variable (Kt : PUnit.{1} → sProp (MT nD τ sig ℕ (Elt F) ℕ UU ℕ))

/-- The barrier's wait: every other device's column, row and slots. -/
theorem bar_step {c : Dev nD} {k : Pg F PUnit} :
    iprop(Ctx xin win K ιs ∗ atPos ER (cell c none) 0 ∅ 0 ∗ St c 16 0)
      ⊢ iprop(((St c 16 1 ∗ atPos ER (cell c none) 1 ∅ 0 ∗ bigSep (Finset.univ.erase c) (fun q : Fin 16 => apay xin win q (.bar c))) -∗ wpc c k Kt)
        -∗ wpc c (barW k) Kt) := by
  have hexp : (Rd xin win).expect (cell c none) 0 = 15 := by
    unfold Schedule.expect Schedule.amountOf
    rw [du_bar, Finset.sum_image (fun a _ b _ h => by cases h; rfl)]
    show ∑ _x ∈ Finset.univ.erase c, 1 = 15
    rw [Finset.sum_const, Finset.card_erase_of_mem (Finset.mem_univ _), Finset.card_univ]; rfl
  have hb : bigSep ((Rd xin win).duties (cell c none) 0 \ ∅) (fun p => (Rd xin win).payload (cell c none) 0 p)
      ⊢ bigSep (Finset.univ.erase c) (fun q : Fin 16 => apay xin win q (.bar c)) := by
    refine Entails.of_eq ?_
    rw [Finset.sdiff_empty, du_bar, BI.bigSep_image_of_injOn (fun a _ b _ h => by cases h; rfl)]
    exact BI.bigSep_congr fun q _ => payload_arr xin win q (.bar c) 0
  rw [show (barW k : Pg F PUnit) = .op (.semWait barS ((15 : ℕ) : ℤ)) (fun _ => k) from rfl]
  have hcr := bar_cred (F := F) c
  have hI := ctx_inv xin win K ιs c none
  rw [show cell c none = ((c : Thread nD τ), SemLoc.reg barS) from rfl] at hexp hb hcr hI
  rw [show cell c none = ((c : Thread nD τ), SemLoc.reg barS) from rfl]
  unfold St
  rw [rem_bar, BI.bigSep_union (bar_disj c)]
  iintro ⟨#Hc, Hat, ⟨%W, HO⟩, HT, HC⟩ Hk
  ihave HC := (show BI.sep (bigSep (bars c) (wcr c)) (bigSep (rem wtime c 1) (wcr c)) ⊢ (iprop(bigSep (bars c) (wcr c) ∗ bigSep (rem wtime c 1) (wcr c)) : sProp 𝕄) from .rfl) $$ HC
  icases HC with ⟨HB, HC⟩
  ihave HB := hcr $$ HB
  ihave #HI := hI $$ Hc
  ihave #HM := (ctx_may xin win K ιs c (.reg barS) 1 16 (by decide) (fun i => rem_time_bar)) $$ Hc
  iapply (Rounds.wp_wait_rest_token 𝒱₀ ER (Rd xin win) (c : Thread nD τ) none (κ := K (c, none))
      (wpE_semWait_eq 𝒱₀ (c : Thread nD τ) none Set.univ) (Set.mem_univ _) 1 (O := Ow c 16) (W := W) (R := 0) (m := 0) (T := ∅)
      (by rw [Nat.zero_add, hexp])) $$ [HB HO Hat]
  · isplitr; · iexact HI
    isplitl [HB]; · iexact HB
    isplitl [HO]; · iexact HO
    isplitr; · iexact HM
    iexact Hat
  iintro ⟨HO, Hat, -, Hp⟩
  iapply Hk
  isplitl [HO HT HC]
  · isplitl [HO]; · iexists _; iexact HO
    isplitl [HT]; · iexact HT
    iexact HC
  isplitl [Hat]; · iexact Hat
  iapply hb
  iexact Hp

/-! ## The credits' waits -/

/-- After `n` credits. -/
def CR (c : Dev nD) (k : Fin 4) (n : ℕ) : sProp 𝕄 :=
  if n = 12 then atPos ER (cell c (some (.cr k))) 1 ∅ 0
  else iprop(∃ T, ⌜T ⊆ (Rd xin win).duties (cell c (some (.cr k))) 0⌝ ∗ atPos ER (cell c (some (.cr k))) 0 T n
    ∗ bigSep T (fun p => (Rd xin win).payload (cell c (some (.cr k))) 0 p))

theorem Ready_mono {d : Dev nD} {k : Fin 4} {n n' : ℕ} (h : n ≤ n') : (Ready d k n' : sProp 𝕄) ⊢ Ready d k n := by
  unfold Ready
  exact BI.bigSep_subset (Finset.range_mono h)

theorem cr_card {c : Dev nD} {k : Fin 4} : ((Rd xin win).duties (cell c (some (.cr k))) 0).card = 12 := by
  rw [du_cr, Finset.card_image_of_injective _ (fun a b h => by cases h; rfl), Finset.card_univ]; rfl
theorem cr_expect {c : Dev nD} {k : Fin 4} : (Rd xin win).expect (cell c (some (.cr k))) 0 = 12 := by
  unfold Schedule.expect Schedule.amountOf
  rw [du_cr, Finset.sum_image (fun a _ b _ h => by cases h; rfl)]
  show ∑ _x ∈ (Finset.univ : Finset (Fin 12)), 1 = 12
  rw [Finset.sum_const, Finset.card_univ]; rfl

/-- Among more than `n` credits one is the `n`-th or later. -/
theorem cr_ready {c : Dev nD} {k : Fin 4} {n : ℕ} {S : Finset (Dev nD × Py)} (hS : S ⊆ (Rd xin win).duties (cell c (some (.cr k))) 0) (hn : n < S.card) :
    bigSep S (fun p => (Rd xin win).payload (cell c (some (.cr k))) 0 p) ⊢ (Ready (peer k c) k (n + 4) : sProp 𝕄) := by
  obtain ⟨j, hj, hjn⟩ : ∃ j : Fin 12, (peer k c, Py.cr k j) ∈ S ∧ n ≤ j.val := by
    by_contra hno
    push Not at hno
    have hsub : S ⊆ (Finset.univ.filter fun j : Fin 12 => j.val < n).image fun j => (peer k c, Py.cr k j) := by
      intro p hp
      have := hS hp
      rw [du_cr, Finset.mem_image] at this
      obtain ⟨j, -, rfl⟩ := this
      exact Finset.mem_image_of_mem _ (Finset.mem_filter.mpr ⟨Finset.mem_univ _, hno j hp⟩)
    have h1 := (Finset.card_le_card hsub).trans Finset.card_image_le
    have h2 : (Finset.univ.filter fun j : Fin 12 => j.val < n).card ≤ n := by
      have : ((Finset.univ.filter fun j : Fin 12 => j.val < n).image Fin.val) ⊆ Finset.range n := by
        intro x hx
        obtain ⟨j, hj, rfl⟩ := Finset.mem_image.mp hx
        exact Finset.mem_range.mpr (Finset.mem_filter.mp hj).2
      have h3 := Finset.card_le_card this
      rw [Finset.card_image_of_injective _ Fin.val_injective, Finset.card_range] at h3
      exact h3
    omega
  refine (bs_elim hj).trans ?_
  have := payload_arr xin win (peer k c) (.cr k j) 0
  rw [show cell (tgt (peer k c) (.cr k j)) (akd (peer k c) (.cr k j)) = cell c (some (.cr k)) from by show cell (back k (peer k c)) _ = _; rw [back_peer]] at this
  rw [this]
  exact Ready_mono (by omega)

theorem cr_step {c : Dev nD} {k : Fin 4} {n t u : ℕ} (hn : n < 12) (hu : wtime (.cr k ⟨n, hn⟩) = u) (hl : ∀ i ∈ rem time c t, 2 * n + 13 < lev i) {r : Pg F PUnit} :
    iprop(Ctx xin win K ιs ∗ CR xin win c k n ∗ St c t u)
      ⊢ iprop(((St c t (u + 1) ∗ CR xin win c k (n + 1) ∗ Ready (peer k c) k (n + 4)) -∗ wpc c r Kt) -∗ wpc c (waitC k r) Kt) := by
  have hup : 0 < u := by rw [← hu]; simp only [wtime]; omega
  rw [show (waitC k r : Pg F PUnit) = .op (.semWait (credA k).sem ((1 : ℕ) : ℤ)) (fun _ => r) from rfl]
  have hI := ctx_inv xin win K ιs c (some (.cr k))
  have hW := wait_open (F := F) (d := c) (j := .cr k ⟨n, hn⟩) (t := t) (u := u) trivial hu hup
  unfold St at hW
  rw [show (wcr c (.cr k ⟨n, hn⟩) : sProp 𝕄) = cred (tallyAt (cell c (some (.cr k))) (2 * n + 13) 1) from rfl] at hW
  have hcd := cr_card xin win (c := c) (k := k)
  have hex := cr_expect xin win (c := c) (k := k)
  have hrd := fun S => cr_ready xin win (c := c) (k := k) (n := n) (S := S)
  unfold CR
  rw [if_neg (by omega)]
  rw [show cell c (some (.cr k)) = ((c : Thread nD τ), SemLoc.reg (credA k).sem) from rfl] at hI hW hcd hex hrd
  rw [show cell c (some (.cr k)) = ((c : Thread nD τ), SemLoc.reg (credA k).sem) from rfl]
  unfold St
  iintro ⟨#Hc, ⟨%T, %hT, Hat, HT'⟩, HS⟩ Hk
  ihave HS := hW $$ HS
  icases HS with ⟨Hcr, ⟨%W, HO⟩, HT, HC⟩
  ihave #HI := hI $$ Hc
  ihave #HM := (ctx_may xin win K ιs c (.reg (credA k).sem) (2 * n + 13) t (by omega) hl) $$ Hc
  by_cases h11 : n = 11
  · subst h11
    have hall := hrd _ (Finset.Subset.refl _) (by rw [hcd]; decide)
    iapply (Rounds.wp_wait_rest_token 𝒱₀ ER (Rd xin win) (c : Thread nD τ) none (κ := K (c, some (.cr k)))
        (wpE_semWait_eq 𝒱₀ (c : Thread nD τ) none Set.univ) (Set.mem_univ _) (2 * 11 + 13) (O := Ow c t) (W := W) (R := 0) (m := 11) (T := T)
        (by rw [hex])) $$ [Hcr HO Hat]
    · isplitr; · iexact HI
      isplitl [Hcr]; · iexact Hcr
      isplitl [HO]; · iexact HO
      isplitr; · iexact HM
      iexact Hat
    iintro ⟨HO, Hat, -, Hp⟩
    iapply Hk
    isplitl [HO HT HC]
    · isplitl [HO]; · iexists _; iexact HO
      isplitl [HT]; · iexact HT
      iexact HC
    isplitl [Hat]
    · rw [if_pos rfl]; iexact Hat
    iapply hall
    iapply (show iprop(bigSep T (fun p => (Rd xin win).payload ((c : Thread nD τ), SemLoc.reg (credA k).sem) 0 p)
        ∗ bigSep ((Rd xin win).duties ((c : Thread nD τ), SemLoc.reg (credA k).sem) 0 \ T) (fun p => (Rd xin win).payload ((c : Thread nD τ), SemLoc.reg (credA k).sem) 0 p)) ⊢
        bigSep ((Rd xin win).duties ((c : Thread nD τ), SemLoc.reg (credA k).sem) 0) (fun p => (Rd xin win).payload ((c : Thread nD τ), SemLoc.reg (credA k).sem) 0 p) from Entails.of_eq (BI.bigSep_sdiff_split hT).symm)
    isplitl [HT']; · iexact HT'
    iexact Hp
  · iapply (Rounds.wp_wait 𝒱₀ ER (Rd xin win) (c : Thread nD τ) none (κ := K (c, some (.cr k)))
        (wpE_semWait_eq 𝒱₀ (c : Thread nD τ) none Set.univ) (Set.mem_univ _) (cr := Finsupp.single (2 * n + 13) 1) (O := Ow c t) (W := W)
        {(SemLoc.reg (credA k).sem, 2 * n + 13)} (R := 0) (m := n) (T := T) (k' := 1)
        (Util.total_single _ _) (image_single_subset _ _ 1)) $$ [Hcr HO Hat]
    · isplitr; · iexact HI
      isplitl [Hcr]; · iexact Hcr
      isplitl [HO]; · iexact HO
      isplitr; · iexact HM
      iexact Hat
    iintro %S ⟨%hS, HO, Hat, Hp⟩
    obtain ⟨hTS, hSd, hle⟩ := hS
    have hcS : n < S.card := by
      have h1 := Finset.card_sdiff_add_card_eq_card hSd
      omega
    have hall := hrd S hSd hcS
    iapply Hk
    isplitl [HO HT HC]
    · isplitl [HO]; · iexists _; iexact HO
      isplitl [HT]; · iexact HT
      iexact HC
    rw [if_neg (by omega)]
    ihave HpS := (show iprop(bigSep T (fun p => (Rd xin win).payload ((c : Thread nD τ), SemLoc.reg (credA k).sem) 0 p)
        ∗ bigSep (S \ T) (fun p => (Rd xin win).payload ((c : Thread nD τ), SemLoc.reg (credA k).sem) 0 p)) ⊢
        bigSep S (fun p => (Rd xin win).payload ((c : Thread nD τ), SemLoc.reg (credA k).sem) 0 p) from Entails.of_eq (BI.bigSep_sdiff_split hTS).symm) $$ [HT' Hp]
    · isplitl [HT']; · iexact HT'
      iexact Hp
    ihave HpR := (persistent_entails_right hall) $$ HpS
    icases HpR with ⟨HR, HpS⟩
    isplitl [Hat HpS]
    · iexists S
      isplitr; · ipureintro; exact hSd
      isplitl [Hat]; · iexact Hat
      iexact HpS
    iexact HR

end Cert.KernelIdeal.Pf
-- ==== Proof.Stream.lean ====
/-
  A stream of the ring: its state between hops, and the transfers of one hop.
-/
module

public import proofs.«01_k».proof.Proof.Waits

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

variable (xin : Dev nD → Vec F S4096x256 .bf16) (win : Dev nD → Vec F S256x8192 .bf16)
variable (K : Dev nD × Option Sd → ℕ) (ιs : Dev nD × Fin 4 × Fin 3 → ℕ)

/-- One member of a family moved on. -/
theorem bs_upd {I : Type} [DecidableEq I] {s : Finset I} {i : I} (hi : i ∈ s) {Φ Ψ : I → sProp 𝕄} (h : ∀ j ∈ s, j ≠ i → Φ j = Ψ j) :
    bigSep s Φ ⊢ iprop(Φ i ∗ (Ψ i -∗ bigSep s Ψ)) := by
  have he : bigSep s Ψ = iprop(Ψ i ∗ bigSep (s.erase i) Ψ) := by
    conv_lhs => rw [← Finset.insert_erase hi]
    exact BI.bigSep_insert (Finset.notMem_erase i s)
  have hc : bigSep (s.erase i) Φ = bigSep (s.erase i) Ψ :=
    BI.bigSep_congr fun j hj => h j (Finset.mem_of_mem_erase hj) (Finset.ne_of_mem_erase hj)
  have h1 : bigSep s Φ ⊢ iprop(Φ i ∗ bigSep (s.erase i) Φ) := by
    conv_lhs => rw [← Finset.insert_erase hi]
    exact bs_ins (Finset.notMem_erase i s)
  rw [he]
  rw [hc] at h1
  refine h1.trans ?_
  iintro ⟨H, HR⟩
  isplitl [H]; · iexact H
  iintro H
  isplitl [H]; · iexact H
  iexact HR

theorem St_t {d : Dev nD} {t u : ℕ} (h : ∀ i, ok d i → time i ≠ t) : (St d t u : sProp 𝕄) = St d (t + 1) u :=
  St_eq (rem_eq (Nat.le_succ _) fun i hi ht => Nat.lt_of_le_of_ne ht fun e => h i hi e.symm) rfl
theorem St_u {d : Dev nD} {t u : ℕ} (h : ∀ i, ok d i → wtime i ≠ u) : (St d t u : sProp 𝕄) = St d t (u + 1) :=
  St_eq rfl (rem_eq (Nat.le_succ _) fun i hi ht => Nat.lt_of_le_of_ne ht fun e => h i hi e.symm)

theorem whn_pos {b : Bool} (h : b = true) (p : Pg F PUnit → Pg F PUnit) (r : Pg F PUnit) : whn b p r = p r := by subst h; rfl
theorem whn_neg {b : Bool} (h : b = false) (p : Pg F PUnit → Pg F PUnit) (r : Pg F PUnit) : whn b p r = r := by subst h; rfl

theorem orig_back (c : Dev nD) (k : Fin 4) (h : ℕ) : orig (back k c) k h = orig c k (h + 1) := rfl
theorem back_back (c : Dev nD) (k : Fin 4) : peer k (back k c) = c := peer_back k c

/-- What is to pay before a hop is higher than what the hop waits for. -/
theorem hop_lev {c : Dev nD} {h : Fin 15} {k : Fin 4} {t : ℕ} (ht : 36 + 8 * h.val + 2 * ord k ≤ t) {i : Py} (hi : i ∈ rem time c t) :
    2 * h.val + 10 < lev i := by
  rw [mem_rem] at hi
  obtain ⟨-, hi⟩ := hi
  have := h.isLt
  cases i with
  | bar q => simp only [time] at hi; omega
  | xs q => simp only [time] at hi; omega
  | ini q => simp only [time] at hi; omega
  | fwd k' h' => have := ord_lt k'; simp only [time] at hi; simp only [lev]; omega
  | cr k' h' => have := ord_lt k'; simp only [time] at hi; simp only [lev]; omega
  | am q => simp only [lev]; omega

/-! ## A stream between hops -/

/-- The strip that hop `h` brings. -/
def HV (c : Dev nD) (k : Fin 4) (h : ℕ) : Vec F S256x2048 .bf16 := WS win (orig c k h) k
/-- The share of a hop's slot that the device keeps after the hop's transfers. -/
def SH (h : ℕ) : PosShare TreeShare := if h ≤ 13 then fullShare.right else fullShare
/-- What hop `h` leaves: the slot, its arrival known, and the forward's receipt to come. -/
def Fl (c : Dev nD) (k : Fin 4) (h : ℕ) : sProp 𝕄 :=
  iprop(ownsV c (slotM k (sl h)) (SH h) (HV win c k h) ∗ reached ER (cell c (some (.rv k (sl h)))) (h / 3 + 1)
    ∗ (if h ≤ 13 then cred (tallyAt (cell c (some (.fwd k))) 0 (slotM k 0).view.dmaCredit) else iprop(emp)))
/-- The same before hop `h`, of the hop before. -/
def Pr (c : Dev nD) (k : Fin 4) : ℕ → sProp 𝕄
  | 0 => iprop(emp)
  | h + 1 => Fl win c k h
/-- The slot of the hop before, whole. -/
def Fr (c : Dev nD) (k : Fin 4) : ℕ → sProp 𝕄
  | 0 => iprop(emp)
  | h + 1 => iprop(ownsE c (slotM k (sl h)) ∗ reached ER (cell c (some (.rv k (sl h)))) (h / 3 + 1))
/-- The releases. -/
def Rel (c : Dev nD) (k : Fin 4) (h : ℕ) : sProp 𝕄 :=
  iprop((bigSep Finset.univ fun s : Fin 3 => readerAt ES (c, k, s) (1 + (min (h - 1) 12 + 2 - s.val) / 3)) ∗ Ready c k (min (h - 1) 12 + 3))
/-- The slots that are not released again. -/
def Kp (c : Dev nD) (k : Fin 4) (h : ℕ) : sProp 𝕄 :=
  iprop((if 14 ≤ h then ownsE c (slotM k (sl 12)) else iprop(emp)) ∗ (if 15 ≤ h then ownsE c (slotM k (sl 13)) else iprop(emp)))
/-- The credits. -/
def Crs (c : Dev nD) (k : Fin 4) (h : ℕ) : sProp 𝕄 := iprop(CR xin win c k (min (h - 2) 12) ∗ Ready (peer k c) k (min (h - 2) 12 + 3))
/-- The arrivals. -/
def Rv (c : Dev nD) (k : Fin 4) (h : ℕ) : sProp 𝕄 :=
  bigSep Finset.univ fun s : Fin 3 => atPos ER (cell c (some (.rv k s))) ((h + 2 - s.val) / 3) ∅ 0
/-- A stream before hop `h`. -/
def Cm (c : Dev nD) (k : Fin 4) (h : ℕ) : sProp 𝕄 :=
  iprop(Rv c k h ∗ atPos ER (cell c (some (.fwd k))) (h - 1) ∅ 0 ∗ Rel c k h ∗ Kp c k h ∗ Crs xin win c k h ∗ Pr win c k h)

variable (Kt : PUnit.{1} → sProp (MT nD τ sig ℕ (Elt F) ℕ UU ℕ))

theorem rv_step {c : Dev nD} {k : Fin 4} {h : Fin 15} {t u : ℕ} (ht : t = 36 + 8 * h.val + 2 * ord k) (hu : u = 20 + 8 * h.val + 2 * ord k) {r : Pg F PUnit} :
    iprop(Ctx xin win K ιs ∗ St c t u ∗ Rv c k h.val)
      ⊢ iprop(((St c t (u + 1) ∗ Rv c k (h.val + 1) ∗ ownsV c (slotM k (sl h.val)) fullShare (HV win c k h.val)
          ∗ reached ER (cell c (some (.rv k (sl h.val)))) (h.val / 3 + 1)) -∗ wpc c r Kt) -∗ wpc c (waitR k h r) Kt) := by
  have hupd := bs_upd (F := F) (Finset.mem_univ (sl h.val)) (Φ := fun s : Fin 3 => atPos ER (cell c (some (.rv k s))) ((h.val + 2 - s.val) / 3) ∅ 0)
    (Ψ := fun s : Fin 3 => atPos ER (cell c (some (.rv k s))) ((h.val + 1 + 2 - s.val) / 3) ∅ 0) (by
      intro s _ hs
      have h1 : s.val ≠ h.val % 3 := fun e => hs (Fin.ext e)
      have h2 := s.isLt
      show atPos ER _ ((h.val + 2 - s.val) / 3) ∅ 0 = atPos ER _ ((h.val + 1 + 2 - s.val) / 3) ∅ 0
      rw [show (h.val + 2 - s.val) / 3 = (h.val + 1 + 2 - s.val) / 3 by omega])
  have e1 : (h.val + 2 - (sl h.val).val) / 3 = h.val / 3 := by show (h.val + 2 - h.val % 3) / 3 = _; omega
  have e2 : (h.val + 1 + 2 - (sl h.val).val) / 3 = h.val / 3 + 1 := by show (h.val + 1 + 2 - h.val % 3) / 3 = _; omega
  obtain ⟨p, hok, hw, hduty, hkd, hlv, hamt, hpay⟩ : ∃ j : Py, ok c j ∧ wtime j = u ∧ (Rd xin win).duties (cell c (some (.rv k (sl h.val)))) (h.val / 3) = {(back k c, j)}
      ∧ okd j = some (.rv k (sl h.val)) ∧ lev j = 2 * h.val + 10 ∧ amt j = (slotM k 0).view.dmaCredit
      ∧ ((Rd xin win).payload (cell c (some (.rv k (sl h.val)))) (h.val / 3) (back k c, j) ⊢ ownsV c (slotM k (sl h.val)) fullShare (HV win c k h.val)) := by
    obtain ⟨h, hh⟩ := h
    cases h with
    | zero =>
      dsimp only at hu
      have e0 : sl 0 = (0 : Fin 3) := by decide
      refine ⟨.ini k, trivial, by simp only [wtime]; omega, by dsimp only; rw [e0, Nat.zero_div]; exact du_rv0 xin win, rfl, rfl, rfl, ?_⟩
      have := payload_arr xin win (back k c) (.ini k) 0
      rw [show cell (tgt (back k c) (.ini k)) (akd (back k c) (.ini k)) = cell c (some (.rv k 0)) from by show cell (peer k (back k c)) _ = _; rw [peer_back]] at this
      refine Entails.of_eq (this.trans ?_)
      show ownsV (peer k (back k c)) _ _ _ = _
      rw [peer_back]; rfl
    | succ h =>
      have hh' : h < 14 := by omega
      dsimp only at hu
      refine ⟨.fwd k ⟨h, hh'⟩, trivial, by simp only [wtime]; omega, du_rv xin win ⟨h, hh'⟩, rfl, by simp only [lev], rfl, ?_⟩
      have := payload_arr xin win (back k c) (.fwd k ⟨h, hh'⟩) ((h + 1) / 3)
      rw [show cell (tgt (back k c) (.fwd k ⟨h, hh'⟩)) (akd (back k c) (.fwd k ⟨h, hh'⟩)) = cell c (some (.rv k (sl (h + 1)))) from by show cell (peer k (back k c)) _ = _; rw [peer_back]] at this
      refine Entails.of_eq (this.trans ?_)
      show ownsV (peer k (back k c)) _ _ _ = _
      rw [peer_back]; rfl
  have hW := wait_open (F := F) (d := c) (t := t) hok hw (by omega)
  have hwait := fun kk => wait_dma xin win K ιs Kt (d := c) (κ := some (.rv k (sl h.val))) (r := h.val / 3) (ι := lev p) (t := t) (u := u + 1) (sem := at3 (recvA k) (sl h.val)) rfl hduty
    (src := slotM k (sl h.val)) (dst := slotM k (sl h.val)) (hsrc := ((bufM_whole k).wordExact_slice rfl _ (slot_words _)).reshape _ _)
    (hdst := ((bufM_whole k).wordExact_slice rfl _ (slot_words _)).reshape _ _) (by rw [hamt]) (lev_lt p)
    (by rw [hlv]; exact fun i => hop_lev (h := h) (k := k) (by omega)) (k := kk)
  unfold wcr at hW
  rw [hkd] at hW
  unfold Rv
  rw [e1, e2] at hupd
  iintro ⟨#Hc, HS, HR⟩ Hk
  ihave HS := hW $$ HS
  icases HS with ⟨Hcr, HS⟩
  ihave HR := hupd $$ HR
  icases HR with ⟨Hat, HR⟩
  iapply (hwait _) $$ [Hcr HS Hat]
  · isplitr; · iexact Hc
    isplitl [Hcr]; · iexact Hcr
    isplitl [Hat]; · iexact Hat
    iexact HS
  iintro ⟨HS, Hat, #Hr, Hp⟩
  iapply Hk
  isplitl [HS]; · iexact HS
  isplitl [Hat HR]
  · iapply HR; iexact Hat
  isplitl [Hp]
  · iapply hpay; iexact Hp
  iexact Hr

theorem wf_step {c : Dev nD} {k : Fin 4} {h : Fin 15} {t u : ℕ} {r : Pg F PUnit} :
    iprop(Ctx xin win K ιs ∗ St c t u ∗ atPos ER (cell c (some (.fwd k))) (h.val - 1) ∅ 0 ∗ Pr win c k h.val)
      ⊢ iprop(((St c t u ∗ atPos ER (cell c (some (.fwd k))) h.val ∅ 0 ∗ reached ER (cell c (some (.fwd k))) h.val ∗ Fr c k h.val) -∗ wpc c r Kt)
        -∗ wpc c (whn (Nat.ble 1 h.val) (waitF k h) r) Kt) := by
  obtain ⟨h, hh⟩ := h
  cases h with
  | zero =>
    dsimp only
    rw [whn_neg (b := Nat.ble 1 0) rfl, show Pr win c k 0 = iprop(emp) from rfl, show Fr (F := F) c k 0 = iprop(emp) from rfl]
    have hr := ctx_reached xin win K ιs c (some (.fwd k))
    iintro ⟨#Hc, HS, Hat, HP⟩ Hk
    ihave #Hr := hr $$ Hc
    iapply Hk
    isplitl [HS]; · iexact HS
    isplitl [Hat]; · iexact Hat
    isplitr; · iexact Hr
    iexact HP
  | succ h =>
    have hh' : h < 14 := by omega
    dsimp only
    rw [whn_pos (by rfl)]
    have hduty := du_fwd xin win (c := c) (k := k) ⟨h, hh'⟩
    have hwait := fun kk => wait_dma xin win K ιs Kt (d := c) (κ := some (.fwd k)) (r := h) (ι := 0) (t := t) (u := u) (sem := at4 cc0_scratch12 k) rfl hduty
      (src := slotM k (sl (h + 1))) (dst := slotM k (sl h)) (hsrc := ((bufM_whole k).wordExact_slice rfl _ (slot_words _)).reshape _ _)
      (hdst := ((bufM_whole k).wordExact_slice rfl _ (slot_words _)).reshape _ _) rfl (by decide) (fun i _ => lev_pos i) (k := kk)
    have hpay := payload_dep xin win c (.fwd k ⟨h, hh'⟩) (Option.some_ne_none _) h
    rw [show cell c (dkd (.fwd k ⟨h, hh'⟩)) = cell c (some (.fwd k)) from rfl] at hpay
    rw [hpay] at hwait
    rw [show (amt (c, Py.fwd k (⟨h, hh'⟩ : Fin 14)).2) = (slotM k 0).view.dmaCredit from rfl] at hwait
    rw [show dpay xin win c (.fwd k ⟨h, hh'⟩) = ownsV c (slotM k (sl h)) fullShare.left (HV win c k h) from rfl] at hwait
    have hj : iprop(ownsV c (slotM k (sl h)) fullShare.left (HV win c k h) ∗ ownsV c (slotM k (sl h)) fullShare.right (HV win c k h)) ⊢ (ownsE c (slotM k (sl h)) : sProp 𝕄) := by
      iintro H
      iexists _
      iapply (owns_halves (c : Thread nD τ) (slotM k (sl h)) fullShare (HV win c k h)).2
      iexact H
    rw [show Pr win c k (h + 1) = Fl win c k h from rfl, show Fr (F := F) c k (h + 1) = iprop(ownsE c (slotM k (sl h)) ∗ reached ER (cell c (some (.rv k (sl h)))) (h / 3 + 1)) from rfl]
    unfold Fl SH
    rw [if_pos (show h ≤ 13 by omega), if_pos (show h ≤ 13 by omega)]
    iintro ⟨#Hc, HS, Hat, Hs, #Hr, Hcr⟩ Hk
    iapply (hwait _) $$ [Hcr HS Hat]
    · isplitr; · iexact Hc
      isplitl [Hcr]; · iexact Hcr
      isplitl [Hat]; · iexact Hat
      iexact HS
    iintro ⟨HS, Hat, #Hr', Hp⟩
    iapply Hk
    isplitl [HS]; · iexact HS
    isplitl [Hat]; · iexact Hat
    isplitr; · iexact Hr'
    isplitl [Hs Hp]
    · iapply hj
      isplitl [Hp]; · iexact Hp
      iexact Hs
    iexact Hr

/-- A slot is ready again. -/
theorem ready_snoc {d : Dev nD} {k : Fin 4} {n : ℕ} : iprop(SF d k n ∗ Ready d k n) ⊢ (Ready d k (n + 1) : sProp 𝕄) := by
  unfold Ready
  rw [Finset.range_add_one, BI.bigSep_insert Finset.notMem_range_self]
  exact .rfl
theorem ready_get {d : Dev nD} {k : Fin 4} {n m : ℕ} (h : m < n) : (Ready d k n : sProp 𝕄) ⊢ SF d k m := by
  unfold Ready
  exact bs_elim (Finset.mem_range.mpr h)

theorem sc_step {c : Dev nD} {k : Fin 4} {h : Fin 15} {t u : ℕ} (ht : t = 36 + 8 * h.val + 2 * ord k) {r : Pg F PUnit} :
    iprop(Ctx xin win K ιs ∗ St c t u ∗ Rel c k h.val ∗ Kp c k h.val ∗ Fr c k h.val)
      ⊢ iprop(((St c (t + 1) u ∗ Rel c k (h.val + 1) ∗ Kp c k (h.val + 1)) -∗ wpc c r Kt)
        -∗ wpc c (whn (Nat.ble 1 h.val && Nat.ble h.val 12) (sigC c k) r) Kt) := by
  obtain ⟨h, hh⟩ := h
  dsimp only at *
  by_cases hc : 1 ≤ h ∧ h ≤ 12
  · obtain ⟨n, rfl⟩ : ∃ n, h = n + 1 := ⟨h - 1, by omega⟩
    have hn : n < 12 := by omega
    rw [whn_pos (by rw [Bool.and_eq_true, Nat.ble_eq, Nat.ble_eq]; exact hc)]
    have hupd := bs_upd (F := F) (Finset.mem_univ (sl n)) (Φ := fun s : Fin 3 => readerAt ES (c, k, s) (1 + (n + 2 - s.val) / 3))
      (Ψ := fun s : Fin 3 => readerAt ES (c, k, s) (1 + (n + 1 + 2 - s.val) / 3)) (by
        intro s _ hs
        have h1 : s.val ≠ n % 3 := fun e => hs (Fin.ext e)
        have h2 := s.isLt
        show readerAt ES _ (1 + (n + 2 - s.val) / 3) = readerAt ES _ (1 + (n + 1 + 2 - s.val) / 3)
        rw [show (n + 2 - s.val) / 3 = (n + 1 + 2 - s.val) / 3 by omega])
    have e1 : 1 + (n + 2 - (sl n).val) / 3 = n / 3 + 1 := by show 1 + (n + 2 - n % 3) / 3 = _; omega
    have e2 : 1 + (n + 1 + 2 - (sl n).val) / 3 = n / 3 + 1 + 1 := by show 1 + (n + 1 + 2 - n % 3) / 3 = _; omega
    rw [e1, e2] at hupd
    have e3 : sl (n + 3) = sl n := Fin.ext (by show (n + 3) % 3 = n % 3; omega)
    have hSF : iprop(released ES (c, k, sl n) (n / 3 + 1 + 1) ∗ reached ER (cell c (some (.rv k (sl n)))) (n / 3 + 1)) ⊢ (SF c k (n + 3) : sProp 𝕄) := by
      unfold SF
      rw [e3, show (n + 3) / 3 = n / 3 + 1 by omega]
    have hsig := fun kk => signal_step xin win K ιs Kt (d := c) (i := .cr k ⟨n, hn⟩) (t := t) (u := u) trivial (by simp only [time]; rw [ht]) rfl
      (c' := back k c) rfl (sem := (credA k).sem) rfl (k := kk)
    rw [show apay xin win c (.cr k ⟨n, hn⟩) = Ready c k (n + 4) from rfl] at hsig
    have hr0 := ctx_reached xin win K ιs (back k c) (some (.cr k))
    have hsl := ctx_slot xin win K ιs (c, k, sl n)
    unfold Rel Kp Fr
    rw [show min (n + 1 - 1) 12 = n by omega, show min (n + 1 + 1 - 1) 12 = n + 1 by omega, if_neg (show ¬ 14 ≤ n + 1 by omega), if_neg (show ¬ 15 ≤ n + 1 by omega),
      if_neg (show ¬ 14 ≤ n + 1 + 1 by omega), if_neg (show ¬ 15 ≤ n + 1 + 1 by omega)]
    iintro ⟨#Hc, HS, ⟨HR, #Hrd⟩, -, Hs, #Hr⟩ Hk
    ihave HR := hupd $$ HR
    icases HR with ⟨Hra, HR⟩
    ihave #Hsl := hsl $$ Hc
    imod (slot_release (E := ES) (ι := ιs (c, k, sl n)) (k := (c, k, sl n)) (S := ownsE c (slotM k (sl n))) (Set.mem_univ _) (slot_false c k (sl n)) (n / 3 + 1)) $$ [Hra Hs] with ⟨Hra, #Hrl⟩
    · isplitr; · iexact Hsl
      isplitl [Hra]; · iexact Hra
      iexact Hs
    ihave #Hnew := (ready_snoc (F := F) (d := c) (k := k) (n := n + 3)) $$ []
    · isplitr
      · iapply hSF
        isplitr; · iexact Hrl
        iexact Hr
      · iexact Hrd
    iapply (hsig _) $$ [HS]
    · isplitr; · iexact Hc
      isplitl [HS]; · iexact HS
      isplitr; · iexact Hnew
      iapply hr0; iexact Hc
    iintro HS
    iapply Hk
    isplitl [HS]; · iexact HS
    isplitl [Hra HR]
    · isplitl [Hra HR]
      · iapply HR; iexact Hra
      · iexact Hnew
    isplitr
    · ipureintro; trivial
    · ipureintro; trivial
  · rw [whn_neg (by
      rw [Bool.eq_false_iff]; intro e
      rw [Bool.and_eq_true, Nat.ble_eq, Nat.ble_eq] at e; exact hc e)]
    have hSt : (St c t u : sProp 𝕄) = St c (t + 1) u := St_t (by
      intro i hi e
      have := ord_lt k
      cases i with
      | bar q => simp only [time] at e; omega
      | xs q => simp only [time] at e; omega
      | ini q => simp only [time] at e; omega
      | fwd k' h' => have := ord_lt k'; simp only [time] at e; omega
      | cr k' h' => have := ord_lt k'; simp only [time] at e; omega
      | am q => simp only [time] at e; omega)
    rw [hSt]
    obtain rfl | rfl | rfl : h = 0 ∨ h = 13 ∨ h = 14 := by omega
    · iintro ⟨-, HS, HR, HK, -⟩ Hk
      iapply Hk
      isplitl [HS]; · iexact HS
      isplitl [HR]; · iexact HR
      iexact HK
    · unfold Kp Fr
      rw [if_pos (show 14 ≤ 13 + 1 by omega), if_neg (show ¬ 15 ≤ 13 + 1 by omega)]
      iintro ⟨-, HS, HR, -, HF, -⟩ Hk
      iapply Hk
      isplitl [HS]; · iexact HS
      isplitl [HR]; · iexact HR
      isplitl [HF]; · iexact HF
      ipureintro; trivial
    · unfold Kp Fr
      rw [if_pos (show 14 ≤ 14 by omega), if_neg (show ¬ 15 ≤ 14 by omega), if_pos (show 14 ≤ 14 + 1 by omega), if_pos (show 15 ≤ 14 + 1 by omega)]
      iintro ⟨-, HS, HR, ⟨HK, -⟩, HF, -⟩ Hk
      iapply Hk
      isplitl [HS]; · iexact HS
      isplitl [HR]; · iexact HR
      isplitl [HK]; · iexact HK
      iexact HF

theorem wc_step {c : Dev nD} {k : Fin 4} {h : Fin 15} {t u : ℕ} (ht : 36 + 8 * h.val + 2 * ord k ≤ t) (hu : u = 20 + 8 * h.val + 2 * ord k + 1) {r : Pg F PUnit} :
    iprop(Ctx xin win K ιs ∗ St c t u ∗ Crs xin win c k h.val)
      ⊢ iprop(((St c t (u + 1) ∗ Crs xin win c k (h.val + 1)) -∗ wpc c r Kt)
        -∗ wpc c (whn (Nat.ble 2 h.val && Nat.ble h.val 13) (waitC k) r) Kt) := by
  have hlev := fun i => hop_lev (c := c) (h := h) (k := k) ht (i := i)
  obtain ⟨h, hh⟩ := h
  dsimp only at *
  by_cases hc : 2 ≤ h ∧ h ≤ 13
  · obtain ⟨n, rfl⟩ : ∃ n, h = n + 2 := ⟨h - 2, by omega⟩
    have hn : n < 12 := by omega
    rw [whn_pos (by rw [Bool.and_eq_true, Nat.ble_eq, Nat.ble_eq]; exact hc)]
    have hst := cr_step xin win K ιs Kt (c := c) (k := k) (n := n) (t := t) (u := u) hn (by simp only [wtime]; omega)
      (fun i hi => by have := hlev i hi; omega) (r := r)
    unfold Crs
    rw [show min (n + 2 - 2) 12 = n by omega, show min (n + 2 + 1 - 2) 12 = n + 1 by omega]
    iintro ⟨#Hc, HS, HC, #Hrd⟩ Hk
    iapply hst $$ [HS HC]
    · isplitr; · iexact Hc
      isplitl [HC]; · iexact HC
      iexact HS
    iintro ⟨HS, HC, #Hrd'⟩
    iapply Hk
    isplitl [HS]; · iexact HS
    isplitl [HC]; · iexact HC
    iexact Hrd'
  · rw [whn_neg (by
      rw [Bool.eq_false_iff]; intro e
      rw [Bool.and_eq_true, Nat.ble_eq, Nat.ble_eq] at e; exact hc e)]
    have hSt : (St c t u : sProp 𝕄) = St c t (u + 1) := St_u (by
      intro i hi e
      have := ord_lt k
      have := hu
      cases i with
      | bar q => simp only [wtime] at e; omega
      | xs q => simp only [wtime] at e; omega
      | ini q => simp only [wtime] at e; omega
      | fwd k' h' => have := ord_lt k'; simp only [wtime] at e; omega
      | cr k' h' => have := ord_lt k'; simp only [wtime] at e; omega
      | am q => simp only [wtime] at e; omega)
    rw [hSt]
    unfold Crs
    rw [show min (h + 1 - 2) 12 = min (h - 2) 12 by omega]
    iintro ⟨-, HS, HR⟩ Hk
    iapply Hk
    isplitl [HS]; · iexact HS
    iexact HR

theorem fs_step {c : Dev nD} {k : Fin 4} {h : Fin 15} {t u : ℕ} (ht : t = 36 + 8 * h.val + 2 * ord k + 1) {r : Pg F PUnit} :
    iprop(Ctx xin win K ιs ∗ St c t u ∗ Crs xin win c k (h.val + 1) ∗ reached ER (cell c (some (.fwd k))) h.val
        ∗ ownsV c (slotM k (sl h.val)) fullShare (HV win c k h.val) ∗ reached ER (cell c (some (.rv k (sl h.val)))) (h.val / 3 + 1))
      ⊢ iprop(((St c (t + 1) u ∗ Crs xin win c k (h.val + 1) ∗ Fl win c k h.val) -∗ wpc c r Kt)
        -∗ wpc c (whn (Nat.ble h.val 13) (fwdS c k h) r) Kt) := by
  obtain ⟨h, hh⟩ := h
  dsimp only at *
  by_cases hc : h ≤ 13
  · have hh' : h < 14 := by omega
    rw [whn_pos (by rw [Nat.ble_eq]; exact hc)]
    have hsl := ctx_slot xin win K ιs (peer k c, k, sl (h + 1))
    have hR : iprop((Ctx xin win K ιs ∗ released ES (peer k c, k, sl (h + 1)) ((h + 1) / 3 + 1)) ∗ wtok c (.fwd k ⟨h, hh'⟩))
        ⊢ |={Set.univ}=> (ownsE (tgt c (.fwd k ⟨h, hh'⟩)) (slotM k (sl (h + 1))) : sProp 𝕄) := by
      show iprop((Ctx xin win K ιs ∗ released ES (peer k c, k, sl (h + 1)) ((h + 1) / 3 + 1)) ∗ writeTok ES (peer k c, k, sl (h + 1)) ((h + 1) / 3 + 1))
        ⊢ |={Set.univ}=> (ownsE (peer k c) (slotM k (sl (h + 1))) : sProp 𝕄)
      iintro ⟨⟨#Hc, #Hrl⟩, Hw⟩
      iapply (slot_take (E := ES) (ι := ιs (peer k c, k, sl (h + 1))) (k := (peer k c, k, sl (h + 1))) (S := ownsE (peer k c) (slotM k (sl (h + 1)))) (Set.mem_univ _) ((h + 1) / 3 + 1))
      isplitr; · iapply hsl; iexact Hc
      isplitr; · iexact Hrl
      iexact Hw
    have hsend := fun kk => send_step xin win K ιs Kt (d := c) (i := .fwd k ⟨h, hh'⟩) (t := t) (u := u) trivial (by simp only [time]; omega) (Option.some_ne_none _)
      (c' := peer k c) rfl (src := slotM k (sl h)) (dst := slotM k (sl (h + 1))) (sS := .dma (at4 cc0_scratch12 k)) (sR := .dma (at3 (recvA k) (sl (h + 1)))) rfl rfl
      (hsrc := ((bufM_whole k).wordExact_slice rfl _ (slot_words _)).reshape _ _) (hdst := ((bufM_whole k).wordExact_slice rfl _ (slot_words _)).reshape _ _)
      (hsc := rfl) (hsem := ⟨⟨rfl, Or.inl rfl⟩, trivial⟩) (k := kk) rfl (q := fullShare.left) (X := HV win c k h) .rfl .rfl hR
    rw [show cell (tgt c (.fwd k ⟨h, hh'⟩)) (akd c (.fwd k ⟨h, hh'⟩)) = cell (peer k c) (some (.rv k (sl (h + 1)))) from rfl,
      show ard (.fwd k ⟨h, hh'⟩) = (h + 1) / 3 from rfl, show cell c (dkd (.fwd k ⟨h, hh'⟩)) = cell c (some (.fwd k)) from rfl,
      show drd (.fwd k ⟨h, hh'⟩) = h from rfl, show amt (.fwd k ⟨h, hh'⟩) = (slotM k 0).view.dmaCredit from rfl] at hsend
    have hget := ready_get (F := F) (d := peer k c) (k := k) (n := min (h + 1 - 2) 12 + 3) (m := h + 1) (by omega)
    unfold SF at hget
    unfold Crs Fl SH
    rw [if_pos hc, if_pos hc]
    iintro ⟨#Hc, HS, ⟨HC, #Hrd⟩, #Hrf, Hs, #Hrr⟩ Hk
    ihave #Hg := hget $$ Hrd
    icases Hg with ⟨#Hrl, #Hra⟩
    ihave Hs := (owns_halves (c : Thread nD τ) (slotM k (sl h)) fullShare (HV win c k h)).1 $$ Hs
    icases Hs with ⟨Hl, Hs⟩
    iapply (hsend _) $$ [HS Hl]
    · isplitr; · iexact Hc
      isplitl [HS]; · iexact HS
      isplitl [Hl]; · iexact Hl
      isplitr
      · isplitr; · iexact Hc
        iexact Hrl
      isplitr; · iexact Hra
      iexact Hrf
    iintro ⟨Hcr, HS⟩
    iapply Hk
    isplitl [HS]; · iexact HS
    isplitl [HC]
    · isplitl [HC]; · iexact HC
      iexact Hrd
    isplitl [Hs]; · iexact Hs
    isplitr; · iexact Hrr
    iexact Hcr
  · rw [whn_neg (by rw [Bool.eq_false_iff]; intro e; rw [Nat.ble_eq] at e; exact hc e)]
    obtain rfl : h = 14 := by omega
    have hSt : (St c t u : sProp 𝕄) = St c (t + 1) u := St_t (by
      intro i hi e
      have := ord_lt k
      cases i with
      | bar q => simp only [time] at e; omega
      | xs q => simp only [time] at e; omega
      | ini q => simp only [time] at e; omega
      | fwd k' h' => have := ord_lt k'; simp only [time] at e; omega
      | cr k' h' => have := ord_lt k'; simp only [time] at e; omega
      | am q => simp only [time] at e; omega)
    rw [hSt]
    unfold Fl SH
    rw [if_neg hc, if_neg hc]
    iintro ⟨-, HS, HC, -, Hs, #Hrr⟩ Hk
    iapply Hk
    isplitl [HS]; · iexact HS
    isplitl [HC]; · iexact HC
    isplitl [Hs]; · iexact Hs
    isplitr; · iexact Hrr
    ipureintro; trivial

/-- The transfers of a hop of a stream. -/
theorem comm_step {c : Dev nD} {k : Fin 4} {h : Fin 15} {t u : ℕ} (ht : t = 36 + 8 * h.val + 2 * ord k) (hu : u = 20 + 8 * h.val + 2 * ord k) {r : Pg F PUnit} :
    iprop(Ctx xin win K ιs ∗ St c t u ∗ Cm xin win c k h.val)
      ⊢ iprop(((St c (t + 2) (u + 2) ∗ Cm xin win c k (h.val + 1)) -∗ wpc c r Kt) -∗ wpc c (comm c k h r) Kt) := by
  have h1 := fun r => rv_step xin win K ιs Kt (c := c) (k := k) (h := h) ht hu (r := r)
  have h2 := fun r => wf_step xin win K ιs Kt (c := c) (k := k) (h := h) (t := t) (u := u + 1) (r := r)
  have h3 := fun r => sc_step xin win K ιs Kt (c := c) (k := k) (h := h) (t := t) (u := u + 1) ht (r := r)
  have h4 := fun r => wc_step xin win K ιs Kt (c := c) (k := k) (h := h) (t := t + 1) (u := u + 1) (by omega) (by omega) (r := r)
  have h5 := fun r => fs_step xin win K ιs Kt (c := c) (k := k) (h := h) (t := t + 1) (u := u + 2) (by omega) (r := r)
  unfold comm Cm
  rw [show Pr win c k (h.val + 1) = Fl win c k h.val from rfl, show h.val + 1 - 1 = h.val by omega]
  iintro ⟨#Hc, HS, HRv, Hat, HRel, HKp, HCr, HPr⟩ Hk
  iapply (h1 _) $$ [HS HRv]
  · isplitr; · iexact Hc
    isplitl [HS]; · iexact HS
    iexact HRv
  iintro ⟨HS, HRv, Hs, #Hr⟩
  iapply (h2 _) $$ [HS Hat HPr]
  · isplitr; · iexact Hc
    isplitl [HS]; · iexact HS
    isplitl [Hat]; · iexact Hat
    iexact HPr
  iintro ⟨HS, Hat, #Hrf, HF⟩
  iapply (h3 _) $$ [HS HRel HKp HF]
  · isplitr; · iexact Hc
    isplitl [HS]; · iexact HS
    isplitl [HRel]; · iexact HRel
    isplitl [HKp]; · iexact HKp
    iexact HF
  iintro ⟨HS, HRel, HKp⟩
  iapply (h4 _) $$ [HS HCr]
  · isplitr; · iexact Hc
    isplitl [HS]; · iexact HS
    iexact HCr
  iintro ⟨HS, HCr⟩
  iapply (h5 _) $$ [HS HCr Hs]
  · isplitr; · iexact Hc
    isplitl [HS]; · iexact HS
    isplitl [HCr]; · iexact HCr
    isplitr; · iexact Hrf
    isplitl [Hs]; · iexact Hs
    iexact Hr
  iintro ⟨HS, HCr, HFl⟩
  iapply Hk
  isplitl [HS]; · iexact HS
  isplitl [HRv]; · iexact HRv
  isplitl [Hat]; · iexact Hat
  isplitl [HRel]; · iexact HRel
  isplitl [HKp]; · iexact HKp
  isplitl [HCr]; · iexact HCr
  iexact HFl

end Cert.KernelIdeal.Pf
-- ==== Proof.Others.lean ====
/-
  Loops, and the steps that the kernel takes for every other device.
-/
module

public import proofs.«01_k».proof.Proof.Stream

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

variable (xin : Dev nD → Vec F S4096x256 .bf16) (win : Dev nD → Vec F S256x8192 .bf16)
variable (K : Dev nD × Option Sd → ℕ) (ιs : Dev nD × Fin 4 × Fin 3 → ℕ)

/-! ## Loops -/

/-- The separating conjunction over a list. -/
def sepL {T : Type} (A : T → sProp 𝕄) : List T → sProp 𝕄
  | [] => iprop(emp)
  | x :: l => iprop(A x ∗ sepL A l)

theorem sepL_eq {T : Type} [DecidableEq T] (A : T → sProp 𝕄) {l : List T} (h : l.Nodup) : bigSep l.toFinset A = sepL A l := by
  induction l with
  | nil => rfl
  | cons x l ih =>
    rw [List.toFinset_cons, BI.bigSep_insert (by rw [List.mem_toFinset]; exact (List.nodup_cons.mp h).1), ih (List.nodup_cons.mp h).2]
    rfl

theorem sepL_emp {T : Type} (l : List T) : (iprop(emp) : sProp 𝕄) ⊢ sepL (fun _ : T => (iprop(emp) : sProp 𝕄)) l := by
  induction l with
  | nil => exact .rfl
  | cons x l ih =>
    show (iprop(emp) : sProp 𝕄) ⊢ iprop(emp ∗ sepL (fun _ : T => (iprop(emp) : sProp 𝕄)) l)
    iintro -
    isplitr; · iempintro
    iapply ih
    iempintro

variable (Kt : PUnit.{1} → sProp (MT nD τ sig ℕ (Elt F) ℕ UU ℕ))

theorem loopL {T : Type} {c : Dev nD} {f : T → Pg F PUnit → Pg F PUnit} {A B : T → sProp (MT nD τ sig ℕ (Elt F) ℕ UU ℕ)} {I : ℕ → sProp (MT nD τ sig ℕ (Elt F) ℕ UU ℕ)} {v : T → ℕ}
    (hs : ∀ x r, iprop(Ctx xin win K ιs ∗ I (v x) ∗ A x) ⊢ iprop(((I (v x + 1) ∗ B x) -∗ wpc c r Kt) -∗ wpc c (f x r) Kt))
    (l : List T) : ∀ n r, l.map v = List.range' n l.length →
      iprop(Ctx xin win K ιs ∗ I n ∗ sepL A l) ⊢ iprop(((I (n + l.length) ∗ sepL B l) -∗ wpc c r Kt) -∗ wpc c (l.foldr f r) Kt) := by
  induction l with
  | nil =>
    intro n r _
    iintro ⟨-, HI, HA⟩ Hk
    iapply Hk
    isplitl [HI]; · iexact HI
    iexact HA
  | cons x l ih =>
    intro n r hl
    rw [List.map_cons, List.length_cons, List.range'_succ, List.cons.injEq] at hl
    have h1 := hs x (l.foldr f r)
    have h2 := ih (n + 1) r hl.2
    rw [hl.1] at h1
    rw [show n + 1 + l.length = n + (x :: l).length by rw [List.length_cons]; omega] at h2
    show iprop(Ctx xin win K ιs ∗ I n ∗ (A x ∗ sepL A l)) ⊢ iprop(((I (n + (x :: l).length) ∗ (B x ∗ sepL B l)) -∗ wpc c r Kt) -∗ wpc c (f x (l.foldr f r)) Kt)
    iintro ⟨#Hc, HI, HA, HL⟩ Hk
    iapply h1 $$ [HI HA]
    · isplitr; · iexact Hc
      isplitl [HI]; · iexact HI
      iexact HA
    iintro ⟨HI, HB⟩
    iapply h2 $$ [HI HL]
    · isplitr; · iexact Hc
      isplitl [HI]; · iexact HI
      iexact HL
    iintro ⟨HI, HL⟩
    iapply Hk
    isplitl [HI]; · iexact HI
    isplitl [HB]; · iexact HB
    iexact HL

theorem univ16 : (Finset.univ : Finset (Fin 16)) = ([0, 1, 2, 3, 4, 5, 6, 7, 8, 9, 10, 11, 12, 13, 14, 15] : List (Fin 16)).toFinset := by decide

theorem loop16 {c : Dev nD} {f : Fin 16 → Pg F PUnit → Pg F PUnit} {A B : Fin 16 → sProp (MT nD τ sig ℕ (Elt F) ℕ UU ℕ)} {I : ℕ → sProp (MT nD τ sig ℕ (Elt F) ℕ UU ℕ)}
    (hs : ∀ (x : Fin 16) r, iprop(Ctx xin win K ιs ∗ I x.val ∗ A x) ⊢ iprop(((I (x.val + 1) ∗ B x) -∗ wpc c r Kt) -∗ wpc c (f x r) Kt)) (r : Pg F PUnit) :
      iprop(Ctx xin win K ιs ∗ I 0 ∗ bigSep Finset.univ A) ⊢ iprop(((I 16 ∗ bigSep Finset.univ B) -∗ wpc c r Kt) -∗ wpc c (all16 f r) Kt) := by
  rw [univ16, sepL_eq A (by decide), sepL_eq B (by decide)]
  exact loopL xin win K ιs Kt hs _ 0 r (by decide)

theorem loop15 {c : Dev nD} {f : Fin 15 → Pg F PUnit → Pg F PUnit} {I : ℕ → sProp (MT nD τ sig ℕ (Elt F) ℕ UU ℕ)}
    (hs : ∀ (x : Fin 15) r, iprop(Ctx xin win K ιs ∗ I x.val) ⊢ iprop((I (x.val + 1) -∗ wpc c r Kt) -∗ wpc c (f x r) Kt)) (r : Pg F PUnit) :
      iprop(Ctx xin win K ιs ∗ I 0) ⊢ iprop((I 15 -∗ wpc c r Kt) -∗ wpc c (all15 f r) Kt) := by
  have hl := loopL xin win K ιs Kt (c := c) (f := f) (A := fun _ => iprop(emp)) (B := fun _ => iprop(emp)) (I := I) (v := Fin.val) (by
    intro x r
    have := hs x r
    iintro ⟨#Hc, HI, -⟩ Hk
    iapply this $$ [HI]
    · isplitr; · iexact Hc
      iexact HI
    iintro HI
    iapply Hk
    isplitl [HI]; · iexact HI
    ipureintro; trivial) ([0, 1, 2, 3, 4, 5, 6, 7, 8, 9, 10, 11, 12, 13, 14] : List (Fin 15)) 0 r (by decide)
  have he : (iprop(emp) : sProp 𝕄) ⊢ sepL (fun _ : Fin 15 => (iprop(emp) : sProp 𝕄)) ([0, 1, 2, 3, 4, 5, 6, 7, 8, 9, 10, 11, 12, 13, 14] : List (Fin 15)) := by
    exact sepL_emp _
  iintro ⟨#Hc, HI⟩ Hk
  iapply hl $$ [HI]
  · isplitr; · iexact Hc
    isplitl [HI]; · iexact HI
    iapply he
    iempintro
  iintro ⟨HI, -⟩
  iapply Hk
  iexact HI

/-! ## Steps taken for every other device -/

/-- Held for another device only. -/
def ne (c q : Dev nD) (P : sProp (MT nD τ sig ℕ (Elt F) ℕ UU ℕ)) : sProp (MT nD τ sig ℕ (Elt F) ℕ UU ℕ) := if q = c then iprop(emp) else P
theorem ne_pos {c q : Dev nD} (h : q = c) (P : sProp 𝕄) : ne c q P = iprop(emp) := if_pos h
theorem ne_neg {c q : Dev nD} (h : q ≠ c) (P : sProp 𝕄) : ne c q P = P := if_neg h
theorem cnd_pos {c q : Dev nD} (h : q = c) (p r : Pg F PUnit) : cnd (neW c q) p r = r := if_neg fun e => (neW_iff c q).mp e h
theorem cnd_neg {c q : Dev nD} (h : q ≠ c) (p r : Pg F PUnit) : cnd (neW c q) p r = Prog.bind p fun _ => r := if_pos ((neW_iff c q).mpr h)
theorem ne_univ {c : Dev nD} (Φ : Fin 16 → sProp 𝕄) : bigSep (Finset.univ.erase c) Φ ⊢ bigSep Finset.univ (fun q : Fin 16 => ne c q (Φ q)) := by
  have h1 : bigSep Finset.univ (fun q : Fin 16 => ne c q (Φ q)) = iprop(ne c c (Φ c) ∗ bigSep (Finset.univ.erase c) (fun q : Fin 16 => ne c q (Φ q))) := by
    conv_lhs => rw [← Finset.insert_erase (Finset.mem_univ c)]
    exact BI.bigSep_insert (Finset.notMem_erase c _)
  have h2 : bigSep (Finset.univ.erase c) (fun q : Fin 16 => ne c q (Φ q)) = bigSep (Finset.univ.erase c) Φ :=
    BI.bigSep_congr fun q hq => ne_neg (Finset.ne_of_mem_erase hq) _
  rw [h1, h2, ne_pos rfl]
  iintro H
  isplitr; · iempintro
  iexact H
theorem ne_univ' {c : Dev nD} (Φ : Fin 16 → sProp 𝕄) : bigSep Finset.univ (fun q : Fin 16 => ne c q (Φ q)) ⊢ bigSep (Finset.univ.erase c) Φ := by
  have h2 : bigSep (Finset.univ.erase c) (fun q : Fin 16 => ne c q (Φ q)) = bigSep (Finset.univ.erase c) Φ :=
    BI.bigSep_congr fun q hq => ne_neg (Finset.ne_of_mem_erase hq) _
  rw [← h2]
  exact BI.bigSep_subset (Finset.erase_subset _ _)
/-- The own member of a family, and the others. -/
theorem own_rest {c : Dev nD} (Φ : Fin 16 → sProp 𝕄) : bigSep Finset.univ Φ ⊢ iprop(Φ c ∗ bigSep (Finset.univ.erase c) Φ) := by
  conv_lhs => rw [← Finset.insert_erase (Finset.mem_univ c)]
  exact bs_ins (Finset.notMem_erase c _)
theorem own_rest' {c : Dev nD} (Φ : Fin 16 → sProp 𝕄) : iprop(Φ c ∗ bigSep (Finset.univ.erase c) Φ) ⊢ bigSep Finset.univ Φ := by
  conv_rhs => rw [← Finset.insert_erase (Finset.mem_univ c)]
  exact Entails.of_eq (BI.bigSep_insert (Finset.notMem_erase c _)).symm

theorem at16_eq (A : DmaSems sig S16) (c : Dev nD) : at16' A c = at16 A c := by
  unfold at16' at16
  congr 3
  simp only [k0_off1_eq]
theorem xColAt_eq (c : Dev nD) : xColAt c = xCol c := by
  unfold xColAt xCol
  congr 2
  simp only [k0_off2_eq]
theorem aRowAt_eq (c : Dev nD) : aRowAt c = aRow c := by
  unfold aRowAt aRow
  congr 2
  simp only [k0_off39_eq]

theorem St_skip {c : Dev nD} {t u : ℕ} {i : Py} (hi : ¬ ok c i) (ht : time i = t) : (St c t u : sProp 𝕄) = St c (t + 1) u :=
  St_t fun j hj e => by rw [time_inj (e.trans ht.symm)] at hj; exact hi hj
theorem St_skipu {c : Dev nD} {t u : ℕ} {i : Py} (hi : ¬ ok c i) (hu : wtime i = u) (hp : 0 < u) : (St c t u : sProp 𝕄) = St c t (u + 1) :=
  St_u fun j hj e => by rw [wtime_inj (e.trans hu.symm) (by rw [e]; exact hp)] at hj; exact hi hj

theorem sig_q {c : Dev nD} (q : Fin 16) (r : Pg F PUnit) :
    iprop(Ctx xin win K ιs ∗ (St c q.val 0 ∗ bigSep Finset.univ fun k : Fin 4 => Ready c k 3) ∗ ne c q iprop(ownsE c (xCol q) ∗ ownsE c (aRow q)))
      ⊢ iprop((((St c (q.val + 1) 0 ∗ bigSep Finset.univ fun k : Fin 4 => Ready c k 3) ∗ emp) -∗ wpc c r Kt) -∗ wpc c (sig1 c q r) Kt) := by
  by_cases h : q = c
  · rw [show (sig1 c q r : Pg F PUnit) = r from cnd_pos h _ _, ne_pos h, St_skip (c := c) (u := 0) (i := .bar q) (t := q.val) (fun e => e h) rfl]
    iintro ⟨-, HI, HA⟩ Hk
    iapply Hk
    isplitl [HI]; · iexact HI
    iexact HA
  · rw [show (sig1 c q r : Pg F PUnit) = Prog.bind _ fun _ => r from cnd_neg h _ _, ne_neg h]
    have hsig := fun kk => signal_step xin win K ιs Kt (d := c) (i := .bar q) (t := q.val) (u := 0) h rfl rfl (c' := q) rfl (sem := barS) rfl (k := kk)
    rw [show apay xin win c (.bar q) = iprop(ownsE c (xCol q) ∗ ownsE c (aRow q) ∗ bigSep Finset.univ fun k => Ready c k 3) from rfl] at hsig
    have hr := ctx_reached xin win K ιs q none
    iintro ⟨#Hc, ⟨HS, #HR⟩, HA, HB⟩ Hk
    iapply (hsig _) $$ [HS HA HB]
    · isplitr; · iexact Hc
      isplitl [HS]; · iexact HS
      isplitl [HA HB]
      · isplitl [HA]; · iexact HA
        isplitl [HB]; · iexact HB
        iexact HR
      iapply hr; iexact Hc
    iintro HS
    iapply Hk
    isplitl [HS]
    · isplitl [HS]; · iexact HS
      iexact HR
    iempintro

/-- The amounts. -/
abbrev aX : ℕ := (xCol 0).view.dmaCredit
abbrev aA : ℕ := (aRow 0).view.dmaCredit
abbrev aS : ℕ := (slotM 0 0).view.dmaCredit

theorem ini_q {c : Dev nD} {k : Fin 4} {t u : ℕ} (ht : t = 16 + k.val) {r : Pg F PUnit} :
    iprop(Ctx xin win K ιs ∗ St c t u ∗ Ready (peer k c) k 3 ∗ ownsV c (wStrip k) fullShare.left (WS win c k))
      ⊢ iprop(((cred (tallyAt (cell c (some (.ini k))) 0 aS) ∗ St c (t + 1) u) -∗ wpc c r Kt) -∗ wpc c (initS c k r) Kt) := by
  have hsl := ctx_slot xin win K ιs (peer k c, k, 0)
  have hR : iprop((Ctx xin win K ιs ∗ released ES (peer k c, k, 0) 1) ∗ wtok c (.ini k))
      ⊢ |={Set.univ}=> (ownsE (tgt c (.ini k)) (slotM k 0) : sProp 𝕄) := by
    show iprop((Ctx xin win K ιs ∗ released ES (peer k c, k, (0 : Fin 3)) 1) ∗ writeTok ES (peer k c, k, (0 : Fin 3)) 1)
      ⊢ |={Set.univ}=> (ownsE (peer k c) (slotM k 0) : sProp 𝕄)
    iintro ⟨⟨#Hc, #Hrl⟩, Hw⟩
    iapply (slot_take (E := ES) (ι := ιs (peer k c, k, 0)) (k := (peer k c, k, 0)) (S := ownsE (peer k c) (slotM k 0)) (Set.mem_univ _) 1)
    isplitr; · iapply hsl; iexact Hc
    isplitr; · iexact Hrl
    iexact Hw
  have hsend := fun kk => send_step xin win K ιs Kt (d := c) (i := .ini k) (t := t) (u := u) trivial (by simp only [time]; omega) (Option.some_ne_none _)
    (c' := peer k c) rfl (src := wStrip k) (dst := slotM k 0) (sS := .dma (at4 cc0_scratch11 k)) (sR := .dma (at3 (recvA k) 0)) rfl rfl
    (hsrc := (Memref.isWhole_whole _).wordExact_slice rfl _ (strip_words k)) (hdst := ((bufM_whole k).wordExact_slice rfl _ (slot_words 0)).reshape _ _)
    (hsc := rfl) (hsem := ⟨⟨rfl, Or.inl rfl⟩, trivial⟩) (k := kk) rfl (q := fullShare.left) (X := WS win c k) .rfl .rfl hR
  rw [show cell (tgt c (.ini k)) (akd c (.ini k)) = cell (peer k c) (some (.rv k 0)) from rfl,
    show ard (.ini k) = 0 from rfl, show cell c (dkd (.ini k)) = cell c (some (.ini k)) from rfl,
    show drd (.ini k) = 0 from rfl, show amt (.ini k) = aS from rfl] at hsend
  have hget := ready_get (F := F) (d := peer k c) (k := k) (n := 3) (m := 0) (by omega)
  rw [show (SF (F := F) (peer k c) k 0) = iprop(released ES (peer k c, k, (0 : Fin 3)) 1 ∗ reached ER (cell (peer k c) (some (.rv k 0))) 0) from rfl] at hget
  have hr := ctx_reached xin win K ιs c (some (.ini k))
  iintro ⟨#Hc, HS, #Hrd, Hs⟩ Hk
  ihave #Hg := hget $$ Hrd
  icases Hg with ⟨#Hrl, #Hra⟩
  iapply (hsend _) $$ [HS Hs]
  · isplitr; · iexact Hc
    isplitl [HS]; · iexact HS
    isplitl [Hs]; · iexact Hs
    isplitr
    · isplitr; · iexact Hc
      iexact Hrl
    isplitr; · iexact Hra
    iapply hr; iexact Hc
  iintro H
  iapply Hk
  iexact H

theorem sx_q {c : Dev nD} (q : Fin 16) (r : Pg F PUnit) :
    iprop(Ctx xin win K ιs ∗ St c (20 + q.val) 1 ∗ ne c q iprop(ownsV c (xRow q) fullShare (XR xin c q) ∗ ownsE q (xCol c)))
      ⊢ iprop(((St c (20 + (q.val + 1)) 1 ∗ ne c q (cred (tallyAt (cell c (some (.xs q))) 0 aX))) -∗ wpc c r Kt) -∗ wpc c (sendX c q r) Kt) := by
  by_cases h : q = c
  · rw [show (sendX c q r : Pg F PUnit) = r from cnd_pos h _ _, ne_pos h, ne_pos h, St_skip (c := c) (u := 1) (i := .xs q) (t := 20 + q.val) (fun e => e h) rfl]
    iintro ⟨-, HI, HA⟩ Hk
    iapply Hk
    isplitl [HI]; · iexact HI
    iexact HA
  · rw [show (sendX c q r : Pg F PUnit) = Prog.bind _ fun _ => r from cnd_neg h _ _, ne_neg h, ne_neg h]
    have hR : iprop(ownsE q (xCol c) ∗ wtok c (.xs q)) ⊢ |={Set.univ}=> (ownsE (tgt c (.xs q)) (xColAt c) : sProp 𝕄) := by
      rw [xColAt_eq]
      show iprop(ownsE q (xCol c) ∗ emp) ⊢ |={Set.univ}=> (ownsE q (xCol c) : sProp 𝕄)
      iintro ⟨H, -⟩
      imodintro
      iexact H
    have hp2 : ownsV (tgt c (.xs q)) (xColAt c) fullShare (XR xin c q) ⊢ apay xin win c (.xs q) := by rw [xColAt_eq]; exact .rfl
    have hsend := fun kk => send_step xin win K ιs Kt (d := c) (i := .xs q) (t := 20 + q.val) (u := 1) h rfl (Option.some_ne_none _)
      (c' := q) rfl (src := xRow q) (dst := xColAt c) (sS := .dma (at16 cc0_scratch9 q)) (sR := .dma (at16' cc0_scratch10 c)) rfl (by rw [at16_eq])
      (hsrc := (Memref.isWhole_whole _).wordExact_slice rfl _ (row_words q)) (hdst := (Memref.isWhole_whole _).wordExact_slice rfl _ (off2_words c))
      (hsc := rfl) (hsem := ⟨⟨rfl, Or.inl rfl⟩, trivial⟩) (k := kk) rfl (q := fullShare) (X := XR xin c q) .rfl hp2 hR
    rw [show cell (tgt c (.xs q)) (akd c (.xs q)) = cell q (some (.xr c)) from rfl,
      show ard (.xs q) = 0 from rfl, show cell c (dkd (.xs q)) = cell c (some (.xs q)) from rfl,
      show drd (.xs q) = 0 from rfl, show amt (.xs q) = aX from rfl] at hsend
    have hr := ctx_reached xin win K ιs c (some (.xs q))
    have hr' := ctx_reached xin win K ιs q (some (.xr c))
    iintro ⟨#Hc, HS, HA, HB⟩ Hk
    iapply (hsend _) $$ [HS HA HB]
    · isplitr; · iexact Hc
      isplitl [HS]; · iexact HS
      isplitl [HA]; · iexact HA
      isplitl [HB]; · iexact HB
      isplitr; · iapply hr'; iexact Hc
      iapply hr; iexact Hc
    iintro ⟨Hcr, HS⟩
    iapply Hk
    isplitl [HS]; · iexact HS
    iexact Hcr

theorem late {c : Dev nD} {i : Py} (hi : i ∈ rem time c 36) : 2 < lev i := by
  rw [mem_rem] at hi
  obtain ⟨-, hi⟩ := hi
  cases i <;> simp only [time] at hi <;> simp only [lev] <;> omega

theorem wx_q {c : Dev nD} (q : Fin 16) (r : Pg F PUnit) :
    iprop(Ctx xin win K ιs ∗ St c 36 (1 + q.val) ∗ ne c q (atPos ER (cell c (some (.xr q))) 0 ∅ 0))
      ⊢ iprop(((St c 36 (1 + (q.val + 1)) ∗ ne c q iprop(atPos ER (cell c (some (.xr q))) 1 ∅ 0 ∗ ownsV c (xCol q) fullShare (XR xin q c))) -∗ wpc c r Kt)
        -∗ wpc c (waitX c q r) Kt) := by
  by_cases h : q = c
  · rw [show (waitX c q r : Pg F PUnit) = r from cnd_pos h _ _, ne_pos h, ne_pos h, St_skipu (c := c) (t := 36) (i := .xs q) (u := 1 + q.val) (fun e => e h) rfl (by omega)]
    iintro ⟨-, HI, HA⟩ Hk
    iapply Hk
    isplitl [HI]; · iexact HI
    iexact HA
  · rw [show (waitX c q r : Pg F PUnit) = Prog.bind _ fun _ => r from cnd_neg h _ _, ne_neg h, ne_neg h]
    have hW := wait_open (F := F) (d := c) (j := .xs q) (t := 36) (u := 1 + q.val) h rfl (by omega)
    rw [show (wcr c (.xs q) : sProp 𝕄) = cred (tallyAt (cell c (some (.xr q))) 2 aX) from rfl] at hW
    have hwait := fun kk => wait_dma xin win K ιs Kt (d := c) (κ := some (.xr q)) (r := 0) (ι := 2) (t := 36) (u := 1 + (q.val + 1)) (sem := at16 cc0_scratch10 q) rfl (du_xr xin win h)
      (src := xRow q) (dst := xCol q) (hsrc := (Memref.isWhole_whole _).wordExact_slice rfl _ (row_words q))
      (hdst := (Memref.isWhole_whole _).wordExact_slice rfl _ (col_words q)) rfl (by decide) (fun i => late) (k := kk)
    have hpay := payload_arr xin win q (.xs c) 0
    rw [show cell (tgt q (.xs c)) (akd q (.xs c)) = cell c (some (.xr q)) from rfl] at hpay
    rw [hpay] at hwait
    rw [show (amt (q, Py.xs c).2) = aX from rfl, show apay xin win q (.xs c) = ownsV c (xCol q) fullShare (XR xin q c) from rfl] at hwait
    iintro ⟨#Hc, HS, HA⟩ Hk
    ihave HS := hW $$ HS
    icases HS with ⟨Hcr, HS⟩
    iapply (hwait _) $$ [HS HA Hcr]
    · isplitr; · iexact Hc
      isplitl [Hcr]; · iexact Hcr
      isplitl [HA]; · iexact HA
      iexact HS
    iintro ⟨HS, HA, -, Hp⟩
    iapply Hk
    isplitl [HS]; · iexact HS
    isplitl [HA]; · iexact HA
    iexact Hp

theorem wi_q {c : Dev nD} {k : Fin 4} {t u : ℕ} {r : Pg F PUnit} :
    iprop(Ctx xin win K ιs ∗ St c t u ∗ cred (tallyAt (cell c (some (.ini k))) 0 aS) ∗ atPos ER (cell c (some (.ini k))) 0 ∅ 0)
      ⊢ iprop(((St c t u ∗ atPos ER (cell c (some (.ini k))) 1 ∅ 0 ∗ ownsV c (wStrip k) fullShare.left (WS win c k)) -∗ wpc c r Kt)
        -∗ wpc c (waitI k r) Kt) := by
  have hwait := fun kk => wait_dma xin win K ιs Kt (d := c) (κ := some (.ini k)) (r := 0) (ι := 0) (t := t) (u := u) (sem := at4 cc0_scratch11 k) rfl (du_ini xin win (c := c) (k := k))
    (src := slotM k 0) (dst := wStrip k) (hsrc := ((bufM_whole k).wordExact_slice rfl _ (slot_words 0)).reshape _ _)
    (hdst := (Memref.isWhole_whole _).wordExact_slice rfl _ (strip_words k)) rfl (by decide) (fun i _ => lev_pos i) (k := kk)
  have hpay := payload_dep xin win c (.ini k) (Option.some_ne_none _) 0
  rw [show cell c (dkd (.ini k)) = cell c (some (.ini k)) from rfl] at hpay
  rw [hpay] at hwait
  rw [show (amt (c, Py.ini k).2) = aS from rfl, show dpay xin win c (.ini k) = ownsV c (wStrip k) fullShare.left (WS win c k) from rfl] at hwait
  iintro ⟨#Hc, HS, Hcr, HA⟩ Hk
  iapply (hwait _) $$ [HS HA Hcr]
  · isplitr; · iexact Hc
    isplitl [Hcr]; · iexact Hcr
    isplitl [HA]; · iexact HA
    iexact HS
  iintro ⟨HS, HA, -, Hp⟩
  iapply Hk
  isplitl [HS]; · iexact HS
  isplitl [HA]; · iexact HA
  iexact Hp

theorem wxs_q {c : Dev nD} {t u : ℕ} (q : Fin 16) (r : Pg F PUnit) :
    iprop(Ctx xin win K ιs ∗ St c t u ∗ ne c q iprop(cred (tallyAt (cell c (some (.xs q))) 0 aX) ∗ atPos ER (cell c (some (.xs q))) 0 ∅ 0))
      ⊢ iprop(((St c t u ∗ ne c q iprop(atPos ER (cell c (some (.xs q))) 1 ∅ 0 ∗ ownsV c (xRow q) fullShare (XR xin c q))) -∗ wpc c r Kt)
        -∗ wpc c (waitXS c q r) Kt) := by
  by_cases h : q = c
  · rw [show (waitXS c q r : Pg F PUnit) = r from cnd_pos h _ _, ne_pos h, ne_pos h]
    iintro ⟨-, HI, HA⟩ Hk
    iapply Hk
    isplitl [HI]; · iexact HI
    iexact HA
  · rw [show (waitXS c q r : Pg F PUnit) = Prog.bind _ fun _ => r from cnd_neg h _ _, ne_neg h, ne_neg h]
    have hwait := fun kk => wait_dma xin win K ιs Kt (d := c) (κ := some (.xs q)) (r := 0) (ι := 0) (t := t) (u := u) (sem := at16 cc0_scratch9 q) rfl (du_xs xin win h)
      (src := xCol q) (dst := xRow q) (hsrc := (Memref.isWhole_whole _).wordExact_slice rfl _ (col_words q))
      (hdst := (Memref.isWhole_whole _).wordExact_slice rfl _ (row_words q)) rfl (by decide) (fun i _ => lev_pos i) (k := kk)
    have hpay := payload_dep xin win c (.xs q) (Option.some_ne_none _) 0
    rw [show cell c (dkd (.xs q)) = cell c (some (.xs q)) from rfl] at hpay
    rw [hpay] at hwait
    rw [show (amt (c, Py.xs q).2) = aX from rfl, show dpay xin win c (.xs q) = ownsV c (xRow q) fullShare (XR xin c q) from rfl] at hwait
    iintro ⟨#Hc, HS, Hcr, HA⟩ Hk
    iapply (hwait _) $$ [HS HA Hcr]
    · isplitr; · iexact Hc
      isplitl [Hcr]; · iexact Hcr
      isplitl [HA]; · iexact HA
      iexact HS
    iintro ⟨HS, HA, -, Hp⟩
    iapply Hk
    isplitl [HS]; · iexact HS
    isplitl [HA]; · iexact HA
    iexact Hp

theorem sa_q {c : Dev nD} (q : Fin 16) (r : Pg F PUnit) :
    iprop(Ctx xin win K ιs ∗ (St c (200 + q.val) 200 ∗ ownsV c (aRow c) (shR q.val) (AV xin win c)) ∗ ne c q (ownsE q (aRow c)))
      ⊢ iprop((((St c (200 + (q.val + 1)) 200 ∗ ownsV c (aRow c) (shR (q.val + 1)) (AV xin win c))
          ∗ (if q = c then ownsV c (aRow c) (shL q.val) (AV xin win c) else cred (tallyAt (cell c (some (.sa q))) 0 aA))) -∗ wpc c r Kt) -∗ wpc c (sendA c q r) Kt) := by
  have hh := (owns_halves (Ix := ℕ) (Name := ℕ) (U := UU) (Lvl := ℕ) (c : Thread nD τ) (aRow c) (shR q.val) (AV xin win c)).1
  rw [show (shR q.val).left = shL q.val from rfl, show (shR q.val).right = shR (q.val + 1) from rfl] at hh
  by_cases h : q = c
  · rw [show (sendA c q r : Pg F PUnit) = r from cnd_pos h _ _, ne_pos h, if_pos h, St_skip (c := c) (u := 200) (i := .am q) (t := 200 + q.val) (fun e => e h) rfl]
    iintro ⟨-, ⟨HS, Ha⟩, -⟩ Hk
    ihave Ha := hh $$ Ha
    icases Ha with ⟨Hl, Ha⟩
    iapply Hk
    isplitl [HS Ha]
    · isplitl [HS]; · iexact HS
      iexact Ha
    iexact Hl
  · rw [show (sendA c q r : Pg F PUnit) = Prog.bind _ fun _ => r from cnd_neg h _ _, ne_neg h, if_neg h]
    have hR : iprop(ownsE q (aRow c) ∗ wtok c (.am q)) ⊢ |={Set.univ}=> (ownsE (tgt c (.am q)) (aRowAt c) : sProp 𝕄) := by
      rw [aRowAt_eq]
      show iprop(ownsE q (aRow c) ∗ emp) ⊢ |={Set.univ}=> (ownsE q (aRow c) : sProp 𝕄)
      iintro ⟨H, -⟩
      imodintro
      iexact H
    have hp1 : ownsV c (aRowAt c) (shL q.val) (AV xin win c) ⊢ dpay xin win c (.am q) := by rw [aRowAt_eq]; exact .rfl
    have hp2 : ownsV (tgt c (.am q)) (aRowAt c) fullShare (AV xin win c) ⊢ apay xin win c (.am q) := by rw [aRowAt_eq]; exact .rfl
    have hsend := fun kk => send_step xin win K ιs Kt (d := c) (i := .am q) (t := 200 + q.val) (u := 200) h rfl (Option.some_ne_none _)
      (c' := q) rfl (src := aRowAt c) (dst := aRowAt c) (sS := .dma (at16 cc0_scratch17 q)) (sR := .dma (at16' cc0_scratch18 c)) rfl (by rw [at16_eq])
      (hsrc := View.wordExact_bits rfl) (hdst := View.wordExact_bits rfl)
      (hsc := rfl) (hsem := ⟨⟨rfl, Or.inl rfl⟩, trivial⟩) (k := kk) rfl (q := shL q.val) (X := AV xin win c) hp1 hp2 hR
    rw [show cell (tgt c (.am q)) (akd c (.am q)) = cell q (some (.ra c)) from rfl,
      show ard (.am q) = 0 from rfl, show cell c (dkd (.am q)) = cell c (some (.sa q)) from rfl,
      show drd (.am q) = 0 from rfl, show amt (.am q) = aA from rfl] at hsend
    have hsrc : ownsV c (aRow c) (shL q.val) (AV xin win c) ⊢ (ownsV c (aRowAt c) (shL q.val) (AV xin win c) : sProp 𝕄) := by rw [aRowAt_eq]
    have hr := ctx_reached xin win K ιs c (some (.sa q))
    have hr' := ctx_reached xin win K ιs q (some (.ra c))
    iintro ⟨#Hc, ⟨HS, Ha⟩, HB⟩ Hk
    ihave Ha := hh $$ Ha
    icases Ha with ⟨Hl, Ha⟩
    iapply (hsend _) $$ [HS Hl HB]
    · isplitr; · iexact Hc
      isplitl [HS]; · iexact HS
      isplitl [Hl]; · iapply hsrc; iexact Hl
      isplitl [HB]; · iexact HB
      isplitr; · iapply hr'; iexact Hc
      iapply hr; iexact Hc
    iintro ⟨Hcr, HS⟩
    iapply Hk
    isplitl [HS Ha]
    · isplitl [HS]; · iexact HS
      iexact Ha
    iexact Hcr

theorem late2 {c : Dev nD} {i : Py} (hi : i ∈ rem time c 216) : 100 < lev i := by
  rw [mem_rem] at hi
  obtain ⟨-, hi⟩ := hi
  cases i with
  | bar q => simp only [time] at hi; omega
  | xs q => simp only [time] at hi; omega
  | ini q => simp only [time] at hi; omega
  | fwd k h => have := ord_lt k; simp only [time] at hi; omega
  | cr k h => have := ord_lt k; simp only [time] at hi; omega
  | am q => simp only [time] at hi; omega

theorem wa_q {c : Dev nD} (q : Fin 16) (r : Pg F PUnit) :
    iprop(Ctx xin win K ιs ∗ St c 216 (200 + q.val) ∗ ((if q = c then ownsV c (aRow c) (shL q.val) (AV xin win c) else cred (tallyAt (cell c (some (.sa q))) 0 aA))
        ∗ ne c q iprop(atPos ER (cell c (some (.sa q))) 0 ∅ 0 ∗ atPos ER (cell c (some (.ra q))) 0 ∅ 0)))
      ⊢ iprop(((St c 216 (200 + (q.val + 1)) ∗ (ownsV c (aRow c) (shL q.val) (AV xin win c)
          ∗ ne c q iprop(atPos ER (cell c (some (.sa q))) 1 ∅ 0 ∗ atPos ER (cell c (some (.ra q))) 1 ∅ 0 ∗ ownsV c (aRow q) fullShare (AV xin win q)))) -∗ wpc c r Kt)
        -∗ wpc c (waitA c q r) Kt) := by
  by_cases h : q = c
  · rw [show (waitA c q r : Pg F PUnit) = r from cnd_pos h _ _, ne_pos h, ne_pos h, if_pos h, St_skipu (c := c) (t := 216) (i := .am q) (u := 200 + q.val) (fun e => e h) rfl (by omega)]
    iintro ⟨-, HI, HA⟩ Hk
    iapply Hk
    isplitl [HI]; · iexact HI
    iexact HA
  · rw [show (waitA c q r : Pg F PUnit) = Prog.bind _ fun _ => r from cnd_neg h _ _, ne_neg h, ne_neg h, if_neg h]
    rw [show (Prog.bind (do
        Prog.lift (.waitDma2 (at16 cc0_scratch17 q) (aRow q) (aRow q) (View.wordExact_bits rfl) (View.wordExact_bits rfl))
        Prog.lift (.waitDma2 (at16 cc0_scratch18 q) (aRow q) (aRow q) (View.wordExact_bits rfl) (View.wordExact_bits rfl))) (fun _ => r) : Pg F PUnit)
      = Prog.bind (Prog.lift (.waitDma2 (at16 cc0_scratch17 q) (aRow q) (aRow q) (View.wordExact_bits rfl) (View.wordExact_bits rfl))) fun _ =>
        Prog.bind (Prog.lift (.waitDma2 (at16 cc0_scratch18 q) (aRow q) (aRow q) (View.wordExact_bits rfl) (View.wordExact_bits rfl))) fun _ => r from rfl]
    have hW := wait_open (F := F) (d := c) (j := .am q) (t := 216) (u := 200 + q.val) h rfl (by omega)
    rw [show (wcr c (.am q) : sProp 𝕄) = cred (tallyAt (cell c (some (.ra q))) 100 aA) from rfl] at hW
    have hwait := fun kk => wait_dma xin win K ιs Kt (d := c) (κ := some (.ra q)) (r := 0) (ι := 100) (t := 216) (u := 200 + (q.val + 1)) (sem := at16 cc0_scratch18 q) rfl (du_ra xin win h)
      (src := aRow q) (dst := aRow q) (hsrc := View.wordExact_bits rfl)
      (hdst := View.wordExact_bits rfl) rfl (by decide) (fun i => late2) (k := kk)
    have hpay := payload_arr xin win q (.am c) 0
    rw [show cell (tgt q (.am c)) (akd q (.am c)) = cell c (some (.ra q)) from rfl] at hpay
    rw [hpay] at hwait
    rw [show (amt (q, Py.am c).2) = aA from rfl, show apay xin win q (.am c) = ownsV c (aRow q) fullShare (AV xin win q) from rfl] at hwait
    have hwait' := fun kk => wait_dma xin win K ιs Kt (d := c) (κ := some (.sa q)) (r := 0) (ι := 0) (t := 216) (u := 200 + q.val) (sem := at16 cc0_scratch17 q) rfl (du_sa xin win h)
      (src := aRow q) (dst := aRow q) (hsrc := View.wordExact_bits rfl)
      (hdst := View.wordExact_bits rfl) rfl (by decide) (fun i _ => lev_pos i) (k := kk)
    have hpay' := payload_dep xin win c (.am q) (Option.some_ne_none _) 0
    rw [show cell c (dkd (.am q)) = cell c (some (.sa q)) from rfl] at hpay'
    rw [hpay'] at hwait'
    rw [show (amt (c, Py.am q).2) = aA from rfl, show dpay xin win c (.am q) = ownsV c (aRow c) (shL q.val) (AV xin win c) from rfl] at hwait'
    iintro ⟨#Hc, HS, Hcr', HA', HA⟩ Hk
    iapply (hwait' _) $$ [HS HA' Hcr']
    · isplitr; · iexact Hc
      isplitl [Hcr']; · iexact Hcr'
      isplitl [HA']; · iexact HA'
      iexact HS
    iintro ⟨HS, HA', -, Hp'⟩
    ihave HS := hW $$ HS
    icases HS with ⟨Hcr, HS⟩
    iapply (hwait _) $$ [HS HA Hcr]
    · isplitr; · iexact Hc
      isplitl [Hcr]; · iexact Hcr
      isplitl [HA]; · iexact HA
      iexact HS
    iintro ⟨HS, HA, -, Hp⟩
    iapply Hk
    isplitl [HS]; · iexact HS
    isplitl [Hp']; · iexact Hp'
    isplitl [HA']; · iexact HA'
    isplitl [HA]; · iexact HA
    iexact Hp

end Cert.KernelIdeal.Pf
-- ==== Proof.Hop.lean ====
/-
  The buffers taken apart and put together, and one hop of the ring.
-/
module

public import proofs.«01_k».proof.Proof.Others

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

variable (xin : Dev nD → Vec F S4096x256 .bf16) (win : Dev nD → Vec F S256x8192 .bf16)
variable (K : Dev nD × Option Sd → ℕ) (ιs : Dev nD × Fin 4 × Fin 3 → ℕ)

theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem fin3 (Φ : Fin 3 → sProp 𝕄) : bigSep Finset.univ Φ = iprop(Φ 0 ∗ Φ 1 ∗ Φ 2) := bigSep_univ_eq_bigSepL [0, 1, 2] (by decide) (by decide) Φ

theorem ne_join {c q : Dev nD} (A B : sProp (MT nD τ sig ℕ (Elt F) ℕ UU ℕ)) : iprop(ne c q A ∗ ne c q B) ⊢ ne c q iprop(A ∗ B) := by
  unfold ne
  by_cases h : q = c
  · rw [if_pos h, if_pos h, if_pos h]
    iintro ⟨-, -⟩
    iempintro
  · rw [if_neg h, if_neg h, if_neg h]
theorem ne_split {c q : Dev nD} (A B : sProp (MT nD τ sig ℕ (Elt F) ℕ UU ℕ)) : ne c q iprop(A ∗ B) ⊢ iprop(ne c q A ∗ ne c q B) := by
  unfold ne
  by_cases h : q = c
  · rw [if_pos h, if_pos h, if_pos h]
    iintro -
    isplitr <;> iempintro
  · rw [if_neg h, if_neg h, if_neg h]
theorem nes_join {c : Dev nD} (A B : Fin 16 → sProp (MT nD τ sig ℕ (Elt F) ℕ UU ℕ)) :
    iprop((bigSep Finset.univ fun q : Fin 16 => ne c q (A q)) ∗ bigSep Finset.univ fun q : Fin 16 => ne c q (B q)) ⊢ bigSep Finset.univ fun q : Fin 16 => ne c q iprop(A q ∗ B q) := by
  rw [← bigSep_sep']
  exact bigSep_mono fun q _ => ne_join _ _
theorem nes_split {c : Dev nD} (A B : Fin 16 → sProp (MT nD τ sig ℕ (Elt F) ℕ UU ℕ)) :
    (bigSep Finset.univ fun q : Fin 16 => ne c q iprop(A q ∗ B q)) ⊢ iprop((bigSep Finset.univ fun q : Fin 16 => ne c q (A q)) ∗ bigSep Finset.univ fun q : Fin 16 => ne c q (B q)) := by
  rw [← bigSep_sep']
  exact bigSep_mono fun q _ => ne_split _ _
theorem two_join {s : Finset (Fin 16)} (A B : Fin 16 → sProp (MT nD τ sig ℕ (Elt F) ℕ UU ℕ)) : iprop(bigSep s A ∗ bigSep s B) ⊢ bigSep s fun q : Fin 16 => iprop(A q ∗ B q) :=
  Entails.of_eq (bigSep_sep' s A B).symm
theorem two_split {s : Finset (Fin 16)} (A B : Fin 16 → sProp (MT nD τ sig ℕ (Elt F) ℕ UU ℕ)) : bigSep s (fun q : Fin 16 => iprop(A q ∗ B q)) ⊢ iprop(bigSep s A ∗ bigSep s B) :=
  Entails.of_eq (bigSep_sep' s A B)

/-! ## Buffers taken apart and put together -/

section Parts
variable {T : Type} [Fintype T] [DecidableEq T] (c : Dev nD) {sh : Shape} {e : EltTy} (m : Memref sig .tc .vmem sh e) (q : PosShare TreeShare)
  (r : T → Rect sh) (hr : ∀ t a, (r t).stride a = 1)
  (hd : ∀ t t', t ≠ t' → Disjoint (r t).set (r t').set)
  (hcov : (Finset.univ : Finset T).biUnion (fun t => (r t).set) = Finset.univ)
include hd hcov
theorem parts (X : sh.Idx → Elt F e) : (ownsV c m q X : sProp 𝕄) ⊢ bigSep Finset.univ fun t => ownsV c (m.slice (r t) (hr t)) q (fun j => X ((r t).emb j)) := by
  have h := owns_rects (Ix := ℕ) (Name := ℕ) (U := UU) (Lvl := ℕ) (Val := Elt F) (c : Thread nD τ) m q r hr hd hcov X
  exact h
theorem unparts (X : sh.Idx → Elt F e) : bigSep Finset.univ (fun t => ownsV c (m.slice (r t) (hr t)) q (fun j => X ((r t).emb j))) ⊢ (ownsV c m q X : sProp 𝕄) := by
  have h := owns_of_rects (Ix := ℕ) (Name := ℕ) (U := UU) (Lvl := ℕ) (Val := Elt F) (c : Thread nD τ) m q r hr hd hcov X
  exact h
theorem partsE : (ownsE c m : sProp 𝕄) ⊢ bigSep Finset.univ fun t => ownsE c (m.slice (r t) (hr t)) := by
  have h : ∀ X, (ownsV c m fullShare X : sProp 𝕄) ⊢ bigSep Finset.univ fun t => ownsE c (m.slice (r t) (hr t)) := by
    intro X
    have h1 : ∀ t, (ownsV c (m.slice (r t) (hr t)) fullShare (fun j => X ((r t).emb j)) : sProp 𝕄) ⊢ ownsE c (m.slice (r t) (hr t)) := by
      intro t
      iintro H
      iexists _
      iexact H
    exact Idealize.SL.BI.BIBase.Entails.trans (parts c m fullShare r hr hd hcov X) (bigSep_mono fun t _ => h1 t)
  iintro ⟨%X, H⟩
  iapply (h X)
  iexact H
theorem unparts_at (X : sh.Idx → Elt F e) (V : ∀ t, (r t).shape.Idx → Elt F e) (hV : ∀ t, (fun j => X ((r t).emb j)) = V t) :
    bigSep Finset.univ (fun t => ownsV c (m.slice (r t) (hr t)) q (V t)) ⊢ (ownsV c m q X : sProp 𝕄) := by
  rw [← show (fun t j => X ((r t).emb j)) = V from funext hV]
  exact unparts c m q r hr hd hcov X
end Parts

theorem w_split (c : Dev nD) (q : PosShare TreeShare) : ownsV c wB q (k0_pay1 (win c)) ⊢ (bigSep Finset.univ fun k : Fin 4 => ownsV c (wStrip k) q (WS win c k) : sProp 𝕄) :=
  parts c wB q stripR (fun _ _ => rfl) strip_dis strip_cov (k0_pay1 (win c))
theorem w_join (c : Dev nD) (q : PosShare TreeShare) : (bigSep Finset.univ fun k : Fin 4 => ownsV c (wStrip k) q (WS win c k) : sProp 𝕄) ⊢ ownsV c wB q (k0_pay1 (win c)) :=
  unparts c wB q stripR (fun _ _ => rfl) strip_dis strip_cov (k0_pay1 (win c))
theorem x_split (c : Dev nD) : ownsV c xB fullShare (k0_pay2 (xin c)) ⊢ (bigSep Finset.univ fun q : Fin 16 => ownsV c (xRow q) fullShare (XR xin c q) : sProp 𝕄) :=
  parts c xB fullShare rowR (fun _ _ => rfl) row_dis row_cov (k0_pay2 (xin c))
theorem x_join (c : Dev nD) : (bigSep Finset.univ fun q : Fin 16 => ownsV c (xRow q) fullShare (XR xin c q) : sProp 𝕄) ⊢ ownsE c xB := by
  have h := unparts c xB fullShare rowR (fun _ _ => rfl) row_dis row_cov (k0_pay2 (xin c))
  have h2 : (bigSep Finset.univ fun q : Fin 16 => ownsV c (xRow q) fullShare (XR xin c q) : sProp 𝕄) ⊢ ownsV c xB fullShare (k0_pay2 (xin c)) := h
  iintro H
  iexists (k0_pay2 (xin c))
  iapply h2
  iexact H
/-- A strip of the product. -/
abbrev yStrip (k : Fin 4) : Memref sig .tc .vmem S256x2048 .f32 := yB.slice (stripR k) (fun _ => rfl)
theorem y_split (c : Dev nD) : ownsV c yB fullShare (Y0 xin win c) ⊢ (bigSep Finset.univ fun k : Fin 4 => ownsV c (yStrip k) fullShare (Ys xin win c k 0) : sProp 𝕄) :=
  parts c yB fullShare stripR (fun _ _ => rfl) strip_dis strip_cov (Y0 xin win c)
theorem y_join (c : Dev nD) : (bigSep Finset.univ fun k : Fin 4 => ownsV c (yStrip k) fullShare (Ys xin win c k 15) : sProp 𝕄) ⊢ ownsV c yB fullShare (YF xin win c) :=
  unparts_at c yB fullShare stripR (fun _ _ => rfl) strip_dis strip_cov (YF xin win c) (fun k => Ys xin win c k 15) (YF_strip xin win c)
theorem col_split (c : Dev nD) : ownsE c xR ⊢ (bigSep Finset.univ fun q : Fin 16 => ownsE c (xCol q) : sProp 𝕄) :=
  partsE c xR colR (fun _ _ => rfl) col_dis col_cov
theorem col_join (c : Dev nD) : (bigSep Finset.univ fun q : Fin 16 => ownsV c (xCol q) fullShare (XR xin q c) : sProp 𝕄) ⊢ ownsE c xR := by
  have h := unparts_at c xR fullShare colR (fun _ _ => rfl) col_dis col_cov (glue colR (cov_ex col_cov) fun q => XR xin q c) (fun q => XR xin q c)
    (fun q => funext fun j => glue_emb colR _ _ (dis_emb col_dis) q j)
  iintro H
  iexists (glue colR (cov_ex col_cov) fun q => XR xin q c)
  iapply h
  iexact H
theorem arow_split (c : Dev nD) : ownsE c aB ⊢ (bigSep Finset.univ fun q : Fin 16 => ownsE c (aRow q) : sProp 𝕄) :=
  partsE c aB arowR (fun _ _ => rfl) arow_dis arow_cov
theorem arow_join (c : Dev nD) : (bigSep Finset.univ fun q : Fin 16 => ownsV c (aRow q) fullShare (AV xin win q) : sProp 𝕄) ⊢ ownsV c aB fullShare (AT xin win) :=
  unparts_at c aB fullShare arowR (fun _ _ => rfl) arow_dis arow_cov (AT xin win) (fun q => AV xin win q) (AT_row xin win)

/-- The slots of a landing buffer. -/
theorem slots_split (c : Dev nD) (k : Fin 4) : ownsE c (bufM k) ⊢ (bigSep Finset.univ fun s : Fin 3 => ownsE c (slotM k s) : sProp 𝕄) := by
  have h := partsE (F := F) c (bufM k) slotR (fun _ _ => rfl) slot_dis slot_cov
  suffices h0 : ∀ s : Fin 3, (ownsE c ((bufM k).slice (slotR s) (fun _ => rfl)) : sProp 𝕄) ⊢ ownsE c (slotM k s) from
    Idealize.SL.BI.BIBase.Entails.trans h (bigSep_mono fun s _ => h0 s)
  intro s
  have h1 : ∀ X : S1x256x2048.Idx → Elt F .bf16, ownsV c ((bufM k).slice (slotR s) (fun _ => rfl)) fullShare X
      ⊢ (ownsV c (slotM k s) fullShare (fun i => X (Shape.reshapeEquiv (squeezes_S1x256x2048_S256x2048).numel_eq i)) : sProp 𝕄) := by
    intro X
    have h1 := (slot_owns c k s fullShare (fun i => X (Shape.reshapeEquiv (squeezes_S1x256x2048_S256x2048).numel_eq i))).2
    rw [show blk3 (fun i => X (Shape.reshapeEquiv (squeezes_S1x256x2048_S256x2048).numel_eq i)) = X from
      funext fun j => congrArg X (Equiv.apply_symm_apply _ j)] at h1
    exact h1
  iintro ⟨%X, H⟩
  iexists _
  iapply (h1 X)
  iexact H
theorem slots_join (c : Dev nD) (k : Fin 4) : iprop(ownsE c (slotM k 0) ∗ ownsE c (slotM k 1) ∗ ownsE c (slotM k 2)) ⊢ (ownsE c (bufM k) : sProp 𝕄) := by
  have he : ∀ V : Fin 3 → Vec F S256x2048 .bf16, (iprop(ownsV c (slotM k 0) fullShare (V 0) ∗ ownsV c (slotM k 1) fullShare (V 1) ∗ ownsV c (slotM k 2) fullShare (V 2)) : sProp 𝕄)
      ⊢ ownsV c (bufM k) fullShare (glue slotR (cov_ex slot_cov) fun s => blk3 (V s)) := by
    intro V
    have h := unparts_at c (bufM k) fullShare slotR (fun _ _ => rfl) slot_dis slot_cov (glue slotR (cov_ex slot_cov) fun s => blk3 (V s)) (fun s => blk3 (V s))
      (fun s => funext fun j => glue_emb slotR _ _ (dis_emb slot_dis) s j)
    refine Idealize.SL.BI.BIBase.Entails.trans ?_ h
    have h3 := fin3 (fun s : Fin 3 => ownsV c (slotM k s) fullShare (V s))
    refine Idealize.SL.BI.BIBase.Entails.trans (Entails.of_eq h3.symm) (bigSep_mono fun s _ => ?_)
    exact (slot_owns c k s fullShare (V s)).1
  iintro ⟨⟨%V0, H0⟩, ⟨%V1, H1⟩, ⟨%V2, H2⟩⟩
  iexists _
  iapply (he (fun s => match s with | 0 => V0 | 1 => V1 | 2 => V2))
  isplitl [H0]; · iexact H0
  isplitl [H1]; · iexact H1
  iexact H2

/-! ## The shares of the own row -/

theorem shares_join (c : Dev nD) (X : Vec F S1x128 .f32) (n : ℕ) :
    iprop(ownsV c (aRow c) (shR n) X ∗ bigSep (Finset.range n) fun i => ownsV c (aRow c) (shL i) X) ⊢ (ownsV c (aRow c) fullShare X : sProp 𝕄) := by
  induction n with
  | zero =>
    iintro ⟨H, -⟩
    iexact H
  | succ n ih =>
    have hh := (owns_halves (Ix := ℕ) (Name := ℕ) (U := UU) (Lvl := ℕ) (c : Thread nD τ) (aRow c) (shR n) X).2
    rw [show (shR n).left = shL n from rfl, show (shR n).right = shR (n + 1) from rfl] at hh
    rw [Finset.range_add_one]
    have hi := bs_ins (F := F) (s := Finset.range n) (i := n) Finset.notMem_range_self (Φ := fun i => ownsV c (aRow c) (shL i) X)
    iintro ⟨H, HL⟩
    ihave HL := hi $$ HL
    icases HL with ⟨Hn, HL⟩
    iapply ih
    isplitl [H Hn]
    · iapply hh
      isplitl [Hn]; · iexact Hn
      iexact H
    iexact HL
theorem shares_join16 (c : Dev nD) (X : Vec F S1x128 .f32) :
    iprop(ownsV c (aRow c) (shR 16) X ∗ bigSep Finset.univ fun q : Fin 16 => ownsV c (aRow c) (shL q.val) X) ⊢ (ownsV c (aRow c) fullShare X : sProp 𝕄) := by
  have he : (bigSep Finset.univ fun q : Fin 16 => ownsV c (aRow c) (shL q.val) X : sProp 𝕄) = bigSep (Finset.range 16) fun i => ownsV c (aRow c) (shL i) X := by
    rw [show Finset.range 16 = (Finset.univ : Finset (Fin 16)).image Fin.val by decide, BI.bigSep_image_of_injOn (fun a _ b _ h => Fin.ext h)]
  rw [he]
  exact shares_join c X 16

/-! ## The slots released at the start -/

theorem start_slots (c : Dev nD) (k : Fin 4) :
    iprop(Ctx xin win K ιs ∗ ownsE c (bufM k) ∗ bigSep Finset.univ fun s : Fin 3 => readerAt ES (c, k, s) 0)
      ⊢ |={Set.univ}=> iprop((bigSep Finset.univ fun s : Fin 3 => readerAt ES (c, k, s) 1) ∗ Ready c k 3) := by
  have h1 : ∀ s : Fin 3, iprop(Ctx xin win K ιs ∗ ownsE c (slotM k s) ∗ readerAt ES (c, k, s) 0) ⊢ |={Set.univ}=> (iprop(readerAt ES (c, k, s) 1 ∗ released ES (c, k, s) 1) : sProp 𝕄) := by
    intro s
    have hsl := ctx_slot xin win K ιs (c, k, s)
    iintro ⟨#Hc, Hs, Hr⟩
    iapply (slot_release (E := ES) (ι := ιs (c, k, s)) (k := (c, k, s)) (S := ownsE c (slotM k s)) (Set.mem_univ _) (slot_false c k s) 0)
    isplitr; · iapply hsl; iexact Hc
    isplitl [Hr]; · iexact Hr
    iexact Hs
  have hr := fun s => ctx_reached xin win K ιs c (some (.rv k s))
  have hsf : iprop((released ES (c, k, (0 : Fin 3)) 1 ∗ reached ER (cell c (some (.rv k 0))) 0) ∗ (released ES (c, k, (1 : Fin 3)) 1 ∗ reached ER (cell c (some (.rv k 1))) 0)
      ∗ (released ES (c, k, (2 : Fin 3)) 1 ∗ reached ER (cell c (some (.rv k 2))) 0)) ⊢ (Ready c k 3 : sProp 𝕄) := by
    unfold Ready
    rw [show Finset.range 3 = {0, 1, 2} by decide, BI.bigSep_insert (by decide), BI.bigSep_insert (by decide), bigSep_singleton]
    unfold SF
    exact .rfl
  have hsp := slots_split (F := F) c k
  rw [fin3] at hsp
  rw [fin3, fin3]
  iintro ⟨#Hc, Hb, Hr0, Hr1, Hr2⟩
  ihave Hb := hsp $$ Hb
  icases Hb with ⟨H0, H1, H2⟩
  imod (h1 0) $$ [H0 Hr0] with ⟨Hr0, #Hl0⟩
  · isplitr; · iexact Hc
    isplitl [H0]; · iexact H0
    iexact Hr0
  imod (h1 1) $$ [H1 Hr1] with ⟨Hr1, #Hl1⟩
  · isplitr; · iexact Hc
    isplitl [H1]; · iexact H1
    iexact Hr1
  imod (h1 2) $$ [H2 Hr2] with ⟨Hr2, #Hl2⟩
  · isplitr; · iexact Hc
    isplitl [H2]; · iexact H2
    iexact Hr2
  imodintro
  isplitl [Hr0 Hr1 Hr2]
  · isplitl [Hr0]; · iexact Hr0
    isplitl [Hr1]; · iexact Hr1
    iexact Hr2
  iapply hsf
  isplitr
  · isplitr; · iexact Hl0
    iapply (hr 0); iexact Hc
  isplitr
  · isplitr; · iexact Hl1
    iapply (hr 1); iexact Hc
  isplitr; · iexact Hl2
  iapply (hr 2); iexact Hc

variable (Kt : PUnit.{1} → sProp (MT nD τ sig ℕ (Elt F) ℕ UU ℕ))

/-! ## A hop -/

/-- The assembled input rows. -/
def Cols (c : Dev nD) : sProp (MT nD τ sig ℕ (Elt F) ℕ UU ℕ) := bigSep Finset.univ fun q : Fin 16 => ownsV c (xCol q) fullShare (XR xin q c)
/-- A strip of the product after `n` hops. -/
def Yk (c : Dev nD) (k : Fin 4) (n : ℕ) : sProp (MT nD τ sig ℕ (Elt F) ℕ UU ℕ) := ownsV c (yStrip k) fullShare (Ys xin win c k n)

theorem accOff_eq : ∀ (c : Dev nD) (k : Fin 4) (h : Fin 15), accOff c k h = ![0, 256 * (orig c k h.val).val] := by decide +kernel

theorem acc_step {c : Dev nD} {k : Fin 4} {h : Fin 15} {r : Pg F PUnit} :
    iprop(Cols xin c ∗ Cm xin win c k (h.val + 1) ∗ Yk xin win c k h.val)
      ⊢ iprop(((Cols xin c ∗ Cm xin win c k (h.val + 1) ∗ Yk xin win c k (h.val + 1)) -∗ wpc c r Kt) -∗ wpc c (accY c k h r) Kt) := by
  have hupd := bs_upd (F := F) (Finset.mem_univ (orig c k h.val)) (Φ := fun q : Fin 16 => ownsV c (xCol q) fullShare (XR xin q c))
    (Ψ := fun q : Fin 16 => ownsV c (xCol q) fullShare (XR xin q c)) (fun _ _ _ => rfl)
  have hoff := accOff_eq c k h
  unfold Cols Cm Yk
  rw [show Pr win c k (h.val + 1) = Fl win c k h.val from rfl]
  unfold Fl
  iintro ⟨HC, ⟨HRv, Hat, HRel, HKp, HCr, Hs, HFl⟩, HY⟩ Hk
  ihave HC := hupd $$ HC
  icases HC with ⟨Hx, HC⟩
  iapply (ld_slice_at c Kt (m := xR) (off := ![0, 256 * (orig c k h.val).val]) (off' := accOff c k h) (size := S256x256.size) hoff (inb := col_inb _)) $$ Hx
  iintro Hx
  iapply (ld_slot c Kt (k := k) (s := sl h.val)) $$ Hs
  iintro Hs
  iapply (ld_slice c Kt (m := yB) (r := stripR k) (fun _ => rfl)) $$ HY
  iintro HY
  iapply (ld_slice c Kt (m := yB) (r := stripR k) (fun _ => rfl)) $$ HY
  iintro HY
  iapply (st_slice c Kt (m := yB) (r := stripR k) (fun _ => rfl)) $$ HY
  iintro HY
  iapply Hk
  isplitl [Hx HC]
  · iapply HC
    iexact Hx
  isplitl [HRv Hat HRel HKp HCr Hs HFl]
  · isplitl [HRv]; · iexact HRv
    isplitl [Hat]; · iexact Hat
    isplitl [HRel]; · iexact HRel
    isplitl [HKp]; · iexact HKp
    isplitl [HCr]; · iexact HCr
    isplitl [Hs]; · iexact Hs
    iexact HFl
  iexact HY

/-- Between hops. -/
def HS (c : Dev nD) (h : ℕ) : sProp (MT nD τ sig ℕ (Elt F) ℕ UU ℕ) :=
  iprop(St c (36 + 8 * h) (20 + 8 * h) ∗ (Cm xin win c 0 h ∗ Cm xin win c 1 h ∗ Cm xin win c 2 h ∗ Cm xin win c 3 h) ∗ Cols xin c
    ∗ (Yk xin win c 0 h ∗ Yk xin win c 1 h ∗ Yk xin win c 2 h ∗ Yk xin win c 3 h))

theorem hop_step {c : Dev nD} (h : Fin 15) (r : Pg F PUnit) :
    iprop(Ctx xin win K ιs ∗ HS xin win c h.val) ⊢ iprop((HS xin win c (h.val + 1) -∗ wpc c r Kt) -∗ wpc c (hop c h r) Kt) := by
  have c0 := fun r => comm_step xin win K ιs Kt (c := c) (k := 0) (h := h) (t := 36 + 8 * h.val) (u := 20 + 8 * h.val) (by rw [show ord 0 = 0 from rfl, Nat.mul_zero, Nat.add_zero]) (by rw [show ord 0 = 0 from rfl, Nat.mul_zero, Nat.add_zero]) (r := r)
  have c2 := fun r => comm_step xin win K ιs Kt (c := c) (k := 2) (h := h) (t := 36 + 8 * h.val + 2) (u := 20 + 8 * h.val + 2) (by rw [show ord 2 = 1 from rfl]) (by rw [show ord 2 = 1 from rfl]) (r := r)
  have c1 := fun r => comm_step xin win K ιs Kt (c := c) (k := 1) (h := h) (t := 36 + 8 * h.val + 2 + 2) (u := 20 + 8 * h.val + 2 + 2) (by rw [show ord 1 = 2 from rfl]) (by rw [show ord 1 = 2 from rfl]) (r := r)
  have c3 := fun r => comm_step xin win K ιs Kt (c := c) (k := 3) (h := h) (t := 36 + 8 * h.val + 2 + 2 + 2) (u := 20 + 8 * h.val + 2 + 2 + 2) (by rw [show ord 3 = 3 from rfl]) (by rw [show ord 3 = 3 from rfl]) (r := r)
  have ac := fun k r => acc_step xin win Kt (c := c) (k := k) (h := h) (r := r)
  unfold hop HS
  rw [show 36 + 8 * (h.val + 1) = 36 + 8 * h.val + 2 + 2 + 2 + 2 by omega, show 20 + 8 * (h.val + 1) = 20 + 8 * h.val + 2 + 2 + 2 + 2 by omega]
  iintro ⟨#Hc, HS, ⟨C0, C1, C2, C3⟩, HC, ⟨Y0, Y1, Y2, Y3⟩⟩ Hk
  iapply (c0 _) $$ [HS C0]
  · isplitr; · iexact Hc
    isplitl [HS]; · iexact HS
    iexact C0
  iintro ⟨HS, C0⟩
  iapply (c2 _) $$ [HS C2]
  · isplitr; · iexact Hc
    isplitl [HS]; · iexact HS
    iexact C2
  iintro ⟨HS, C2⟩
  iapply (c1 _) $$ [HS C1]
  · isplitr; · iexact Hc
    isplitl [HS]; · iexact HS
    iexact C1
  iintro ⟨HS, C1⟩
  iapply (c3 _) $$ [HS C3]
  · isplitr; · iexact Hc
    isplitl [HS]; · iexact HS
    iexact C3
  iintro ⟨HS, C3⟩
  iapply (ac 0 _) $$ [HC C0 Y0]
  · isplitl [HC]; · iexact HC
    isplitl [C0]; · iexact C0
    iexact Y0
  iintro ⟨HC, C0, Y0⟩
  iapply (ac 1 _) $$ [HC C1 Y1]
  · isplitl [HC]; · iexact HC
    isplitl [C1]; · iexact C1
    iexact Y1
  iintro ⟨HC, C1, Y1⟩
  iapply (ac 2 _) $$ [HC C2 Y2]
  · isplitl [HC]; · iexact HC
    isplitl [C2]; · iexact C2
    iexact Y2
  iintro ⟨HC, C2, Y2⟩
  iapply (ac 3 _) $$ [HC C3 Y3]
  · isplitl [HC]; · iexact HC
    isplitl [C3]; · iexact C3
    iexact Y3
  iintro ⟨HC, C3, Y3⟩
  iapply Hk
  isplitl [HS]; · iexact HS
  isplitl [C0 C1 C2 C3]
  · isplitl [C0]; · iexact C0
    isplitl [C1]; · iexact C1
    isplitl [C2]; · iexact C2
    iexact C3
  isplitl [HC]; · iexact HC
  isplitl [Y0]; · iexact Y0
  isplitl [Y1]; · iexact Y1
  isplitl [Y2]; · iexact Y2
  iexact Y3

end Cert.KernelIdeal.Pf
-- ==== Proof.Head.lean ====
/-
  The kernel's steps before the first hop.
-/
module

public import proofs.«01_k».proof.Proof.Hop

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

variable (xin : Dev nD → Vec F S4096x256 .bf16) (win : Dev nD → Vec F S256x8192 .bf16)
variable (K : Dev nD × Option Sd → ℕ) (ιs : Dev nD × Fin 4 × Fin 3 → ℕ)

theorem St_head (c : Dev nD) : (St c 36 17 : sProp 𝕄) = St c 36 20 :=
  St_eq rfl (rem_eq (by omega) fun i hi ht => by cases i <;> simp only [wtime] at ht ⊢ <;> omega)
theorem St_tail (c : Dev nD) : (St c 156 140 : sProp 𝕄) = St c 200 200 :=
  St_eq (rem_eq (by omega) fun i hi ht => by
      cases i with
      | fwd k h => have := ord_lt k; have := h.isLt; simp only [time] at ht ⊢; omega
      | cr k h => have := ord_lt k; have := h.isLt; simp only [time] at ht ⊢; omega
      | bar q => simp only [time] at ht ⊢; omega
      | xs q => simp only [time] at ht ⊢; omega
      | ini q => simp only [time] at ht ⊢; omega
      | am q => simp only [time] at ht ⊢; omega)
    (rem_eq (by omega) fun i hi ht => by
      cases i with
      | fwd k h => have := ord_lt k; have := h.isLt; simp only [wtime] at ht ⊢; omega
      | cr k h => have := ord_lt k; have := h.isLt; simp only [wtime] at ht ⊢; omega
      | bar q => simp only [wtime] at ht ⊢; omega
      | xs q => simp only [wtime] at ht ⊢; omega
      | ini q => have := ord_lt q; simp only [wtime] at ht ⊢; omega
      | am q => simp only [wtime] at ht ⊢; omega)

theorem ne_mem {c q : Dev nD} (h : q ≠ c) : q ∈ (Finset.univ : Finset (Fin 16)).erase c := Finset.mem_erase.mpr ⟨h, Finset.mem_univ _⟩

variable (Kt : PUnit.{1} → sProp (MT nD τ sig ℕ (Elt F) ℕ UU ℕ))

/-- The weights cast. -/
theorem castW_step {c : Dev nD} {qw : PosShare TreeShare} {r : Pg F PUnit} :
    iprop(ownsV c wI qw (win c) ∗ ownsE c wB)
      ⊢ iprop(((ownsV c wI qw (win c) ∗ ownsV c wB fullShare.right (k0_pay1 (win c)) ∗ ownsV c (wStrip 0) fullShare.left (WS win c 0) ∗ ownsV c (wStrip 1) fullShare.left (WS win c 1)
        ∗ ownsV c (wStrip 2) fullShare.left (WS win c 2) ∗ ownsV c (wStrip 3) fullShare.left (WS win c 3)) -∗ wpc c r Kt) -∗ wpc c (castW r) Kt) := by
  have hh := (owns_halves (Ix := ℕ) (Name := ℕ) (U := UU) (Lvl := ℕ) (Val := Elt F) (c : Thread nD τ) wB fullShare (k0_pay1 (win c))).1
  have hs := w_split win c fullShare.left
  rw [fin4] at hs
  iintro ⟨Hw, ⟨%X, HB⟩⟩ Hk
  iapply (ld_whole c Kt hz2) $$ Hw
  iintro Hw
  iapply (ld_whole c Kt hz2) $$ HB
  iintro HB
  iapply (st_whole c Kt hz2) $$ HB
  iintro HB
  ihave HB := hh $$ HB
  icases HB with ⟨HL, HR⟩
  ihave HL := hs $$ HL
  icases HL with ⟨H0, H1, H2, H3⟩
  iapply Hk
  isplitl [Hw]; · iexact Hw
  isplitl [HR]; · iexact HR
  isplitl [H0]; · iexact H0
  isplitl [H1]; · iexact H1
  isplitl [H2]; · iexact H2
  iexact H3
/-- The inputs cast. -/
theorem castX_step {c : Dev nD} {qx : PosShare TreeShare} {r : Pg F PUnit} :
    iprop(ownsV c xI qx (xin c) ∗ ownsE c xB)
      ⊢ iprop(((ownsV c xI qx (xin c) ∗ bigSep Finset.univ fun q : Fin 16 => ownsV c (xRow q) fullShare (XR xin c q)) -∗ wpc c r Kt) -∗ wpc c (castX r) Kt) := by
  have hs := x_split xin c
  iintro ⟨Hw, ⟨%X, HB⟩⟩ Hk
  iapply (ld_whole c Kt hz2) $$ Hw
  iintro Hw
  iapply (ld_whole c Kt hz2) $$ HB
  iintro HB
  iapply (st_whole c Kt hz2) $$ HB
  iintro HB
  iapply Hk
  isplitl [Hw]; · iexact Hw
  iapply hs
  iexact HB
/-- The own product and the own column block. -/
theorem ownY_step {c : Dev nD} {qw : PosShare TreeShare} {r : Pg F PUnit} :
    iprop(ownsV c (xRow c) fullShare (XR xin c c) ∗ ownsV c wB qw (k0_pay1 (win c)) ∗ ownsE c yB ∗ ownsE c (xCol c))
      ⊢ iprop(((ownsV c (xRow c) fullShare (XR xin c c) ∗ ownsV c wB qw (k0_pay1 (win c)) ∗ (Yk xin win c 0 0 ∗ Yk xin win c 1 0 ∗ Yk xin win c 2 0 ∗ Yk xin win c 3 0)
        ∗ ownsV c (xCol c) fullShare (XR xin c c)) -∗ wpc c r Kt) -∗ wpc c (ownY c r) Kt) := by
  have hs0 := y_split xin win c
  rw [fin4] at hs0
  have hs : (ownsV c yB fullShare (k0_pay3 (XR xin c c) (k0_pay1 (win c))) : sProp 𝕄) ⊢ _ := hs0
  have hx : k0_pay4 (XR xin c c) = XR xin c c := funext fun i => congrArg (XR xin c c) (Shape.reshapeEquiv_self _ i)
  iintro ⟨Hx, Hw, ⟨%X, HY⟩, ⟨%Z, HC⟩⟩ Hk
  iapply (ld_slice_at c Kt (m := xB) (off := ![256 * c.val, 0]) (off' := k0_off33 c) (size := S256x256.size) (k0_off33_eq c) (inb := row_inb c)) $$ Hx
  iintro Hx
  iapply (ld_whole c Kt hz2) $$ Hw
  iintro Hw
  iapply (ld_whole c Kt hz2) $$ HY
  iintro HY
  iapply (st_whole c Kt hz2) $$ HY
  iintro HY
  iapply (ld_slice_at c Kt (m := xR) (off := ![0, 256 * c.val]) (off' := k0_off34 c) (size := S256x256.size) (k0_off34_eq c) (inb := col_inb c)) $$ HC
  iintro HC
  iapply (st_slice_at c Kt (m := xR) (off := ![0, 256 * c.val]) (off' := k0_off34 c) (size := S256x256.size) (k0_off34_eq c) (inb := col_inb c)) $$ HC
  iintro HC
  rw [hx]
  iapply Hk
  isplitl [Hx]; · iexact Hx
  isplitl [Hw]; · iexact Hw
  isplitl [HY]
  · ihave HY := hs $$ HY
    icases HY with ⟨H0, H1, H2, H3⟩
    unfold Yk
    isplitl [H0]; · iexact H0
    isplitl [H1]; · iexact H1
    isplitl [H2]; · iexact H2
    iexact H3
  iexact HC

/-- What the barrier hands over, taken apart. -/
theorem bar_got (c : Dev nD) : bigSep (Finset.univ.erase c) (fun q : Fin 16 => apay xin win q (.bar c))
    ⊢ (iprop((bigSep (Finset.univ.erase c) fun q : Fin 16 => ownsE q (xCol c)) ∗ (bigSep (Finset.univ.erase c) fun q : Fin 16 => ownsE q (aRow c))
      ∗ Ready (peer 0 c) 0 3 ∗ Ready (peer 1 c) 1 3 ∗ Ready (peer 2 c) 2 3 ∗ Ready (peer 3 c) 3 3) : sProp 𝕄) := by
  have h1 := two_split (F := F) (s := Finset.univ.erase c) (fun q => ownsE q (xCol c)) (fun q => iprop(ownsE q (aRow c) ∗ bigSep Finset.univ fun k : Fin 4 => Ready q k 3))
  have h2 := two_split (F := F) (s := Finset.univ.erase c) (fun q => ownsE q (aRow c)) (fun q => bigSep Finset.univ fun k : Fin 4 => Ready q k 3)
  have he : ∀ k : Fin 4, bigSep (Finset.univ.erase c) (fun q : Fin 16 => bigSep Finset.univ fun k : Fin 4 => Ready q k 3) ⊢ (Ready (peer k c) k 3 : sProp 𝕄) := fun k =>
    (bs_elim (ne_mem (peer_ne k c))).trans (bs_elim (Finset.mem_univ k))
  have e0 := he 0
  have e1 := he 1
  have e2 := he 2
  have e3 := he 3
  have hap : bigSep (Finset.univ.erase c) (fun q : Fin 16 => apay xin win q (.bar c))
    ⊢ (bigSep (Finset.univ.erase c) (fun q : Fin 16 => iprop(ownsE q (xCol c) ∗ ownsE q (aRow c) ∗ bigSep Finset.univ fun k : Fin 4 => Ready q k 3)) : sProp 𝕄) := .rfl
  iintro H
  ihave H := hap $$ H
  ihave H := h1 $$ H
  icases H with ⟨Hx, H⟩
  ihave H := h2 $$ H
  icases H with ⟨Ha, #H⟩
  isplitl [Hx]; · iexact Hx
  isplitl [Ha]; · iexact Ha
  isplitr; · iapply e0; iexact H
  isplitr; · iapply e1; iexact H
  isplitr; · iapply e2; iexact H
  iapply e3; iexact H

/-- What the head uses. -/
def HeadPre (c : Dev nD) (qx qw : PosShare TreeShare) : sProp (MT nD τ sig ℕ (Elt F) ℕ UU ℕ) :=
  iprop(St c 0 0 ∗ (bigSep Finset.univ fun k : Fin 4 => Ready c k 3) ∗ ownsE c xR ∗ ownsE c aB ∗ atPos ER (cell c none) 0 ∅ 0
    ∗ ownsV c wI qw (win c) ∗ ownsE c wB ∗ ownsV c xI qx (xin c) ∗ ownsE c xB ∗ ownsE c yB ∗ bigSep Finset.univ fun q : Fin 16 => ne c q (atPos ER (cell c (some (.xr q))) 0 ∅ 0))
/-- What the head leaves. -/
def HeadPost (c : Dev nD) (qx qw : PosShare TreeShare) : sProp (MT nD τ sig ℕ (Elt F) ℕ UU ℕ) :=
  iprop(St c 36 20 ∗ atPos ER (cell c none) 1 ∅ 0 ∗ ownsV c wI qw (win c) ∗ ownsV c wB fullShare.right (k0_pay1 (win c)) ∗ ownsV c xI qx (xin c)
    ∗ ownsV c (xRow c) fullShare (XR xin c c) ∗ (Yk xin win c 0 0 ∗ Yk xin win c 1 0 ∗ Yk xin win c 2 0 ∗ Yk xin win c 3 0) ∗ Cols xin c
    ∗ (bigSep Finset.univ fun q : Fin 16 => ne c q (atPos ER (cell c (some (.xr q))) 1 ∅ 0))
    ∗ (cred (tallyAt (cell c (some (.ini 0))) 0 aS) ∗ cred (tallyAt (cell c (some (.ini 1))) 0 aS) ∗ cred (tallyAt (cell c (some (.ini 2))) 0 aS) ∗ cred (tallyAt (cell c (some (.ini 3))) 0 aS))
    ∗ (bigSep Finset.univ fun q : Fin 16 => ne c q (cred (tallyAt (cell c (some (.xs q))) 0 aX)))
    ∗ ownsE c (aRow c) ∗ (bigSep Finset.univ fun q : Fin 16 => ne c q (ownsE q (aRow c)))
    ∗ (Ready (peer 0 c) 0 3 ∗ Ready (peer 1 c) 1 3 ∗ Ready (peer 2 c) 2 3 ∗ Ready (peer 3 c) 3 3))

theorem head_run {c : Dev nD} {qx qw : PosShare TreeShare} {r : Pg F PUnit} :
    iprop(Ctx xin win K ιs ∗ HeadPre xin win c qx qw) ⊢ iprop((HeadPost xin win c qx qw -∗ wpc c r Kt) -∗ wpc c (headP c r) Kt) := by
  have lsig := fun r => loop16 xin win K ιs Kt (c := c) (f := sig1 c) (A := fun q => ne c q iprop(ownsE c (xCol q) ∗ ownsE c (aRow q))) (B := fun _ => iprop(emp))
    (I := fun n => iprop(St c n 0 ∗ bigSep Finset.univ fun k : Fin 4 => Ready c k 3)) (sig_q xin win K ιs Kt) r
  have lsx := fun r => loop16 xin win K ιs Kt (c := c) (f := sendX c) (A := fun q => ne c q iprop(ownsV c (xRow q) fullShare (XR xin c q) ∗ ownsE q (xCol c)))
    (B := fun q => ne c q (cred (tallyAt (cell c (some (.xs q))) 0 aX))) (I := fun n => St c (20 + n) 1) (sx_q xin win K ιs Kt) r
  have lwx := fun r => loop16 xin win K ιs Kt (c := c) (f := waitX c) (A := fun q => ne c q (atPos ER (cell c (some (.xr q))) 0 ∅ 0))
    (B := fun q => ne c q iprop(atPos ER (cell c (some (.xr q))) 1 ∅ 0 ∗ ownsV c (xCol q) fullShare (XR xin q c))) (I := fun n => St c 36 (1 + n)) (wx_q xin win K ιs Kt) r
  have hcols := col_split (F := F) c
  have harows := arow_split (F := F) c
  have hjoin := two_join (F := F) (s := Finset.univ) (fun q => ownsE c (xCol q)) (fun q => ownsE c (aRow q))
  have hor := own_rest (F := F) (c := c) (fun q => iprop(ownsE c (xCol q) ∗ ownsE c (aRow q)))
  have hnu := ne_univ (F := F) (c := c) (fun q => iprop(ownsE c (xCol q) ∗ ownsE c (aRow q)))
  have hbg := bar_got xin win c
  have hxo := own_rest (F := F) (c := c) (fun q => ownsV c (xRow q) fullShare (XR xin c q))
  have hxn := ne_univ (F := F) (c := c) (fun q => ownsV c (xRow q) fullShare (XR xin c q))
  have hxc := ne_univ (F := F) (c := c) (fun q => ownsE q (xCol c))
  have hxj := nes_join (F := F) (c := c) (fun q => ownsV c (xRow q) fullShare (XR xin c q)) (fun q => ownsE q (xCol c))
  have hws := nes_split (F := F) (c := c) (fun q => atPos ER (cell c (some (.xr q))) 1 ∅ 0) (fun q => ownsV c (xCol q) fullShare (XR xin q c))
  have hwc := ne_univ' (F := F) (c := c) (fun q => ownsV c (xCol q) fullShare (XR xin q c))
  have hwo := own_rest' (F := F) (c := c) (fun q => ownsV c (xCol q) fullShare (XR xin q c))
  have han := ne_univ (F := F) (c := c) (fun q => ownsE q (aRow c))
  have hst := St_head (F := F) c
  unfold HeadPre HeadPost headP Cols
  rw [← hst]
  iintro ⟨#Hc, HS, #HRd, HxR, HaB, Hbar, HwI, HwB, HxI, HxB, HyB, Hxr⟩ Hk
  ihave HxR := hcols $$ HxR
  ihave HaB := harows $$ HaB
  ihave Hall := hjoin $$ [HxR HaB]
  · isplitl [HxR]; · iexact HxR
    iexact HaB
  ihave Hall := hor $$ Hall
  icases Hall with ⟨⟨Hmc, Hma⟩, Hall⟩
  ihave Hall := hnu $$ Hall
  iapply (lsig _) $$ [HS Hall]
  · isplitr; · iexact Hc
    isplitl [HS]
    · isplitl [HS]; · iexact HS
      iexact HRd
    iexact Hall
  iintro ⟨⟨HS, -⟩, -⟩
  iapply (bar_step xin win K ιs Kt) $$ [HS Hbar]
  · isplitr; · iexact Hc
    isplitl [Hbar]; · iexact Hbar
    iexact HS
  iintro ⟨HS, Hbar, Hgot⟩
  ihave Hgot := hbg $$ Hgot
  icases Hgot with ⟨Hgx, Hga, #P0, #P1, #P2, #P3⟩
  iapply (castW_step win Kt) $$ [HwI HwB]
  · isplitl [HwI]; · iexact HwI
    iexact HwB
  iintro ⟨HwI, HwR, W0, W1, W2, W3⟩
  iapply (ini_q xin win K ιs Kt (k := 0) (t := 16) (u := 1) rfl) $$ [HS W0]
  · isplitr; · iexact Hc
    isplitl [HS]; · iexact HS
    isplitr; · iexact P0
    iexact W0
  iintro ⟨D0, HS⟩
  iapply (ini_q xin win K ιs Kt (k := 1) (t := 16 + 1) (u := 1) rfl) $$ [HS W1]
  · isplitr; · iexact Hc
    isplitl [HS]; · iexact HS
    isplitr; · iexact P1
    iexact W1
  iintro ⟨D1, HS⟩
  iapply (ini_q xin win K ιs Kt (k := 2) (t := 16 + 1 + 1) (u := 1) rfl) $$ [HS W2]
  · isplitr; · iexact Hc
    isplitl [HS]; · iexact HS
    isplitr; · iexact P2
    iexact W2
  iintro ⟨D2, HS⟩
  iapply (ini_q xin win K ιs Kt (k := 3) (t := 16 + 1 + 1 + 1) (u := 1) rfl) $$ [HS W3]
  · isplitr; · iexact Hc
    isplitl [HS]; · iexact HS
    isplitr; · iexact P3
    iexact W3
  iintro ⟨D3, HS⟩
  iapply (castX_step xin Kt) $$ [HxI HxB]
  · isplitl [HxI]; · iexact HxI
    iexact HxB
  iintro ⟨HxI, HxB⟩
  ihave HxB := hxo $$ HxB
  icases HxB with ⟨Hxc, HxB⟩
  ihave HxB := hxn $$ HxB
  ihave Hgx := hxc $$ Hgx
  ihave Hsx := hxj $$ [HxB Hgx]
  · isplitl [HxB]; · iexact HxB
    iexact Hgx
  iapply (lsx _) $$ [HS Hsx]
  · isplitr; · iexact Hc
    isplitl [HS]; · iexact HS
    iexact Hsx
  iintro ⟨HS, Hxs⟩
  iapply (ownY_step xin win Kt) $$ [Hxc HwR HyB Hmc]
  · isplitl [Hxc]; · iexact Hxc
    isplitl [HwR]; · iexact HwR
    isplitl [HyB]; · iexact HyB
    iexact Hmc
  iintro ⟨Hxc, HwR, HY, Hmc⟩
  iapply (lwx _) $$ [HS Hxr]
  · isplitr; · iexact Hc
    isplitl [HS]; · iexact HS
    iexact Hxr
  iintro ⟨HS, Hxr⟩
  ihave Hxr := hws $$ Hxr
  icases Hxr with ⟨Hxr, Hcol⟩
  ihave Hcol := hwc $$ Hcol
  ihave Hcol := hwo $$ [Hmc Hcol]
  · isplitl [Hmc]; · iexact Hmc
    iexact Hcol
  ihave Hga := han $$ Hga
  iapply Hk
  isplitl [HS]; · iexact HS
  isplitl [Hbar]; · iexact Hbar
  isplitl [HwI]; · iexact HwI
  isplitl [HwR]; · iexact HwR
  isplitl [HxI]; · iexact HxI
  isplitl [Hxc]; · iexact Hxc
  isplitl [HY]; · iexact HY
  isplitl [Hcol]; · iexact Hcol
  isplitl [Hxr]; · iexact Hxr
  isplitl [D0 D1 D2 D3]
  · isplitl [D0]; · iexact D0
    isplitl [D1]; · iexact D1
    isplitl [D2]; · iexact D2
    iexact D3
  isplitl [Hxs]; · iexact Hxs
  isplitl [Hma]; · iexact Hma
  isplitl [Hga]; · iexact Hga
  isplitr; · iexact P0
  isplitr; · iexact P1
  isplitr; · iexact P2
  iexact P3

end Cert.KernelIdeal.Pf
-- ==== Proof.Body.lean ====
/-
  The kernel's body: its last steps, and the whole of it.
-/
module

public import proofs.«01_k».proof.Proof.Head

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

variable (xin : Dev nD → Vec F S4096x256 .bf16) (win : Dev nD → Vec F S256x8192 .bf16)
variable (K : Dev nD × Option Sd → ℕ) (ιs : Dev nD × Fin 4 × Fin 3 → ℕ)

/-! ## The kinds of semaphore -/

theorem kinds (Φ : Option Sd → sProp 𝕄) : bigSep Finset.univ Φ
    = iprop(Φ none ∗ (bigSep Finset.univ fun q : Fin 16 => Φ (some (.xs q))) ∗ (bigSep Finset.univ fun q : Fin 16 => Φ (some (.xr q)))
      ∗ (bigSep Finset.univ fun k : Fin 4 => Φ (some (.ini k))) ∗ (bigSep Finset.univ fun k : Fin 4 => Φ (some (.fwd k)))
      ∗ (bigSep Finset.univ fun k : Fin 4 => bigSep Finset.univ fun s : Fin 3 => Φ (some (.rv k s)))
      ∗ (bigSep Finset.univ fun q : Fin 16 => Φ (some (.sa q))) ∗ (bigSep Finset.univ fun q : Fin 16 => Φ (some (.ra q)))
      ∗ (bigSep Finset.univ fun k : Fin 4 => Φ (some (.cr k)))) := by
  have hu : (Finset.univ : Finset (Option Sd)) = insert none ((Finset.univ.image fun q : Fin 16 => some (Sd.xs q)) ∪ ((Finset.univ.image fun q : Fin 16 => some (Sd.xr q))
      ∪ ((Finset.univ.image fun k : Fin 4 => some (Sd.ini k)) ∪ ((Finset.univ.image fun k : Fin 4 => some (Sd.fwd k)) ∪ ((Finset.univ.image fun p : Fin 4 × Fin 3 => some (Sd.rv p.1 p.2))
      ∪ ((Finset.univ.image fun q : Fin 16 => some (Sd.sa q)) ∪ ((Finset.univ.image fun q : Fin 16 => some (Sd.ra q)) ∪ (Finset.univ.image fun k : Fin 4 => some (Sd.cr k))))))))) := by
    ext κ
    rcases κ with _ | (q | q | k | k | ⟨k, s⟩ | q | q | k) <;> simp
  rw [hu, BI.bigSep_insert (by simp), BI.bigSep_union, BI.bigSep_union, BI.bigSep_union, BI.bigSep_union, BI.bigSep_union, BI.bigSep_union, BI.bigSep_union,
    BI.bigSep_image_of_injOn, BI.bigSep_image_of_injOn, BI.bigSep_image_of_injOn, BI.bigSep_image_of_injOn, BI.bigSep_image_of_injOn, BI.bigSep_image_of_injOn, BI.bigSep_image_of_injOn,
    BI.bigSep_image_of_injOn, BI.bigSep_univ_prod (fun p : Fin 4 × Fin 3 => Φ (some (Sd.rv p.1 p.2)))]
  all_goals first
    | rfl
    | (intro a _ b _ h; simpa [Prod.ext_iff] using h)
    | (rw [Finset.disjoint_left]; intro κ h1 h2; simp only [Finset.mem_image, Finset.mem_union, Finset.mem_univ, _root_.true_and] at h1 h2
       obtain ⟨x, rfl⟩ := h1
       simp at h2)

theorem pos_in (c : Dev nD) (κ : Fin 16 → Sd) :
    (bigSep Finset.univ fun q : Fin 16 => atPos ER (cell c (some (κ q))) 0 ∅ 0) ⊢ (iprop(atPos ER (cell c (some (κ c))) 0 ∅ 0 ∗ bigSep Finset.univ fun q : Fin 16 => ne c q (atPos ER (cell c (some (κ q))) 0 ∅ 0)) : sProp 𝕄) := by
  have h := own_rest (F := F) (c := c) fun q => atPos ER (cell c (some (κ q))) 0 ∅ 0
  have h' := ne_univ (F := F) (c := c) fun q => atPos ER (cell c (some (κ q))) 0 ∅ 0
  iintro H
  ihave H := h $$ H
  icases H with ⟨Ho, H⟩
  isplitl [Ho]; · iexact Ho
  iapply h'
  iexact H
theorem pos_out (c : Dev nD) (κ : Fin 16 → Sd) (hκ : ∀ q, fin c (some (κ q)) = if q = c then 0 else 1) :
    iprop(atPos ER (cell c (some (κ c))) 0 ∅ 0 ∗ bigSep Finset.univ fun q : Fin 16 => ne c q (atPos ER (cell c (some (κ q))) 1 ∅ 0))
      ⊢ (bigSep Finset.univ fun q : Fin 16 => atPos ER (cell c (some (κ q))) (fin c (some (κ q))) ∅ 0 : sProp 𝕄) := by
  have h := own_rest' (F := F) (c := c) fun q => atPos ER (cell c (some (κ q))) (fin c (some (κ q))) ∅ 0
  rw [show fin c (some (κ c)) = 0 by rw [hκ, if_pos rfl]] at h
  have h' := ne_univ' (F := F) (c := c) fun q => atPos ER (cell c (some (κ q))) 1 ∅ 0
  have he : (bigSep (Finset.univ.erase c) fun q : Fin 16 => atPos ER (cell c (some (κ q))) 1 ∅ 0 : sProp 𝕄)
      = bigSep (Finset.univ.erase c) fun q : Fin 16 => atPos ER (cell c (some (κ q))) (fin c (some (κ q))) ∅ 0 :=
    BI.bigSep_congr fun q hq => by rw [hκ, if_neg (Finset.ne_of_mem_erase hq)]
  rw [he] at h'
  iintro ⟨Ho, H⟩
  iapply h
  isplitl [Ho]; · iexact Ho
  iapply h'
  iexact H

/-! ## A stream at its start and at its end -/

theorem cm_start (c : Dev nD) (k : Fin 4) :
    iprop((bigSep Finset.univ fun s : Fin 3 => atPos ER (cell c (some (.rv k s))) 0 ∅ 0) ∗ atPos ER (cell c (some (.fwd k))) 0 ∅ 0 ∗ atPos ER (cell c (some (.cr k))) 0 ∅ 0
      ∗ (bigSep Finset.univ fun s : Fin 3 => readerAt ES (c, k, s) 1) ∗ Ready c k 3 ∗ Ready (peer k c) k 3) ⊢ (Cm xin win c k 0 : sProp 𝕄) := by
  have e1 : (bigSep Finset.univ fun s : Fin 3 => atPos ER (cell c (some (.rv k s))) 0 ∅ 0 : sProp 𝕄) = Rv c k 0 := by
    unfold Rv; rw [fin3, fin3]; rfl
  have e2 : (bigSep Finset.univ fun s : Fin 3 => readerAt ES (c, k, s) 1 : sProp 𝕄) = bigSep Finset.univ fun s : Fin 3 => readerAt ES (c, k, s) (1 + (min (0 - 1) 12 + 2 - s.val) / 3) := by
    rw [fin3, fin3]; rfl
  unfold Cm
  rw [← e1]
  unfold Rel Kp Crs
  rw [show Pr win c k 0 = iprop(emp) from rfl, ← e2, show min (0 - 2) 12 = 0 from rfl , if_neg (show ¬ 14 ≤ 0 by decide), if_neg (show ¬ 15 ≤ 0 by decide)]
  unfold CR
  rw [if_neg (show ¬ 0 = 12 by decide)]
  iintro ⟨HRv, Hf, Hcr, Hrd, Hr, Hp⟩
  isplitl [HRv]; · iexact HRv
  isplitl [Hf]; · iexact Hf
  isplitl [Hrd Hr]
  · isplitl [Hrd]; · iexact Hrd
    iexact Hr
  isplitr
  · isplitr <;> iempintro
  isplitl
  · isplitl [Hcr]
    · iexists ∅
      isplitr; · ipureintro; exact Finset.empty_subset _
      isplitl [Hcr]; · iexact Hcr
      rw [BI.bigSep_empty]
      iempintro
    iexact Hp
  iempintro

theorem cm_end (c : Dev nD) (k : Fin 4) :
    (Cm xin win c k 15 : sProp 𝕄) ⊢ iprop((bigSep Finset.univ fun s : Fin 3 => atPos ER (cell c (some (.rv k s))) 5 ∅ 0) ∗ atPos ER (cell c (some (.fwd k))) 14 ∅ 0
      ∗ atPos ER (cell c (some (.cr k))) 1 ∅ 0 ∗ ownsE c (bufM k)) := by
  have e1 : (bigSep Finset.univ fun s : Fin 3 => atPos ER (cell c (some (.rv k s))) 5 ∅ 0 : sProp 𝕄) = Rv c k 15 := by
    unfold Rv; rw [fin3, fin3]; rfl
  have hj := slots_join (F := F) c k
  unfold Cm
  rw [← e1, show Pr win c k 15 = Fl win c k 14 from rfl]
  unfold Fl Kp Crs
  rw [if_neg (show ¬ 14 ≤ 13 by decide), if_pos (show 14 ≤ 15 by decide), if_pos (show 15 ≤ 15 by decide), show min (15 - 2) 12 = 12 from rfl, show SH 14 = fullShare from rfl]
  unfold CR
  rw [if_pos rfl]
  iintro ⟨HRv, Hf, -, ⟨S0, S1⟩, ⟨Hcr, -⟩, ⟨S2, -, -⟩⟩
  isplitl [HRv]; · iexact HRv
  isplitl [Hf]; · iexact Hf
  isplitl [Hcr]; · iexact Hcr
  iapply hj
  isplitl [S0]; · iexact S0
  isplitl [S1]; · iexact S1
  iexists _
  iexact S2

variable (Kt : PUnit.{1} → sProp (MT nD τ sig ℕ (Elt F) ℕ UU ℕ))

/-- The own maximum. -/
theorem ownA_step {c : Dev nD} {r : Pg F PUnit} :
    iprop(ownsV c yB fullShare (YF xin win c) ∗ ownsE c (aRow c))
      ⊢ iprop(((ownsV c yB fullShare (YF xin win c) ∗ ownsV c (aRow c) fullShare (AV xin win c)) -∗ wpc c r Kt) -∗ wpc c (ownA c r) Kt) := by
  iintro ⟨HY, ⟨%X, HA⟩⟩ Hk
  iapply (ld_whole c Kt hz2) $$ HY
  iintro HY
  iapply (ld_slice_at c Kt (m := aB) (off := ![c.val, 0]) (off' := k0_off37 c) (size := S1x128.size) (k0_off37_eq c) (inb := arow_inb c)) $$ HA
  iintro HA
  iapply (st_slice_at c Kt (m := aB) (off := ![c.val, 0]) (off' := k0_off37 c) (size := S1x128.size) (k0_off37_eq c) (inb := arow_inb c)) $$ HA
  iintro HA
  iapply Hk
  isplitl [HY]; · iexact HY
  iexact HA
/-- The result. -/
theorem outY_step {c : Dev nD} {r : Pg F PUnit} :
    iprop(ownsV c aB fullShare (AT xin win) ∗ ownsV c yB fullShare (YF xin win c) ∗ ownsE c oO)
      ⊢ iprop(((ownsV c aB fullShare (AT xin win) ∗ ownsV c yB fullShare (YF xin win c) ∗ ownsV c oO fullShare (outV xin win c)) -∗ wpc c r Kt) -∗ wpc c (outY r) Kt) := by
  iintro ⟨HA, HY, ⟨%X, HO⟩⟩ Hk
  iapply (ld_whole c Kt hz2) $$ HA
  iintro HA
  iapply (ld_whole c Kt hz2) $$ HY
  iintro HY
  iapply (ld_whole c Kt hz2) $$ HO
  iintro HO
  iapply (st_whole c Kt hz2) $$ HO
  iintro HO
  iapply Hk
  isplitl [HA]; · iexact HA
  isplitl [HY]; · iexact HY
  iexact HO

/-- What the tail uses. -/
def TailPre (c : Dev nD) : sProp (MT nD τ sig ℕ (Elt F) ℕ UU ℕ) :=
  iprop(St c 200 200 ∗ Cols xin c ∗ (Yk xin win c 0 15 ∗ Yk xin win c 1 15 ∗ Yk xin win c 2 15 ∗ Yk xin win c 3 15)
    ∗ (cred (tallyAt (cell c (some (.ini 0))) 0 aS) ∗ cred (tallyAt (cell c (some (.ini 1))) 0 aS) ∗ cred (tallyAt (cell c (some (.ini 2))) 0 aS) ∗ cred (tallyAt (cell c (some (.ini 3))) 0 aS))
    ∗ (bigSep Finset.univ fun k : Fin 4 => atPos ER (cell c (some (.ini k))) 0 ∅ 0)
    ∗ (bigSep Finset.univ fun q : Fin 16 => ne c q (cred (tallyAt (cell c (some (.xs q))) 0 aX)))
    ∗ (bigSep Finset.univ fun q : Fin 16 => ne c q (atPos ER (cell c (some (.xs q))) 0 ∅ 0))
    ∗ (bigSep Finset.univ fun q : Fin 16 => ne c q (atPos ER (cell c (some (.sa q))) 0 ∅ 0))
    ∗ (bigSep Finset.univ fun q : Fin 16 => ne c q (atPos ER (cell c (some (.ra q))) 0 ∅ 0))
    ∗ ownsV c (xRow c) fullShare (XR xin c c) ∗ ownsE c (aRow c) ∗ (bigSep Finset.univ fun q : Fin 16 => ne c q (ownsE q (aRow c)))
    ∗ ownsV c wB fullShare.right (k0_pay1 (win c)) ∗ ownsE c oO)
/-- What the tail leaves. -/
def TailPost (c : Dev nD) : sProp (MT nD τ sig ℕ (Elt F) ℕ UU ℕ) :=
  iprop(St c 216 216
    ∗ (bigSep Finset.univ fun k : Fin 4 => atPos ER (cell c (some (.ini k))) 1 ∅ 0)
    ∗ (bigSep Finset.univ fun q : Fin 16 => ne c q (atPos ER (cell c (some (.xs q))) 1 ∅ 0))
    ∗ (bigSep Finset.univ fun q : Fin 16 => ne c q (atPos ER (cell c (some (.sa q))) 1 ∅ 0))
    ∗ (bigSep Finset.univ fun q : Fin 16 => ne c q (atPos ER (cell c (some (.ra q))) 1 ∅ 0))
    ∗ ownsE c xB ∗ ownsE c xR ∗ ownsE c wB ∗ ownsE c yB ∗ ownsE c aB ∗ ownsV c oO fullShare (outV xin win c))

theorem tail_run {c : Dev nD} : iprop(Ctx xin win K ιs ∗ TailPre xin win c) ⊢ iprop((TailPost xin win c -∗ Kt ⟨⟩) -∗ wpc c (tailP c) Kt) := by
  have lxs := fun r => loop16 xin win K ιs Kt (c := c) (f := waitXS c) (A := fun q => ne c q iprop(cred (tallyAt (cell c (some (.xs q))) 0 aX) ∗ atPos ER (cell c (some (.xs q))) 0 ∅ 0))
    (B := fun q => ne c q iprop(atPos ER (cell c (some (.xs q))) 1 ∅ 0 ∗ ownsV c (xRow q) fullShare (XR xin c q)))
    (I := fun _ => St c 200 200) (wxs_q xin win K ιs Kt) r
  have lsa := fun r => loop16 xin win K ιs Kt (c := c) (f := sendA c) (A := fun q => ne c q (ownsE q (aRow c)))
    (B := fun q => if q = c then ownsV c (aRow c) (shL q.val) (AV xin win c) else cred (tallyAt (cell c (some (.sa q))) 0 aA))
    (I := fun n => iprop(St c (200 + n) 200 ∗ ownsV c (aRow c) (shR n) (AV xin win c))) (sa_q xin win K ιs Kt) r
  have lwa := fun r => loop16 xin win K ιs Kt (c := c) (f := waitA c)
    (A := fun q => iprop((if q = c then ownsV c (aRow c) (shL q.val) (AV xin win c) else cred (tallyAt (cell c (some (.sa q))) 0 aA))
        ∗ ne c q iprop(atPos ER (cell c (some (.sa q))) 0 ∅ 0 ∗ atPos ER (cell c (some (.ra q))) 0 ∅ 0)))
    (B := fun q => iprop(ownsV c (aRow c) (shL q.val) (AV xin win c)
          ∗ ne c q iprop(atPos ER (cell c (some (.sa q))) 1 ∅ 0 ∗ atPos ER (cell c (some (.ra q))) 1 ∅ 0 ∗ ownsV c (aRow q) fullShare (AV xin win q))))
    (I := fun n => St c 216 (200 + n)) (wa_q xin win K ιs Kt) r
  have jxs := nes_join (F := F) (c := c) (fun q => cred (tallyAt (cell c (some (.xs q))) 0 aX)) (fun q => atPos ER (cell c (some (.xs q))) 0 ∅ 0)
  have sxs := nes_split (F := F) (c := c) (fun q => atPos ER (cell c (some (.xs q))) 1 ∅ 0) (fun q => ownsV c (xRow q) fullShare (XR xin c q))
  have nx := ne_univ' (F := F) (c := c) (fun q => ownsV c (xRow q) fullShare (XR xin c q))
  have ox := own_rest' (F := F) (c := c) (fun q => ownsV c (xRow q) fullShare (XR xin c q))
  have jx := x_join xin c
  have jy := y_join xin win c
  rw [fin4] at jy
  have jw := w_join win c fullShare.left
  rw [fin4] at jw
  have jww := (owns_halves (Ix := ℕ) (Name := ℕ) (U := UU) (Lvl := ℕ) (Val := Elt F) (c : Thread nD τ) wB fullShare (k0_pay1 (win c))).2
  have jc := col_join xin c
  have jsr := nes_join (F := F) (c := c) (fun q => atPos ER (cell c (some (.sa q))) 0 ∅ 0) (fun q => atPos ER (cell c (some (.ra q))) 0 ∅ 0)
  have jwa := two_join (F := F) (s := Finset.univ) (fun q => if q = c then ownsV c (aRow c) (shL q.val) (AV xin win c) else cred (tallyAt (cell c (some (.sa q))) 0 aA))
    (fun q => ne c q iprop(atPos ER (cell c (some (.sa q))) 0 ∅ 0 ∗ atPos ER (cell c (some (.ra q))) 0 ∅ 0))
  have swa := two_split (F := F) (s := Finset.univ) (fun q => ownsV c (aRow c) (shL q.val) (AV xin win c))
    (fun q => ne c q iprop(atPos ER (cell c (some (.sa q))) 1 ∅ 0 ∗ atPos ER (cell c (some (.ra q))) 1 ∅ 0 ∗ ownsV c (aRow q) fullShare (AV xin win q)))
  have s1 := nes_split (F := F) (c := c) (fun q => atPos ER (cell c (some (.sa q))) 1 ∅ 0) (fun q => iprop(atPos ER (cell c (some (.ra q))) 1 ∅ 0 ∗ ownsV c (aRow q) fullShare (AV xin win q)))
  have s2 := nes_split (F := F) (c := c) (fun q => atPos ER (cell c (some (.ra q))) 1 ∅ 0) (fun q => ownsV c (aRow q) fullShare (AV xin win q))
  have na := ne_univ' (F := F) (c := c) (fun q => ownsV c (aRow q) fullShare (AV xin win q))
  have oa := own_rest' (F := F) (c := c) (fun q => ownsV c (aRow q) fullShare (AV xin win q))
  have ja := arow_join xin win c
  have js := shares_join16 (F := F) c (AV xin win c)
  have hret : Kt ⟨⟩ ⊢ wpc c (.ret ⟨⟩) Kt := by
    show _ ⊢ iprop(|={Set.univ}=> Kt ⟨⟩)
    iintro H
    imodintro
    iexact H
  unfold TailPre TailPost Cols Yk tailP
  rw [fin4 (fun k : Fin 4 => atPos ER (cell c (some (.ini k))) 0 ∅ 0), fin4 (fun k : Fin 4 => atPos ER (cell c (some (.ini k))) 1 ∅ 0)]
  iintro ⟨#Hc, HS, HC, HY, ⟨D0, D1, D2, D3⟩, ⟨A0, A1, A2, A3⟩, Hxs, Hxp, Hsp, Hrp, Hxc, Ham, Hga, HwR, HO⟩ Hk
  iapply (wi_q xin win K ιs Kt (k := 0)) $$ [HS D0 A0]
  · isplitr; · iexact Hc
    isplitl [HS]; · iexact HS
    isplitl [D0]; · iexact D0
    iexact A0
  iintro ⟨HS, A0, W0⟩
  iapply (wi_q xin win K ιs Kt (k := 1)) $$ [HS D1 A1]
  · isplitr; · iexact Hc
    isplitl [HS]; · iexact HS
    isplitl [D1]; · iexact D1
    iexact A1
  iintro ⟨HS, A1, W1⟩
  iapply (wi_q xin win K ιs Kt (k := 2)) $$ [HS D2 A2]
  · isplitr; · iexact Hc
    isplitl [HS]; · iexact HS
    isplitl [D2]; · iexact D2
    iexact A2
  iintro ⟨HS, A2, W2⟩
  iapply (wi_q xin win K ιs Kt (k := 3)) $$ [HS D3 A3]
  · isplitr; · iexact Hc
    isplitl [HS]; · iexact HS
    isplitl [D3]; · iexact D3
    iexact A3
  iintro ⟨HS, A3, W3⟩
  ihave Hx := jxs $$ [Hxs Hxp]
  · isplitl [Hxs]; · iexact Hxs
    iexact Hxp
  iapply (lxs _) $$ [HS Hx]
  · isplitr; · iexact Hc
    isplitl [HS]; · iexact HS
    iexact Hx
  iintro ⟨HS, Hx⟩
  ihave Hx := sxs $$ Hx
  icases Hx with ⟨Hxp, Hx⟩
  ihave Hx := nx $$ Hx
  ihave Hx := ox $$ [Hxc Hx]
  · isplitl [Hxc]; · iexact Hxc
    iexact Hx
  ihave Hx := jx $$ Hx
  ihave HY := jy $$ HY
  iapply (ownA_step xin win Kt) $$ [HY Ham]
  · isplitl [HY]; · iexact HY
    iexact Ham
  iintro ⟨HY, Ham⟩
  iapply (lsa _) $$ [HS Ham Hga]
  · isplitr; · iexact Hc
    isplitl [HS Ham]
    · isplitl [HS]; · iexact HS
      iexact Ham
    iexact Hga
  iintro ⟨⟨HS, Ham⟩, Hsc⟩
  ihave Hsr := jsr $$ [Hsp Hrp]
  · isplitl [Hsp]; · iexact Hsp
    iexact Hrp
  ihave Hsr := jwa $$ [Hsc Hsr]
  · isplitl [Hsc]; · iexact Hsc
    iexact Hsr
  iapply (lwa _) $$ [HS Hsr]
  · isplitr; · iexact Hc
    isplitl [HS]; · iexact HS
    iexact Hsr
  iintro ⟨HS, Hsr⟩
  ihave Hsr := swa $$ Hsr
  icases Hsr with ⟨Hsh, Hsr⟩
  ihave Hsr := s1 $$ Hsr
  icases Hsr with ⟨Hsp, Hsr⟩
  ihave Hsr := s2 $$ Hsr
  icases Hsr with ⟨Hrp, Har⟩
  ihave Har := na $$ Har
  ihave Ham := js $$ [Ham Hsh]
  · isplitl [Ham]; · iexact Ham
    iexact Hsh
  ihave Har := oa $$ [Ham Har]
  · isplitl [Ham]; · iexact Ham
    iexact Har
  ihave Har := ja $$ Har
  iapply (outY_step xin win Kt) $$ [Har HY HO]
  · isplitl [Har]; · iexact Har
    isplitl [HY]; · iexact HY
    iexact HO
  iintro ⟨Har, HY, HO⟩
  ihave HC := jc $$ HC
  ihave HwL := jw $$ [W0 W1 W2 W3]
  · isplitl [W0]; · iexact W0
    isplitl [W1]; · iexact W1
    isplitl [W2]; · iexact W2
    iexact W3
  ihave Hw := jww $$ [HwL HwR]
  · isplitl [HwL]; · iexact HwL
    iexact HwR
  iapply hret
  iapply Hk
  isplitl [HS]; · iexact HS
  isplitl [A0 A1 A2 A3]
  · isplitl [A0]; · iexact A0
    isplitl [A1]; · iexact A1
    isplitl [A2]; · iexact A2
    iexact A3
  isplitl [Hxp]; · iexact Hxp
  isplitl [Hsp]; · iexact Hsp
  isplitl [Hrp]; · iexact Hrp
  isplitl [Hx]; · iexact Hx
  isplitl [HC]; · iexact HC
  isplitl [Hw]; · iexists _; iexact Hw
  isplitl [HY]; · iexists _; iexact HY
  isplitl [Har]; · iexists _; iexact Har
  iexact HO

/-! ## The body -/

/-- The scratch buffers. -/
def Scr (c : Dev nD) : sProp (MT nD τ sig ℕ (Elt F) ℕ UU ℕ) :=
  iprop(ownsE c xB ∗ ownsE c xR ∗ ownsE c wB ∗ ownsE c (bufM 0) ∗ ownsE c (bufM 1) ∗ ownsE c (bufM 2) ∗ ownsE c (bufM 3) ∗ ownsE c yB ∗ ownsE c aB)

/-- What the body uses beside the streamed blocks. -/
def BodyPre (c : Dev nD) : sProp (MT nD τ sig ℕ (Elt F) ℕ UU ℕ) :=
  iprop(St c 0 0 ∗ (bigSep Finset.univ fun κ : Option Sd => atPos ER (cell c κ) 0 ∅ 0)
    ∗ (bigSep Finset.univ fun k : Fin 4 => bigSep Finset.univ fun s : Fin 3 => readerAt ES (c, k, s) 0) ∗ Scr c)
/-- What it leaves. -/
def BodyPost (c : Dev nD) : sProp (MT nD τ sig ℕ (Elt F) ℕ UU ℕ) :=
  iprop(St c 216 216 ∗ (bigSep Finset.univ fun κ : Option Sd => atPos ER (cell c κ) (fin c κ) ∅ 0) ∗ Scr c)

theorem body_run {c : Dev nD} {qx qw : PosShare TreeShare} :
    iprop(Ctx xin win K ιs ∗ BodyPre c ∗ ownsV c xI qx (xin c) ∗ ownsV c wI qw (win c) ∗ ownsE c oO)
      ⊢ iprop(((BodyPost c ∗ ownsV c xI qx (xin c) ∗ ownsV c wI qw (win c) ∗ ownsV c oO fullShare (outV xin win c)) -∗ Kt ⟨⟩) -∗ wpc c bodyP Kt) := by
  have lh := fun r => loop15 xin win K ιs Kt (c := c) (f := hop c) (I := fun n => HS xin win c n) (hop_step xin win K ιs Kt) r
  have hd := fun r => head_run xin win K ιs Kt (c := c) (qx := qx) (qw := qw) (r := r)
  have tl := tail_run xin win K ιs Kt (c := c)
  have ss := fun k => start_slots xin win K ιs c k
  have pxs := pos_in (F := F) c .xs
  have pxr := pos_in (F := F) c .xr
  have psa := pos_in (F := F) c .sa
  have pra := pos_in (F := F) c .ra
  have qxs := pos_out (F := F) c .xs (fun _ => rfl)
  have qxr := pos_out (F := F) c .xr (fun _ => rfl)
  have qsa := pos_out (F := F) c .sa (fun _ => rfl)
  have qra := pos_out (F := F) c .ra (fun _ => rfl)
  have cs := fun k => cm_start xin win c k
  have ce := fun k => cm_end xin win c k
  have hst : (HS xin win c 15 : sProp 𝕄) = iprop(St c 200 200 ∗ (Cm xin win c 0 15 ∗ Cm xin win c 1 15 ∗ Cm xin win c 2 15 ∗ Cm xin win c 3 15) ∗ Cols xin c
    ∗ (Yk xin win c 0 15 ∗ Yk xin win c 1 15 ∗ Yk xin win c 2 15 ∗ Yk xin win c 3 15)) := by rw [← St_tail]; rfl
  have hs0 : (HS xin win c 0 : sProp 𝕄) = iprop(St c 36 20 ∗ (Cm xin win c 0 0 ∗ Cm xin win c 1 0 ∗ Cm xin win c 2 0 ∗ Cm xin win c 3 0) ∗ Cols xin c
    ∗ (Yk xin win c 0 0 ∗ Yk xin win c 1 0 ∗ Yk xin win c 2 0 ∗ Yk xin win c 3 0)) := rfl
  rw [hst, hs0] at lh
  have hk0 := kinds (F := F) (fun κ => atPos ER (cell c κ) 0 ∅ 0)
  have hk1 := kinds (F := F) (fun κ => atPos ER (cell c κ) (fin c κ) ∅ 0)
  unfold BodyPre BodyPost
  rw [hk0, hk1]
  unfold HeadPre HeadPost at hd
  unfold TailPre TailPost at tl
  unfold Scr
  rw [fin4 (fun k : Fin 4 => Ready c k 3)] at hd
  rw [fin4 (fun k : Fin 4 => atPos ER (cell c (some (.fwd k))) 0 ∅ 0), fin4 (fun k : Fin 4 => bigSep Finset.univ fun s : Fin 3 => atPos ER (cell c (some (.rv k s))) 0 ∅ 0),
    fin4 (fun k : Fin 4 => atPos ER (cell c (some (.cr k))) 0 ∅ 0), fin4 (fun k : Fin 4 => bigSep Finset.univ fun s : Fin 3 => readerAt ES (c, k, s) 0)]
  rw [fin4 (fun k : Fin 4 => atPos ER (cell c (some (.fwd k))) (fin c (some (.fwd k))) ∅ 0), fin4 (fun k : Fin 4 => bigSep Finset.univ fun s : Fin 3 => atPos ER (cell c (some (.rv k s))) (fin c (some (.rv k s))) ∅ 0),
    fin4 (fun k : Fin 4 => atPos ER (cell c (some (.cr k))) (fin c (some (.cr k))) ∅ 0)]
  have hdv : wpc c bodyP Kt = wpc c (headP c (all15 (hop c) (tailP c))) Kt :=
    wp_deviceId (Ix := ℕ) (Name := ℕ) (U := UU) (Lvl := ℕ) (defs := defs₀ (F := F)) (Q := Kt) (k := fun d0 => headP d0 (all15 (hop d0) (tailP d0))) 𝒱₀ (c : Thread nD τ) none Set.univ
  rw [hdv]
  iintro ⟨#Hc, ⟨HS, ⟨Pb, Pxs, Pxr, Pin, ⟨F0, F1, F2, F3⟩, ⟨R0, R1, R2, R3⟩, Psa, Pra, ⟨C0, C1, C2, C3⟩⟩, ⟨L0, L1, L2, L3⟩, ⟨SxB, SxR, SwB, B0, B1, B2, B3, SyB, SaB⟩⟩, HxI, HwI, HO⟩ Hk
  ihave Pxs := pxs $$ Pxs
  icases Pxs with ⟨Oxs, Pxs⟩
  ihave Pxr := pxr $$ Pxr
  icases Pxr with ⟨Oxr, Pxr⟩
  ihave Psa := psa $$ Psa
  icases Psa with ⟨Osa, Psa⟩
  ihave Pra := pra $$ Pra
  icases Pra with ⟨Ora, Pra⟩
  imod (ss 0) $$ [B0 L0] with ⟨L0, #Y0⟩
  · isplitr; · iexact Hc
    isplitl [B0]; · iexact B0
    iexact L0
  imod (ss 1) $$ [B1 L1] with ⟨L1, #Y1⟩
  · isplitr; · iexact Hc
    isplitl [B1]; · iexact B1
    iexact L1
  imod (ss 2) $$ [B2 L2] with ⟨L2, #Y2⟩
  · isplitr; · iexact Hc
    isplitl [B2]; · iexact B2
    iexact L2
  imod (ss 3) $$ [B3 L3] with ⟨L3, #Y3⟩
  · isplitr; · iexact Hc
    isplitl [B3]; · iexact B3
    iexact L3
  iapply (hd _) $$ [HS SxR SaB Pb HwI SwB HxI SxB SyB Pxr]
  · isplitr; · iexact Hc
    isplitl [HS]; · iexact HS
    isplitr
    · isplitr; · iexact Y0
      isplitr; · iexact Y1
      isplitr; · iexact Y2
      iexact Y3
    isplitl [SxR]; · iexact SxR
    isplitl [SaB]; · iexact SaB
    isplitl [Pb]; · iexact Pb
    isplitl [HwI]; · iexact HwI
    isplitl [SwB]; · iexact SwB
    isplitl [HxI]; · iexact HxI
    isplitl [SxB]; · iexact SxB
    isplitl [SyB]; · iexact SyB
    iexact Pxr
  iintro ⟨HS, Pb, HwI, HwR, HxI, Hxc, HY, HC, Pxr, HD, Hxs, Ham, Hga, P0, P1, P2, P3⟩
  iapply (lh _) $$ [HS F0 F1 F2 F3 R0 R1 R2 R3 C0 C1 C2 C3 L0 L1 L2 L3 P0 P1 P2 P3 HC HY]
  · isplitr; · iexact Hc
    isplitl [HS]; · iexact HS
    isplitl [F0 F1 F2 F3 R0 R1 R2 R3 C0 C1 C2 C3 L0 L1 L2 L3 P0 P1 P2 P3]
    · isplitl [F0 R0 C0 L0 P0]
      · iapply (cs 0)
        isplitl [R0]; · iexact R0
        isplitl [F0]; · iexact F0
        isplitl [C0]; · iexact C0
        isplitl [L0]; · iexact L0
        isplitr; · iexact Y0
        iexact P0
      isplitl [F1 R1 C1 L1 P1]
      · iapply (cs 1)
        isplitl [R1]; · iexact R1
        isplitl [F1]; · iexact F1
        isplitl [C1]; · iexact C1
        isplitl [L1]; · iexact L1
        isplitr; · iexact Y1
        iexact P1
      isplitl [F2 R2 C2 L2 P2]
      · iapply (cs 2)
        isplitl [R2]; · iexact R2
        isplitl [F2]; · iexact F2
        isplitl [C2]; · iexact C2
        isplitl [L2]; · iexact L2
        isplitr; · iexact Y2
        iexact P2
      iapply (cs 3)
      isplitl [R3]; · iexact R3
      isplitl [F3]; · iexact F3
      isplitl [C3]; · iexact C3
      isplitl [L3]; · iexact L3
      isplitr; · iexact Y3
      iexact P3
    isplitl [HC]; · iexact HC
    iexact HY
  iintro ⟨HS, ⟨M0, M1, M2, M3⟩, HC, HY⟩
  iapply tl $$ [HS HC HY HD Pin Hxs Pxs Psa Pra Hxc Ham Hga HwR HO]
  · isplitr; · iexact Hc
    isplitl [HS]; · iexact HS
    isplitl [HC]; · iexact HC
    isplitl [HY]; · iexact HY
    isplitl [HD]; · iexact HD
    isplitl [Pin]; · iexact Pin
    isplitl [Hxs]; · iexact Hxs
    isplitl [Pxs]; · iexact Pxs
    isplitl [Psa]; · iexact Psa
    isplitl [Pra]; · iexact Pra
    isplitl [Hxc]; · iexact Hxc
    isplitl [Ham]; · iexact Ham
    isplitl [Hga]; · iexact Hga
    isplitl [HwR]; · iexact HwR
    iexact HO
  iintro ⟨HS, Pin, Pxs, Psa, Pra, SxB, SxR, SwB, SyB, SaB, HO⟩
  ihave M0 := (ce 0) $$ M0
  icases M0 with ⟨R0, F0, C0, B0⟩
  ihave M1 := (ce 1) $$ M1
  icases M1 with ⟨R1, F1, C1, B1⟩
  ihave M2 := (ce 2) $$ M2
  icases M2 with ⟨R2, F2, C2, B2⟩
  ihave M3 := (ce 3) $$ M3
  icases M3 with ⟨R3, F3, C3, B3⟩
  iapply Hk
  isplitr [HxI HwI HO]
  · isplitl [HS]; · iexact HS
    isplitr [SxB SxR SwB B0 B1 B2 B3 SyB SaB]
    · isplitl [Pb]; · iexact Pb
      isplitl [Oxs Pxs]
      · iapply qxs
        isplitl [Oxs]; · iexact Oxs
        iexact Pxs
      isplitl [Oxr Pxr]
      · iapply qxr
        isplitl [Oxr]; · iexact Oxr
        iexact Pxr
      isplitl [Pin]; · iexact Pin
      isplitl [F0 F1 F2 F3]
      · isplitl [F0]; · iexact F0
        isplitl [F1]; · iexact F1
        isplitl [F2]; · iexact F2
        iexact F3
      isplitl [R0 R1 R2 R3]
      · isplitl [R0]; · iexact R0
        isplitl [R1]; · iexact R1
        isplitl [R2]; · iexact R2
        iexact R3
      isplitl [Osa Psa]
      · iapply qsa
        isplitl [Osa]; · iexact Osa
        iexact Psa
      isplitl [Ora Pra]
      · iapply qra
        isplitl [Ora]; · iexact Ora
        iexact Pra
      isplitl [C0]; · iexact C0
      isplitl [C1]; · iexact C1
      isplitl [C2]; · iexact C2
      iexact C3
    isplitl [SxB]; · iexact SxB
    isplitl [SxR]; · iexact SxR
    isplitl [SwB]; · iexact SwB
    isplitl [B0]; · iexact B0
    isplitl [B1]; · iexact B1
    isplitl [B2]; · iexact B2
    isplitl [B3]; · iexact B3
    isplitl [SyB]; · iexact SyB
    iexact SaB
  isplitl [HxI]; · iexact HxI
  isplitl [HwI]; · iexact HwI
  iexact HO

end Cert.KernelIdeal.Pf
-- ==== Proof.Fund.lean ====
/-
  What the launch deals: the cells' states, the duty tokens by payer, the slots and the tokens of the slot writes by writer, the credits by waiter.
-/
module

public import proofs.«01_k».proof.Proof.Body

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

variable (xin : Dev nD → Vec F S4096x256 .bf16) (win : Dev nD → Vec F S256x8192 .bf16)

/-! ## All payments -/

theorem rem_zero (f : Py → ℕ) (d : Dev nD) : rem f d 0 = Finset.univ.filter (ok d) := by
  ext i; rw [mem_rem]; simp

/-- Every payment with its payer. -/
def pays : Finset (Dev nD × Py) := Finset.univ.filter fun p => ok p.1 p.2
theorem mem_pays {p : Dev nD × Py} : p ∈ pays ↔ ok p.1 p.2 := by unfold pays; simp

theorem bigSep_pays (f : Py → ℕ) (Φ : Dev nD × Py → sProp (MT nD τ sig ℕ (Elt F) ℕ UU ℕ)) :
    bigSep pays Φ = bigSep Finset.univ fun d => bigSep (rem f d 0) fun i => Φ (d, i) := by
  unfold pays
  rw [BI.bigSep_filter, BI.bigSep_univ_prod]
  exact BI.bigSep_congr fun d _ => by rw [rem_zero, BI.bigSep_filter]

/-! ## The duty tokens -/

/-- An arrival's token, -/
abbrev arrT (p : Dev nD × Py) : GSem nD τ sig × ℕ × (Dev nD × Py) := (cell (tgt p.1 p.2) (akd p.1 p.2), ard p.2, p)
/-- a departure's. -/
abbrev depT (p : Dev nD × Py) : GSem nD τ sig × ℕ × (Dev nD × Py) := (cell p.1 (dkd p.2), drd p.2, p)
theorem arrT_inj : Function.Injective arrT := fun p p' h => congrArg (fun x => x.2.2) h
theorem depT_inj : Function.Injective depT := fun p p' h => congrArg (fun x => x.2.2) h
/-- The payments that have a departure. -/
def deps : Finset (Dev nD × Py) := pays.filter fun p => dkd p.2 ≠ none
theorem arr_dep_disjoint : Disjoint (pays.image arrT) (deps.image depT) := by
  rw [Finset.disjoint_left]
  intro x hx hy
  obtain ⟨p, -, rfl⟩ := Finset.mem_image.mp hx
  obtain ⟨p', hp', h⟩ := Finset.mem_image.mp hy
  have e : p' = p := congrArg (fun x => x.2.2) h
  subst e
  have hn := (Finset.mem_filter.mp hp').2
  exact akd_ne_dkd p'.1 p'.2 hn (cell_inj.mp (congrArg (fun x => x.1) h).symm).2
/-- All duty tokens. -/
def dutyToks : Finset (GSem nD τ sig × ℕ × (Dev nD × Py)) := pays.image arrT ∪ deps.image depT
/-- All cells. -/
def cells : Finset (GSem nD τ sig) := (Finset.univ : Finset (Dev nD × Option Sd)).image fun p => cell p.1 p.2
theorem bigSep_cells (Φ : GSem nD τ sig → sProp (MT nD τ sig ℕ (Elt F) ℕ UU ℕ)) :
    bigSep cells Φ = bigSep Finset.univ fun c : Dev nD => bigSep Finset.univ fun κ : Option Sd => Φ (cell c κ) := by
  unfold cells
  rw [BI.bigSep_image_of_injOn (fun p _ p' _ h => Prod.ext (cell_inj.mp h).1 (cell_inj.mp h).2), BI.bigSep_univ_prod]

/-- A payment's two tokens. -/
def atok (d : Dev nD) (i : Py) : sProp 𝕄 := iprop(dutyTok ER (cell (tgt d i) (akd d i)) (ard i) (d, i) ∗ dtok d i)
theorem bigSep_dutyToks : (bigSep dutyToks (fun x => dutyTok ER x.1 x.2.1 x.2.2) : sProp 𝕄)
    = bigSep Finset.univ fun d => bigSep (rem time d 0) (atok d) := by
  unfold dutyToks
  rw [BI.bigSep_union arr_dep_disjoint, BI.bigSep_image_of_injOn (arrT_inj.injOn), BI.bigSep_image_of_injOn (depT_inj.injOn)]
  unfold deps
  rw [BI.bigSep_filter, ← bigSep_pays time (fun p : Dev nD × Py => atok (F := F) p.1 p.2)]
  have h : (fun i : Dev nD × Py => if dkd i.2 ≠ none then (dutyTok ER (depT i).1 (depT i).2.1 (depT i).2.2 : sProp 𝕄) else BI.emp)
      = fun p => dtok p.1 p.2 := by
    funext p
    unfold dtok
    by_cases hp : dkd p.2 = none
    · rw [if_neg (not_not.mpr hp), if_pos hp]; rfl
    · rw [if_pos hp, if_neg hp]
  rw [h]
  exact (bigSep_sep' pays (fun p : Dev nD × Py => (dutyTok ER (cell (tgt p.1 p.2) (akd p.1 p.2)) (ard p.2) p : sProp 𝕄)) (fun p => dtok p.1 p.2)).symm

/-! ## The tokens of the slot writes -/

/-- A first hop or a forward. -/
def isHop : Py → Bool
  | .ini _ => true
  | .fwd _ _ => true
  | _ => false
/-- The hops' payments. -/
def hopWrites : Finset (Dev nD × Py) := Finset.univ.filter fun p => isHop p.2 = true
/-- The write a payment makes. -/
def wkey (p : Dev nD × Py) : (Dev nD × Fin 4 × Fin 3) × ℕ := match p.2 with
  | .ini k => ((peer k p.1, k, 0), 0)
  | .fwd k h => ((peer k p.1, k, sl (h.val + 1)), (h.val + 1) / 3)
  | _ => ((p.1, 0, 0), 0)
theorem peer_inj (k : Fin 4) {d d' : Dev nD} (h : peer k d = peer k d') : d = d' := by rw [← back_peer k d, h, back_peer]
theorem wkey_inj : Set.InjOn wkey (hopWrites : Set (Dev nD × Py)) := by
  rintro ⟨d, i⟩ hi0 ⟨d', i'⟩ hi0' h
  have hi : isHop i = true := (Finset.mem_filter.mp (Finset.mem_coe.mp hi0)).2
  have hi' : isHop i' = true := (Finset.mem_filter.mp (Finset.mem_coe.mp hi0')).2
  clear hi0 hi0'
  cases i <;> cases i' <;> first | exact absurd hi Bool.false_ne_true | exact absurd hi' Bool.false_ne_true | skip
  · rename_i k k'
    obtain rfl : k = k' := congrArg (fun x => x.1.2.1) h
    exact Prod.ext (peer_inj k (congrArg (fun x => x.1.1) h)) rfl
  · rename_i k k' h'
    obtain rfl : k = k' := congrArg (fun x => x.1.2.1) h
    have h1 : 0 = sl (h'.val + 1) := congrArg (fun x => x.1.2.2) h
    have h2 : 0 = (h'.val + 1) / 3 := congrArg (fun x => x.2) h
    have h3 : 0 = (h'.val + 1) % 3 := congrArg Fin.val h1
    omega
  · rename_i k h' k'
    obtain rfl : k = k' := congrArg (fun x => x.1.2.1) h
    have h1 : sl (h'.val + 1) = 0 := congrArg (fun x => x.1.2.2) h
    have h2 : (h'.val + 1) / 3 = 0 := congrArg (fun x => x.2) h
    have h3 : (h'.val + 1) % 3 = 0 := congrArg Fin.val h1
    omega
  · rename_i k j k' j'
    obtain rfl : k = k' := congrArg (fun x => x.1.2.1) h
    have h1 : sl (j.val + 1) = sl (j'.val + 1) := congrArg (fun x => x.1.2.2) h
    have h2 : (j.val + 1) / 3 = (j'.val + 1) / 3 := congrArg (fun x => x.2) h
    have h3 : (j.val + 1) % 3 = (j'.val + 1) % 3 := congrArg Fin.val h1
    have h4 : j = j' := Fin.ext (by omega)
    subst h4
    exact Prod.ext (peer_inj k (congrArg (fun x => x.1.1) h)) rfl
theorem wkey_sub : hopWrites.image wkey ⊆ (Finset.univ : Finset (Dev nD × Fin 4 × Fin 3)) ×ˢ Finset.range 5 := by
  intro x hx
  obtain ⟨⟨d, i⟩, hi, rfl⟩ := Finset.mem_image.mp hx
  refine Finset.mem_product.mpr ⟨Finset.mem_univ _, Finset.mem_range.mpr ?_⟩
  cases i <;> unfold wkey <;> dsimp only <;> omega
theorem deal_writes : bigSep ((Finset.univ : Finset (Dev nD × Fin 4 × Fin 3)) ×ˢ Finset.range 5) (fun x => writeTok ES x.1 (x.2 + 1))
    ⊢ (bigSep Finset.univ fun d => bigSep (rem time d 0) (wtok d) : sProp 𝕄) := by
  have h0 : ∀ s t : Finset ((Dev nD × Fin 4 × Fin 3) × ℕ), t ⊆ s →
      (bigSep s (fun x => writeTok (ES (F := F)) x.1 (x.2 + 1)) ⊢ (bigSep t (fun x => writeTok (ES (F := F)) x.1 (x.2 + 1)) : sProp 𝕄)) :=
    fun s t h => BI.bigSep_subset h
  have hw := wkey_sub
  generalize (Finset.univ : Finset (Dev nD × Fin 4 × Fin 3)) ×ˢ Finset.range 5 = S at hw ⊢
  generalize hT : hopWrites.image wkey = T at hw
  refine (h0 S T hw).trans ?_
  rw [← hT]
  rw [BI.bigSep_image_of_injOn wkey_inj]
  unfold hopWrites
  rw [BI.bigSep_filter, ← bigSep_pays time (fun p : Dev nD × Py => wtok (F := F) p.1 p.2)]
  refine (BI.bigSep_subset (Finset.subset_univ pays)).trans (Entails.of_eq (BI.bigSep_congr fun p _ => ?_))
  obtain ⟨d, i⟩ := p
  cases i <;> unfold wkey wtok <;> dsimp only <;> first | exact if_pos rfl | exact if_neg Bool.false_ne_true

/-! ## The credits -/

/-- A payment as its receiver numbers it. -/
def rcv (p : Dev nD × Py) : Dev nD × Py := match p.2 with
  | .bar q => (q, .bar p.1)
  | .xs q => (q, .xs p.1)
  | .am q => (q, .am p.1)
  | .ini k => (peer k p.1, .ini k)
  | .fwd k h => (peer k p.1, .fwd k h)
  | .cr k j => (back k p.1, .cr k j)
def snd' (p : Dev nD × Py) : Dev nD × Py := match p.2 with
  | .bar q => (q, .bar p.1)
  | .xs q => (q, .xs p.1)
  | .am q => (q, .am p.1)
  | .ini k => (back k p.1, .ini k)
  | .fwd k h => (back k p.1, .fwd k h)
  | .cr k j => (peer k p.1, .cr k j)

/-- What the waits of a device are worth. -/
def Tw (c : Dev nD) : CellTallies nD τ sig ℕ := ∑ j ∈ rem wtime c 0, tallyAt (cell c (okd j)) (lev j) (amt j)

theorem sum_pays {α : Type} [AddCommMonoid α] (f : Py → ℕ) (Φ : Dev nD → Py → α) : ∑ d, ∑ i ∈ rem f d 0, Φ d i = ∑ p ∈ pays, Φ p.1 p.2 := by
  unfold pays
  rw [Finset.sum_filter, Fintype.sum_prod_type]
  exact Finset.sum_congr rfl fun d _ => by rw [rem_zero, Finset.sum_filter]

theorem Ow_sum : (∑ d, Ow d 0) = ∑ d, Tw d := by
  unfold Ow Tw
  rw [sum_pays time (fun d i => tallyAt (cell (tgt d i) (akd d i)) (lev i) (amt i)), sum_pays wtime (fun d j => tallyAt (cell d (okd j)) (lev j) (amt j))]
  refine Finset.sum_bij' (fun p _ => rcv p) (fun p _ => snd' p) ?_ ?_ ?_ ?_ ?_
  · rintro ⟨d, i⟩ h; rw [mem_pays] at h ⊢; cases i <;> unfold rcv <;> first | exact trivial | exact h.symm
  · rintro ⟨d, i⟩ h; rw [mem_pays] at h ⊢; cases i <;> unfold snd' <;> first | exact trivial | exact h.symm
  · rintro ⟨d, i⟩ -; cases i <;> unfold rcv snd' <;> dsimp only <;> first | rfl | rw [back_peer] | rw [peer_back]
  · rintro ⟨d, i⟩ -; cases i <;> unfold rcv snd' <;> dsimp only <;> first | rfl | rw [back_peer] | rw [peer_back]
  · rintro ⟨d, i⟩ -; cases i <;> rfl

theorem Tw_core (c : Dev nD) (g : GSem nD τ sig) (h : Tw c g ≠ 0) : g.1 = (c.tc : Thread nD τ) := by
  unfold Tw at h
  rw [Finset.sum_apply] at h
  obtain ⟨j, -, hj⟩ := Finset.exists_ne_zero_of_sum_ne_zero h
  by_contra hne
  exact hj (tallyAt_ne_cell (fun hg => hne (congrArg Prod.fst hg)) _ _)

theorem deal_credit (c : Dev nD) : (Pipeline.launchCred (fun d => Ow d 0) c : sProp 𝕄) = bigSep (rem wtime c 0) (wcr c) := by
  rw [Pipeline.launchCred_of_sum (fun d => Ow d 0) Tw Ow_sum Tw_core c]
  unfold Tw
  rw [Pipeline.cred_finsetSum]
  rfl

theorem rem_end (d : Dev nD) : rem time d 216 = ∅ := by
  rw [Finset.eq_empty_iff_forall_notMem]
  intro i hi
  have h := (mem_rem.mp hi).2
  cases i <;> simp only [time] at h <;> try omega
  all_goals (rename_i k j; have := ord_lt k; omega)
theorem Ow_end (d : Dev nD) : Ow d 216 = 0 := by unfold Ow; rw [rem_end, Finset.sum_empty]

/-! ## The launch element -/

/-- The launch's own element: the cells and tokens of the schedule, the slots. -/
def u₁ : UB × UK := (initOf cells dutyToks, initSlots Finset.univ 5)

/-- What device `c` starts with. -/
def G (c : Dev nD) : sProp 𝕄 :=
  iprop((bigSep Finset.univ fun κ : Option Sd => roundState ER (Rd xin win) (cell c κ) 0)
    ∗ (bigSep Finset.univ fun κ : Option Sd => reached ER (cell c κ) 0)
    ∗ (bigSep Finset.univ fun κ : Option Sd => atPos ER (cell c κ) 0 ∅ 0)
    ∗ bigSep (rem time c 0) (atok c)
    ∗ (if c = 0 then BI.own (ES (initSlots Finset.univ 5)) else iprop(emp)))

theorem fund_G : (BI.own ((embR : Emb (UB × UK) (MT nD τ sig ℕ (Elt F) ℕ UU ℕ)) u₁) : sProp 𝕄) ⊢ |==> bigSep Finset.univ (G xin win) := by
  have h1 := own_pair_emb (embR : Emb (UB × UK) (MT nD τ sig ℕ (Elt F) ℕ UU ℕ)) (initOf cells dutyToks) (initSlots Finset.univ 5)
  have h2 := Rounds.fund (ER (F := F)) (Rd xin win) cells dutyToks
  rw [bigSep_cells, bigSep_cells, bigSep_cells, bigSep_dutyToks] at h2
  have h3 : (BI.own (ES (F := F) (initSlots Finset.univ 5)) : sProp 𝕄)
      ⊢ bigSep Finset.univ fun c : Dev nD => if c = 0 then BI.own (ES (initSlots Finset.univ 5)) else iprop(emp) := by
    rw [BI.bigSep_univ_at _ (0 : Dev nD)]
    iintro H
    isplitl [H]
    · ihave H := (Entails.of_eq (if_pos (show (0 : Dev nD) = 0 from rfl)).symm) $$ H
      iexact H
    · rw [BI.bigSep_congr (Ψ := fun _ => (iprop(emp) : sProp 𝕄)) fun c hc => if_neg (Finset.ne_of_mem_erase hc)]
      rw [show (bigSep (Finset.univ.erase (0 : Dev nD)) fun _ => (iprop(emp) : sProp 𝕄)) = iprop(emp) from BI.bigSep_emp_const _]
      iempintro
  unfold u₁
  iintro H
  ihave H := h1 $$ H
  icases H with ⟨HB, HK⟩
  imod h2 $$ HB with ⟨Hst, Hr, Hat, Htok⟩
  ihave HK := h3 $$ HK
  imodintro
  unfold G
  simp only [bigSep_sep']
  isplitl [Hst]; · iexact Hst
  isplitl [Hr]; · iexact Hr
  isplitl [Hat]; · iexact Hat
  isplitl [Htok]; · iexact Htok
  iexact HK

end Cert.KernelIdeal.Pf
-- ==== Proof.Align.lean ====
/-
  The printed body is the program of steps.
-/
module
public import proofs.«01_k».proof.Proof.Prog
@[expose] public section
noncomputable section
namespace Cert.KernelIdeal.Pf
open Idealize.ShloMosaic Idealize.ShloMosaic.TcCoe
open Idealize.SL.Sem
open Cert.KernelIdeal Cert.KernelIdeal.Gen
variable {F : FTy → Type} [FloatOps F] [Named F]
set_option maxRecDepth 65536
set_option maxHeartbeats 0
/-- The printed body, step by step. -/
theorem body_eq (t : Fin cfg0.N) : bodyAt0 (F := F) t = bodyP := by
  change cc0_body_skel xI (Memref.isWhole_whole _) wI (Memref.isWhole_whole _) oO (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 = _
  refine op_congr rfl fun d0 => ?_
  conv_rhs => simp only [headP, tailP, all16, all15, hop, comm, List.foldr]
  iterate 150
    first
      | with_reducible refine pure_step ?_
      | with_reducible refine ret_step ?_
      | with_reducible refine assoc_step ?_
      | with_reducible refine assoc_step' ?_
      | ((with_reducible refine lift_step ?_ fun _ => ?_); rfl)
      | ((with_reducible refine wait_step ?_ ?_ fun _ => ?_); rfl; rfl)
      | ((with_reducible refine sig_step ?_ ?_ ?_ fun _ => ?_); rfl; rfl; rfl)
      | ((with_reducible refine whn_t ?_ ?_); rfl)
      | ((with_reducible refine whn_f ?_ ?_); rfl)
      | ((with_reducible refine jp_step ?_ ?_ ?_); rfl; intro h; rfl)
      | ((with_reducible refine cnd_here ?_); refine jp_step (F := F) ?_ ?_ ?_; rfl; intro h; rfl)
      | refine assoc_step' (F := F) ?_
  as_aux_lemma =>
    iterate 150
      first
        | with_reducible refine pure_step ?_
        | with_reducible refine ret_step ?_
        | with_reducible refine assoc_step ?_
        | with_reducible refine assoc_step' ?_
        | ((with_reducible refine lift_step ?_ fun _ => ?_); rfl)
        | ((with_reducible refine wait_step ?_ ?_ fun _ => ?_); rfl; rfl)
        | ((with_reducible refine sig_step ?_ ?_ ?_ fun _ => ?_); rfl; rfl; rfl)
        | ((with_reducible refine whn_t ?_ ?_); rfl)
        | ((with_reducible refine whn_f ?_ ?_); rfl)
        | ((with_reducible refine jp_step ?_ ?_ ?_); rfl; intro h; rfl)
        | ((with_reducible refine cnd_here ?_); refine jp_step (F := F) ?_ ?_ ?_; rfl; intro h; rfl)
        | refine assoc_step' (F := F) ?_
    as_aux_lemma =>
      iterate 150
        first
          | with_reducible refine pure_step ?_
          | with_reducible refine ret_step ?_
          | with_reducible refine assoc_step ?_
          | with_reducible refine assoc_step' ?_
          | ((with_reducible refine lift_step ?_ fun _ => ?_); rfl)
          | ((with_reducible refine wait_step ?_ ?_ fun _ => ?_); rfl; rfl)
          | ((with_reducible refine sig_step ?_ ?_ ?_ fun _ => ?_); rfl; rfl; rfl)
          | ((with_reducible refine whn_t ?_ ?_); rfl)
          | ((with_reducible refine whn_f ?_ ?_); rfl)
          | ((with_reducible refine jp_step ?_ ?_ ?_); rfl; intro h; rfl)
          | ((with_reducible refine cnd_here ?_); refine jp_step (F := F) ?_ ?_ ?_; rfl; intro h; rfl)
          | refine assoc_step' (F := F) ?_
      as_aux_lemma =>
        iterate 150
          first
            | with_reducible refine pure_step ?_
            | with_reducible refine ret_step ?_
            | with_reducible refine assoc_step ?_
            | with_reducible refine assoc_step' ?_
            | ((with_reducible refine lift_step ?_ fun _ => ?_); rfl)
            | ((with_reducible refine wait_step ?_ ?_ fun _ => ?_); rfl; rfl)
            | ((with_reducible refine sig_step ?_ ?_ ?_ fun _ => ?_); rfl; rfl; rfl)
            | ((with_reducible refine whn_t ?_ ?_); rfl)
            | ((with_reducible refine whn_f ?_ ?_); rfl)
            | ((with_reducible refine jp_step ?_ ?_ ?_); rfl; intro h; rfl)
            | ((with_reducible refine cnd_here ?_); refine jp_step (F := F) ?_ ?_ ?_; rfl; intro h; rfl)
            | refine assoc_step' (F := F) ?_
        as_aux_lemma =>
          iterate 150
            first
              | with_reducible refine pure_step ?_
              | with_reducible refine ret_step ?_
              | with_reducible refine assoc_step ?_
              | with_reducible refine assoc_step' ?_
              | ((with_reducible refine lift_step ?_ fun _ => ?_); rfl)
              | ((with_reducible refine wait_step ?_ ?_ fun _ => ?_); rfl; rfl)
              | ((with_reducible refine sig_step ?_ ?_ ?_ fun _ => ?_); rfl; rfl; rfl)
              | ((with_reducible refine whn_t ?_ ?_); rfl)
              | ((with_reducible refine whn_f ?_ ?_); rfl)
              | ((with_reducible refine jp_step ?_ ?_ ?_); rfl; intro h; rfl)
              | ((with_reducible refine cnd_here ?_); refine jp_step (F := F) ?_ ?_ ?_; rfl; intro h; rfl)
              | refine assoc_step' (F := F) ?_
          as_aux_lemma =>
            iterate 150
              first
                | with_reducible refine pure_step ?_
                | with_reducible refine ret_step ?_
                | with_reducible refine assoc_step ?_
                | with_reducible refine assoc_step' ?_
                | ((with_reducible refine lift_step ?_ fun _ => ?_); rfl)
                | ((with_reducible refine wait_step ?_ ?_ fun _ => ?_); rfl; rfl)
                | ((with_reducible refine sig_step ?_ ?_ ?_ fun _ => ?_); rfl; rfl; rfl)
                | ((with_reducible refine whn_t ?_ ?_); rfl)
                | ((with_reducible refine whn_f ?_ ?_); rfl)
                | ((with_reducible refine jp_step ?_ ?_ ?_); rfl; intro h; rfl)
                | ((with_reducible refine cnd_here ?_); refine jp_step (F := F) ?_ ?_ ?_; rfl; intro h; rfl)
                | refine assoc_step' (F := F) ?_
            as_aux_lemma =>
              iterate 150
                first
                  | with_reducible refine pure_step ?_
                  | with_reducible refine ret_step ?_
                  | with_reducible refine assoc_step ?_
                  | with_reducible refine assoc_step' ?_
                  | ((with_reducible refine lift_step ?_ fun _ => ?_); rfl)
                  | ((with_reducible refine wait_step ?_ ?_ fun _ => ?_); rfl; rfl)
                  | ((with_reducible refine sig_step ?_ ?_ ?_ fun _ => ?_); rfl; rfl; rfl)
                  | ((with_reducible refine whn_t ?_ ?_); rfl)
                  | ((with_reducible refine whn_f ?_ ?_); rfl)
                  | ((with_reducible refine jp_step ?_ ?_ ?_); rfl; intro h; rfl)
                  | ((with_reducible refine cnd_here ?_); refine jp_step (F := F) ?_ ?_ ?_; rfl; intro h; rfl)
                  | refine assoc_step' (F := F) ?_
              as_aux_lemma =>
                iterate 150
                  first
                    | with_reducible refine pure_step ?_
                    | with_reducible refine ret_step ?_
                    | with_reducible refine assoc_step ?_
                    | with_reducible refine assoc_step' ?_
                    | ((with_reducible refine lift_step ?_ fun _ => ?_); rfl)
                    | ((with_reducible refine wait_step ?_ ?_ fun _ => ?_); rfl; rfl)
                    | ((with_reducible refine sig_step ?_ ?_ ?_ fun _ => ?_); rfl; rfl; rfl)
                    | ((with_reducible refine whn_t ?_ ?_); rfl)
                    | ((with_reducible refine whn_f ?_ ?_); rfl)
                    | ((with_reducible refine jp_step ?_ ?_ ?_); rfl; intro h; rfl)
                    | ((with_reducible refine cnd_here ?_); refine jp_step (F := F) ?_ ?_ ?_; rfl; intro h; rfl)
                    | refine assoc_step' (F := F) ?_
                as_aux_lemma =>
                  iterate 150
                    first
                      | with_reducible refine pure_step ?_
                      | with_reducible refine ret_step ?_
                      | with_reducible refine assoc_step ?_
                      | with_reducible refine assoc_step' ?_
                      | ((with_reducible refine lift_step ?_ fun _ => ?_); rfl)
                      | ((with_reducible refine wait_step ?_ ?_ fun _ => ?_); rfl; rfl)
                      | ((with_reducible refine sig_step ?_ ?_ ?_ fun _ => ?_); rfl; rfl; rfl)
                      | ((with_reducible refine whn_t ?_ ?_); rfl)
                      | ((with_reducible refine whn_f ?_ ?_); rfl)
                      | ((with_reducible refine jp_step ?_ ?_ ?_); rfl; intro h; rfl)
                      | ((with_reducible refine cnd_here ?_); refine jp_step (F := F) ?_ ?_ ?_; rfl; intro h; rfl)
                      | refine assoc_step' (F := F) ?_
                  as_aux_lemma =>
                    iterate 150
                      first
                        | with_reducible refine pure_step ?_
                        | with_reducible refine ret_step ?_
                        | with_reducible refine assoc_step ?_
                        | with_reducible refine assoc_step' ?_
                        | ((with_reducible refine lift_step ?_ fun _ => ?_); rfl)
                        | ((with_reducible refine wait_step ?_ ?_ fun _ => ?_); rfl; rfl)
                        | ((with_reducible refine sig_step ?_ ?_ ?_ fun _ => ?_); rfl; rfl; rfl)
                        | ((with_reducible refine whn_t ?_ ?_); rfl)
                        | ((with_reducible refine whn_f ?_ ?_); rfl)
                        | ((with_reducible refine jp_step ?_ ?_ ?_); rfl; intro h; rfl)
                        | ((with_reducible refine cnd_here ?_); refine jp_step (F := F) ?_ ?_ ?_; rfl; intro h; rfl)
                        | refine assoc_step' (F := F) ?_
                    as_aux_lemma =>
                      iterate 150
                        first
                          | with_reducible refine pure_step ?_
                          | with_reducible refine ret_step ?_
                          | with_reducible refine assoc_step ?_
                          | with_reducible refine assoc_step' ?_
                          | ((with_reducible refine lift_step ?_ fun _ => ?_); rfl)
                          | ((with_reducible refine wait_step ?_ ?_ fun _ => ?_); rfl; rfl)
                          | ((with_reducible refine sig_step ?_ ?_ ?_ fun _ => ?_); rfl; rfl; rfl)
                          | ((with_reducible refine whn_t ?_ ?_); rfl)
                          | ((with_reducible refine whn_f ?_ ?_); rfl)
                          | ((with_reducible refine jp_step ?_ ?_ ?_); rfl; intro h; rfl)
                          | ((with_reducible refine cnd_here ?_); refine jp_step (F := F) ?_ ?_ ?_; rfl; intro h; rfl)
                          | refine assoc_step' (F := F) ?_
                      as_aux_lemma =>
                        repeat
                          first
                            | with_reducible refine pure_step ?_
                            | with_reducible refine ret_step ?_
                            | with_reducible refine assoc_step ?_
                            | with_reducible refine assoc_step' ?_
                            | ((with_reducible refine lift_step ?_ fun _ => ?_); rfl)
                            | ((with_reducible refine wait_step ?_ ?_ fun _ => ?_); rfl; rfl)
                            | ((with_reducible refine sig_step ?_ ?_ ?_ fun _ => ?_); rfl; rfl; rfl)
                            | ((with_reducible refine whn_t ?_ ?_); rfl)
                            | ((with_reducible refine whn_f ?_ ?_); rfl)
                            | ((with_reducible refine jp_step ?_ ?_ ?_); rfl; intro h; rfl)
                            | ((with_reducible refine cnd_here ?_); refine jp_step (F := F) ?_ ?_ ?_; rfl; intro h; rfl)
                            | refine assoc_step' (F := F) ?_
                        rfl

end Cert.KernelIdeal.Pf
-- ==== Proof.Run.lean ====
/-
  The launch: the global step, the body's obligation and the run of the whole program from any memory.
-/
module

public import proofs.«01_k».proof.Proof.Fund
public import proofs.«01_k».proof.Proof.Align
public import proofs.«01_k».proof.Proof.Gen.KernelIdeal.Launch
public import Idealize.ShloMosaic.Lib.Pipeline.CollectiveSegs

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F] [Named F]
local notation "𝕄" => MT nD τ sig ℕ (Elt F) ℕ UU ℕ

/-! ## The global step -/

section Global
variable (xin : Dev nD → Vec F S4096x256 .bf16) (win : Dev nD → Vec F S256x8192 .bf16)

/-- What every device knows but the levels. -/
def Rec (K : Dev nD × Option Sd → ℕ) (ιs : Dev nD × Fin 4 × Fin 3 → ℕ) : sProp 𝕄 :=
  iprop((bigSep Finset.univ fun p => cellInv ER (Rd xin win) (K p) (cell p.1 p.2))
    ∗ (bigSep Finset.univ fun p : Dev nD × Option Sd => reached ER (cell p.1 p.2) 0)
    ∗ (bigSep Finset.univ fun x => slotInv ES (ιs x) x (ownsE x.1 (slotM x.2.1 x.2.2))))
instance Rec_pers (K : Dev nD × Option Sd → ℕ) (ιs : Dev nD × Fin 4 × Fin 3 → ℕ) : BI.Persistent (Rec xin win K ιs) := by unfold Rec; infer_instance

/-- What is device `c`'s own. -/
def Lin (c : Dev nD) : sProp 𝕄 :=
  iprop((bigSep Finset.univ fun κ : Option Sd => atPos ER (cell c κ) 0 ∅ 0) ∗ bigSep (rem time c 0) (tok c)
    ∗ (bigSep Finset.univ fun k : Fin 4 => bigSep Finset.univ fun s : Fin 3 => readerAt ES (c, k, s) 0))

/-- What device `c` has after the global step. -/
def G' (c : Dev nD) : sProp 𝕄 := iprop(∃ K ιs, Rec xin win K ιs ∗ Lin c)

theorem unscopedSems0_eq (c : Dev nD) : (unscopedSems0 c : sProp 𝕄) = semVal (cell c none) 0 := by
  unfold unscopedSems0; rw [bigSep_eq_bigSepL_of_eq [SemLoc.reg barS] (by decide) (by decide)]; rfl

theorem univ_opt : (Finset.univ : Finset (Option Sd)) = insert none (Finset.univ.image some) := by
  ext κ; cases κ <;> simp
theorem sems0_eq (c : Dev nD) : (bigSep Finset.univ fun κ : Option Sd => semVal (cell c κ) 0 : sProp 𝕄)
    = iprop(unscopedSems0 c ∗ Pipeline.ownSems0 (Ix := ℕ) (Name := ℕ) (U := UU) (Lvl := ℕ) (Val := Elt F) (τ := τ) osem c) := by
  rw [univ_opt, BI.bigSep_insert (by simp), BI.bigSep_image_of_injOn (fun a _ b _ h => Option.some.inj h), unscopedSems0_eq]
  rfl

theorem core_alloc (c : Dev nD) :
    iprop(Pipeline.ownSems0 (Ix := ℕ) (Name := ℕ) (U := UU) (Lvl := ℕ) (Val := Elt F) (τ := τ) osem c ∗ unscopedSems0 c ∗ G xin win c)
      ⊢ |={Set.univ}=> iprop((bigSep Finset.univ fun κ : Option Sd => iprop(∃ n : ℕ, cellInv ER (Rd xin win) n (cell c κ)))
        ∗ (bigSep Finset.univ fun κ : Option Sd => reached ER (cell c κ) 0)
        ∗ (bigSep Finset.univ fun κ : Option Sd => atPos ER (cell c κ) 0 ∅ 0)
        ∗ bigSep (rem time c 0) (atok c)
        ∗ (if c = 0 then BI.own (ES (initSlots Finset.univ 5)) else iprop(emp))) := by
  have h : iprop((bigSep Finset.univ fun κ : Option Sd => semVal (cell c κ) 0) ∗ bigSep Finset.univ fun κ : Option Sd => roundState ER (Rd xin win) (cell c κ) 0)
      ⊢ (|={Set.univ}=> bigSep Finset.univ fun κ : Option Sd => iprop(∃ n : ℕ, cellInv ER (Rd xin win) n (cell c κ)) : sProp 𝕄) := by
    rw [← bigSep_sep']
    exact (bigSep_mono fun k _ => (Rounds.body_intro ER (Rd xin win) (cell c k)).trans inv_alloc).trans (bigSep_fupd _ _)
  rw [sems0_eq] at h
  unfold G
  iintro ⟨Hos, Hus, Hst, Hr, Hat, Htok, HK⟩
  imod h $$ [Hos Hus Hst] with HI
  · isplitl [Hos Hus]
    · isplitl [Hus] <;> iassumption
    · iexact Hst
  imodintro
  isplitl [HI]; · iexact HI
  isplitl [Hr]; · iexact Hr
  isplitl [Hat]; · iexact Hat
  isplitl [Htok]; · iexact Htok
  iexact HK

theorem with_pers {I : Type} [DecidableEq I] {S : Finset I} {R : sProp (MT nD τ sig ℕ (Elt F) ℕ UU ℕ)} [BI.Persistent R] {Φ Ψ : I → sProp (MT nD τ sig ℕ (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem slots_all : (bigSep Finset.univ fun c : Dev nD => if c = 0 then BI.own (ES (initSlots Finset.univ 5)) else iprop(emp))
    ⊢ (|={Set.univ}=> ∃ ιs : Dev nD × Fin 4 × Fin 3 → ℕ, (bigSep Finset.univ fun x => slotInv ES (ιs x) x (ownsE x.1 (slotM x.2.1 x.2.2)))
      ∗ (bigSep Finset.univ fun c : Dev nD => bigSep Finset.univ fun k : Fin 4 => bigSep Finset.univ fun s : Fin 3 => readerAt ES (c, k, s) 0)
      ∗ bigSep Finset.univ fun d => bigSep (rem time d 0) (wtok d) : sProp 𝕄) := by
  have h0 : (bigSep Finset.univ fun c : Dev nD => if c = 0 then BI.own (ES (initSlots Finset.univ 5)) else iprop(emp) : sProp 𝕄)
      ⊢ BI.own (ES (initSlots Finset.univ 5)) := by
    refine (BI.bigSep_elim (Finset.mem_univ (0 : Dev nD))).trans ?_
    rw [if_pos (show (0 : Dev nD) = 0 from rfl)]
    exact BI.Entails.refl _
  have h1 := slots_init (Es := Set.univ) (ES (F := F)) (Finset.univ : Finset (Dev nD × Fin 4 × Fin 3)) 5 (fun x => ownsE (F := F) x.1 (slotM x.2.1 x.2.2)) ∅
  have h2 := deal_writes (F := F)
  have h3 : (bigSep Finset.univ fun x : Dev nD × Fin 4 × Fin 3 => readerAt (ES (F := F)) x 0 : sProp 𝕄)
      = bigSep Finset.univ fun c : Dev nD => bigSep Finset.univ fun k : Fin 4 => bigSep Finset.univ fun s : Fin 3 => readerAt ES (c, k, s) 0 := by
    rw [BI.bigSep_univ_prod]; exact BI.bigSep_congr fun c _ => by rw [BI.bigSep_univ_prod]
  rw [h3] at h1
  iintro H
  ihave H := h0 $$ H
  imod h1 $$ H with ⟨%ιs, -, HI, Hr, Hw⟩
  ihave Hw := h2 $$ Hw
  imodintro
  iexists ιs
  isplitl [HI]; · iexact HI
  isplitl [Hr]; · iexact Hr
  iexact Hw

theorem lin_join : iprop((bigSep Finset.univ fun c : Dev nD => bigSep Finset.univ fun κ : Option Sd => atPos ER (cell c κ) 0 ∅ 0)
    ∗ (bigSep Finset.univ fun c : Dev nD => bigSep (rem time c 0) (atok c))
    ∗ (bigSep Finset.univ fun d : Dev nD => bigSep (rem time d 0) (wtok d))
    ∗ (bigSep Finset.univ fun c : Dev nD => bigSep Finset.univ fun k : Fin 4 => bigSep Finset.univ fun s : Fin 3 => readerAt ES (c, k, s) 0))
      ⊢ (bigSep Finset.univ fun c : Dev nD => Lin c : sProp 𝕄) := by
  have h : ∀ c : Dev nD, (bigSep (rem time c 0) (tok (F := F) c) : sProp 𝕄) = iprop(bigSep (rem time c 0) (atok c) ∗ bigSep (rem time c 0) (wtok c)) := fun c => by
    rw [← bigSep_sep']
    refine BI.bigSep_congr fun i _ => ?_
    unfold tok atok
    refine BI.Entails.antisymm (show _ ⊢ (_ : sProp 𝕄) from ?_) (show _ ⊢ (_ : sProp 𝕄) from ?_)
    · iintro ⟨H1, H2, H3⟩
      isplitr [H3]
      · isplitl [H1] <;> iassumption
      · iexact H3
    · iintro ⟨⟨H1, H2⟩, H3⟩
      isplitl [H1]; · iexact H1
      isplitl [H2] <;> iassumption
  unfold Lin
  simp only [h, bigSep_sep']
  iintro ⟨H1, H2, H3, H4⟩
  isplitl [H1]; · iexact H1
  isplitl [H2 H3]
  · isplitl [H2] <;> iassumption
  iexact H4

theorem glob : (bigSep Finset.univ fun c => iprop(Pipeline.ownSems0 (Ix := ℕ) (Name := ℕ) (U := UU) (Lvl := ℕ) (Val := Elt F) (τ := τ) osem c ∗ unscopedSems0 c ∗ G xin win c) : sProp 𝕄)
    ⊢ |={Set.univ}=> bigSep Finset.univ (G' xin win) := by
  refine ((bigSep_mono fun c _ => core_alloc xin win c).trans (bigSep_fupd _ _)).trans ?_
  have h1 := BI.bigSep_exists_pi Finset.univ (fun (p : Dev nD × Option Sd) (n : ℕ) => (cellInv ER (Rd xin win) n (cell p.1 p.2) : sProp 𝕄))
  have h2 := slots_all (F := F)
  have h3 := lin_join (F := F)
  have h4 : ∀ (K : Dev nD × Option Sd → ℕ) (ιs : Dev nD × Fin 4 × Fin 3 → ℕ), iprop(Rec xin win K ιs ∗ bigSep Finset.univ fun c : Dev nD => Lin (F := F) c) ⊢ bigSep Finset.univ (G' xin win) :=
    fun K ιs => with_pers fun c _ => by
      unfold G'
      iintro ⟨HR, HL⟩
      iexists K
      iexists ιs
      isplitl [HR] <;> iassumption
  rw [bigSep_sep', bigSep_sep', bigSep_sep', bigSep_sep', ← bigSep_univ_prod (fun p : Dev nD × Option Sd => iprop(∃ n : ℕ, cellInv ER (Rd xin win) n (cell p.1 p.2))),
    ← bigSep_univ_prod (fun p : Dev nD × Option Sd => (reached ER (cell p.1 p.2) 0 : sProp 𝕄))]
  refine (BI.fupd_mono (Q := iprop(|={Set.univ}=> bigSep Finset.univ (G' xin win))) ?_).trans BI.fupd_trans
  show iprop((bigSep Finset.univ fun p : Dev nD × Option Sd => iprop(∃ n : ℕ, cellInv ER (Rd xin win) n (cell p.1 p.2)))
    ∗ (bigSep Finset.univ fun p : Dev nD × Option Sd => reached ER (cell p.1 p.2) 0)
    ∗ (bigSep Finset.univ fun c : Dev nD => bigSep Finset.univ fun κ : Option Sd => atPos ER (cell c κ) 0 ∅ 0)
    ∗ (bigSep Finset.univ fun c : Dev nD => bigSep (rem time c 0) (atok c))
    ∗ (bigSep Finset.univ fun c : Dev nD => if c = 0 then BI.own (ES (initSlots Finset.univ 5)) else iprop(emp))) ⊢ _
  iintro ⟨HI, Hr, Hat, Htok, HK⟩
  imod h2 $$ HK with ⟨%ιs, HS, Hrd, Hw⟩
  ihave HI := h1 $$ HI
  icases HI with ⟨%K, HI⟩
  ihave HL := h3 $$ [Hat Htok Hw Hrd]
  · isplitl [Hat]; · iexact Hat
    isplitl [Htok]; · iexact Htok
    isplitl [Hw] <;> iassumption
  imodintro
  iapply (h4 K ιs)
  isplitr [HL]
  · unfold Rec
    isplitl [HI]; · iexact HI
    isplitl [Hr] <;> iassumption
  · iexact HL

end Global

/-! ## The body's obligation -/

section Launch
variable (m : (ℓ : Loc nD τ sig) → Buf (Elt F) ℓ) (ρ : Dev nD → PrngReg)

abbrev EP : Emb (UR sig nD τ) (MT nD τ sig ℕ (Elt F) ℕ UU ℕ) := embL

/-- The machine at the start. -/
def s₀ : MemSt nD τ sig (Elt F) := ⟨m, fun _ => 0, ρ⟩
/-- The operands as they are staged. -/
def xstg (c : Dev nD) : Vec F S4096x256 .bf16 := (win0_0.blk t0_0).view.read (Elt F) ((s₀ m ρ).mem ((c : Thread nD τ).loc main_arg0))
def wstg (c : Dev nD) : Vec F S256x8192 .bf16 := (win0_1.blk t0_0).view.read (Elt F) ((s₀ m ρ).mem ((c : Thread nD τ).loc main_arg1))
/-- What device `c` writes. -/
def ostg (c : Dev nD) : Vec F S256x8192 .f32 := outV (xstg m ρ) (wstg m ρ) c

/-- What device `c` has at the body's start but its scratch. -/
def start (c : Dev nD) : sProp 𝕄 :=
  iprop(G' (xstg m ρ) (wstg m ρ) c ∗ levAts (SiteBlocks.L 101) SiteBlocks.lv ∗ bigSep (rem wtime c 0) (wcr c))
def Φ₀ (c : Dev nD) : sProp 𝕄 := iprop(start m ρ c ∗ Scr c)
def Φ₁ (c : Dev nD) : sProp 𝕄 := iprop(Scr c ∗ bigSep Finset.univ fun κ : Option Sd => semVal (cell c κ) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => ostg m ρ c
  Φ t := match t with
    | ⟨0, _⟩ => Φ₀ m ρ c
    | ⟨_ + 1, _⟩ => Φ₁ c
  q _ := fullShare
  owed t := match t with
    | ⟨0, _⟩ => Ow c 0
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem fin_N (t : Fin cfg0.N) : t = t0_0 := fin_N0 t
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem body_close (c : Dev nD) (K : Dev nD × Option Sd → ℕ) (ιs : Dev nD × Fin 4 × Fin 3 → ℕ) :
    iprop(Ctx (xstg m ρ) (wstg m ρ) K ιs ∗ bigSep Finset.univ fun κ : Option Sd => atPos ER (cell c κ) (fin c κ) ∅ 0)
      ⊢ (|={Set.univ}=> bigSep Finset.univ fun κ : Option Sd => semVal (cell c κ) 0 : sProp 𝕄) := by
  refine (with_pers (Ψ := fun κ : Option Sd => iprop(|={Set.univ}=> semVal (cell c κ) 0)) fun κ _ => ?_).trans (bigSep_fupd _ _)
  have h := Rounds.cell_close (ER (F := F)) (Rd (xstg m ρ) (wstg m ρ)) (g := cell c κ) (κ := K (c, κ)) (Set.mem_univ _) (fun h => h) (R := fin c κ)
    (fun r hr => du_fin (xstg m ρ) (wstg m ρ) hr)
  have hI := ctx_inv (xstg m ρ) (wstg m ρ) K ιs c κ
  iintro ⟨#HC, Hat⟩
  ihave HI := hI $$ HC
  iapply h
  isplitl [HI] <;> iassumption

/-- The body from what the launch and the pipeline hand it to what they take back. -/
theorem body_sound (c : Dev nD) (Kt : PUnit.{1} → sProp (MT nD τ sig ℕ (Elt F) ℕ UU ℕ)) (W : Waits sig ℕ) :
    iprop(Φ₀ m ρ c ∗ owes (c : Thread nD τ) (Ow c 0) W ∗ ownsV c xI fullShare (xstg m ρ c) ∗ ownsV c wI fullShare (wstg m ρ c) ∗ ownsE c oO)
      ⊢ iprop(((∃ W', Φ₁ c ∗ owes (c : Thread nD τ) 0 W' ∗ ownsV c xI fullShare (xstg m ρ c) ∗ ownsV c wI fullShare (wstg m ρ c) ∗ ownsV c oO fullShare (ostg m ρ c)) -∗ Kt ⟨⟩)
        -∗ wpc c bodyP Kt) := by
  have hb := fun K ιs => body_run (c := c) (qx := fullShare) (qw := fullShare) (xstg m ρ) (wstg m ρ) K ιs (fun r => iprop(|={Set.univ}=> Kt r))
  have hc := fun K ιs => body_close m ρ c K ιs
  have hf : wpc c bodyP (fun r => iprop(|={Set.univ}=> Kt r)) ⊢ wpc c bodyP Kt := wp_fupd (Idealize.ShloMosaic.frame) (wpE (defs₀ (F := F)) 𝒱₀ (c : Thread nD τ) none) Set.univ bodyP Kt
  unfold Φ₀ Φ₁ start G' Lin
  iintro ⟨⟨⟨⟨%K, %ιs, #HR, Hat, Htok, Hrd⟩, #Hlv, Hcr⟩, Hscr⟩, HO, Hx, Hw, Ho⟩ Hk
  ihave #HC := (show iprop(Rec (xstg m ρ) (wstg m ρ) K ιs ∗ levAts (SiteBlocks.L 101) SiteBlocks.lv) ⊢ Ctx (xstg m ρ) (wstg m ρ) K ιs from by
    unfold Rec Ctx
    iintro ⟨⟨H1, H2, H3⟩, H4⟩
    isplitl [H1]; · iexact H1
    isplitl [H2]; · iexact H2
    isplitl [H3] <;> iassumption) $$ [HR Hlv]
  · isplitl <;> iassumption
  iapply hf
  iapply (hb K ιs) $$ [Hat Htok Hrd Hcr Hscr HO Hx Hw Ho]
  · isplitr; · iexact HC
    isplitl [Hat Htok Hrd Hcr Hscr HO]
    · unfold BodyPre St
      isplitl [Htok Hcr HO]
      · isplitl [HO]; · iexists W; iexact HO
        isplitl [Htok] <;> iassumption
      isplitl [Hat]; · iexact Hat
      isplitl [Hrd] <;> iassumption
    isplitl [Hx]; · iexact Hx
    isplitl [Hw] <;> iassumption
  · unfold BodyPost St
    rw [Ow_end]
    iintro ⟨⟨⟨⟨%W', HO⟩, -, -⟩, Hat, Hscr⟩, Hx, Hw, Ho⟩
    imod (hc K ιs) $$ [Hat] with Hz
    · isplitr; · iexact HC
      iexact Hat
    imodintro
    iapply Hk
    iexists W'
    isplitl [Hscr Hz]
    · isplitl [Hscr] <;> iassumption
    isplitl [HO]; · iexact HO
    isplitl [Hx]; · iexact Hx
    isplitl [Hw]; · iexact Hw
    iexact Ho

theorem body_obligation (c : Dev nD) : BodyObligation (dats m ρ 0 c) (defs₀ (F := F)) 𝒱₀ 0 Set.univ := fun t => by
  rw [fin_N t]
  rw [bigSep_W, bigSep_W]
  show iprop(Φ₀ m ρ c ∗ (dats m ρ 0 c).owesAt 0 t0_0.castSucc ∗ (∃ d, ownsV c xI fullShare ((dats m ρ 0 c).before (0 : Fin 3) t0_0 d))
      ∗ (∃ d, ownsV c wI fullShare ((dats m ρ 0 c).before (1 : Fin 3) t0_0 d)) ∗ (∃ d, ownsV c oO fullShare ((dats m ρ 0 c).before (2 : Fin 3) t0_0 d)))
    ⊢ wpc c (bodyAt0 (F := F) t0_0) (fun _ => iprop(Φ₁ c ∗ (dats m ρ 0 c).owesAt 0 t0_0.succ ∗ ownsV c xI fullShare (xstg m ρ c) ∗ ownsV c wI fullShare (wstg m ρ c) ∗ ownsV c oO fullShare (ostg m ρ c)))
  rw [body_eq]
  have hx : ∀ d, (dats m ρ 0 c).before (0 : Fin 3) t0_0 d = xstg m ρ c := fun d => by
    unfold Dat.before; rw [if_pos (fetch_0 t0_0)]; rfl
  have hw : ∀ d, (dats m ρ 0 c).before (1 : Fin 3) t0_0 d = wstg m ρ c := fun d => by
    unfold Dat.before; rw [if_pos (fetch_1 t0_0)]; rfl
  simp only [hx, hw]
  unfold Dat.owesAt Pipeline.owesWithin
  rw [show (dats m ρ 0 c).owed t0_0.castSucc = Ow c 0 from rfl, show (dats m ρ 0 c).owed t0_0.succ = 0 from rfl]
  iintro ⟨HΦ, ⟨%W, %hW, HO⟩, ⟨%dx, Hx⟩, ⟨%dw, Hw⟩, ⟨%dd, Ho⟩⟩
  iapply (body_sound m ρ c _ W) $$ [HΦ HO Hx Hw Ho]
  · isplitl [HΦ]; · iexact HΦ
    isplitl [HO]; · iexact HO
    isplitl [Hx]; · iexact Hx
    isplitl [Hw]; · iexact Hw
    iexists _; iexact Ho
  · iintro ⟨%W', H1, HO, H⟩
    isplitl [H1]; · iexact H1
    isplitl [HO]
    · iexists W'
      isplitr; · ipureintro; exact fun _ _ => Or.inl trivial
      iexact HO
    iexact H

/-! ## The run -/

theorem ownSemFacts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts (SiteBlocks.L 101) SiteBlocks.lv
        ∗ Pipeline.launchCred (fun d => Ow d 0) c ∗ prngReg c (ρ c) ∗ G' (xstg m ρ) (wstg m ρ) c)
      ⊢ |={Set.univ}=> iprop(start m ρ c ∗ emp) := by
  have h := Entails.of_eq (deal_credit (F := F) c)
  iintro ⟨-, Hlev, Hcr, -, HG⟩
  ihave Hc := h $$ Hcr
  imodintro
  unfold start
  isplitl
  · isplitl [HG]; · iexact HG
    isplitl [Hlev] <;> iassumption
  · iempintro

theorem scr_of (c : Dev nD) (b : Ref sig .tc) : iprop(∃ f : Buf (Elt F) ((c : Thread nD τ).loc b), ((c : Thread nD τ).loc b) ↦{fullShare} f)
    ⊢ (iprop(∃ X, owns (c : Thread nD τ) (Memref.whole b) fullShare X) : sProp 𝕄) := by
  unfold owns; simp only [Memref.view_whole, View.read_whole, View.set_whole]
  iintro ⟨%f, H⟩
  iexists f
  iexists f
  isplitr; · ipureintro; rfl
  iexact H
theorem of_scr (c : Dev nD) (b : Ref sig .tc) : iprop(∃ X, owns (c : Thread nD τ) (Memref.whole b) fullShare X)
    ⊢ (iprop(∃ f : Buf (Elt F) ((c : Thread nD τ).loc b), ((c : Thread nD τ).loc b) ↦{fullShare} f) : sProp 𝕄) := by
  unfold owns; simp only [Memref.view_whole, View.read_whole, View.set_whole]
  iintro ⟨%X, %f, -, H⟩
  iexists f
  iexact H

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ ⟨0, Nat.succ_pos _⟩ := by
  rw [show (dats m ρ 0 c).Φ ⟨0, Nat.succ_pos _⟩ = Φ₀ m ρ c from rfl, scopedRest0_eq]
  unfold Φ₀ Scr
  iintro ⟨Hs, -, H0, H1, H2, H3, H4, H5, H6, H7, H8⟩
  isplitl [Hs]; · iexact Hs
  isplitl [H0]; · iapply (scr_of c cc0_scratch0); iexact H0
  isplitl [H1]; · iapply (scr_of c cc0_scratch1); iexact H1
  isplitl [H2]; · iapply (scr_of c cc0_scratch2); iexact H2
  isplitl [H3]; · iapply (scr_of c cc0_scratch3); iexact H3
  isplitl [H4]; · iapply (scr_of c cc0_scratch4); iexact H4
  isplitl [H5]; · iapply (scr_of c cc0_scratch5); iexact H5
  isplitl [H6]; · iapply (scr_of c cc0_scratch6); iexact H6
  isplitl [H7]; · iapply (scr_of c cc0_scratch7); iexact H7
  iapply (scr_of c cc0_scratch8); iexact H8

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ Scr
  rw [sems0_eq]
  iintro ⟨⟨H0, H1, H2, H3, H4, H5, H6, H7, H8⟩, Hu, Ho⟩
  isplitl [Hu]; · iexact Hu
  isplitl [Ho]; · iexact Ho
  isplitl [H0]; · iapply (of_scr c cc0_scratch0); iexact H0
  isplitl [H1]; · iapply (of_scr c cc0_scratch1); iexact H1
  isplitl [H2]; · iapply (of_scr c cc0_scratch2); iexact H2
  isplitl [H3]; · iapply (of_scr c cc0_scratch3); iexact H3
  isplitl [H4]; · iapply (of_scr c cc0_scratch4); iexact H4
  isplitl [H5]; · iapply (of_scr c cc0_scratch5); iexact H5
  isplitl [H6]; · iapply (of_scr c cc0_scratch6); iexact H6
  isplitl [H7]; · iapply (of_scr c cc0_scratch7); iexact H7
  iapply (of_scr c cc0_scratch8); iexact H8

theorem waits (c : Dev nD) : (levAts (SiteBlocks.L 101) SiteBlocks.lv : sProp 𝕄) ⊢ Pipeline.cellsWaits cfgs (dats m ρ) 0 0 c :=
  Pipeline.cellsWaits_intro cfgs (dats m ρ) 0 0 c fun w s t =>
    SiteBlocks.mayWait_of (N := 101) (by decide) c _ _ (by
      rcases t with ⟨_ | _, ht⟩
      · intro g k hp
        obtain ⟨i, hi, rfl, rfl⟩ := Ow_pos (d := c) (t := 0) hp
        exact ⟨SiteBlocks.mem_L' rfl (lev_lt i), lev_pos i⟩
      · intro g k hp
        exact absurd hp (Nat.lt_irrefl 0))

/-- The arrays after the run. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- The launch element. -/
def u₀ : UU := (initOf (Pipeline.cells cfgs cellOf_inj) (Pipeline.launchToks cfgs cellOf_inj), u₁)

set_option maxRecDepth 8000 in
/-- From any memory with the counters at zero the sixteen devices' runs terminate, with every array at its final contents and
    the counters back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := fun d => Ow d 0) (howed₀ := fun _ => rfl) (howedN := fun _ => rfl)
    (L := SiteBlocks.L 101) (lv := SiteBlocks.lv) (hL := SiteBlocks.hL 101) (hwaits := waits m ρ)
    (G := G (xstg m ρ) (wstg m ρ)) (G' := G' (xstg m ρ) (wstg m ρ)) (u₀ := u₀)
    (hu₀ := by
      have h := fund_G (xstg m ρ) (wstg m ρ)
      unfold u₀
      iintro Hu
      ihave H := (ownU_pair _ _) $$ Hu
      icases H with ⟨HP, HX⟩
      imod h $$ HX with HG
      imodintro
      isplitl [HP] <;> iassumption)
    (hglob := glob (xstg m ρ) (wstg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Launch
end Cert.KernelIdeal.Pf
-- ==== Proof.Math.lean ====
/- The arithmetic of the value claim: a maximum over all entries, the quantiser at the extended reals,
   and a long sum as a sum of sums. -/
module

public import Idealize.ShloMosaic.Lib.MatmulPlain
public import Idealize.ShloMosaic.Lib.IdealHost
public import Idealize.ShloMosaic.Lib.Pipeline.Value
public import Mathlib.Tactic.FieldSimp

@[expose] public section

noncomputable section

namespace Cert.Alg

open Idealize.ShloMosaic Idealize.ShloMosaic.ValueIdx

/-! ## A maximum over all entries -/

theorem ninf : (FloatOps.ofBits (F := Ideal) .f32 0xFF800000#32 : EReal) = ⊥ := by
  show Ideal.ofBits .f32 0xFF800000#32 = ⊥
  simp [Ideal.ofBits, Ideal.ieee]

/-- A reduction by maximum into one entry, of an array that is another laid out anew, is the largest entry of that. -/
theorem max_all {s s' t t' : Shape} {axes : List (Fin s'.rank)} (v : FVec Ideal s .f32) (hs : s.ShapeCasts s')
    (h : s'.Reduces axes t) (ht : ∀ b, t.size b = 1) (hφ : FKind.Formats .f32) (hacc : (0xFF800000#32 : BitVec 32) = FKind.maximumf.neutral .f32 hφ)
    (ht' : t.ShapeCasts t') (pos : Fin t'.rank → ℕ) (hp : ∀ a, pos a < t'.size a) :
    extractAt pos (shapeCast t' (multiReduction .maximumf axes t (shapeCast s' v hs) 0xFF800000#32 h hφ hacc) ht') hp
      = (⨆ i, v i : EReal) := by
  show multiReduction (F := Ideal) .maximumf axes t (shapeCast s' v hs) 0xFF800000#32 h hφ hacc _ = _
  rw [multiReduction_maximumf_eq_fold, ninf, Finset.filter_true_of_mem fun i _ => funext fun b => Fin.ext (by
    have := (h.drop i b).isLt
    have h2 := fun j : t.Idx => (j b).isLt
    have h1 := ht b
    have := h2 (Shape.reshapeEquiv ht' fun a => ⟨pos a, hp a⟩)
    omega)]
  show (Finset.univ.sup fun i => (v (Shape.reshapeEquiv hs i) : EReal)) = _
  rw [Finset.sup_univ_eq_iSup]
  exact Equiv.iSup_comp (g := fun i => (v i : EReal)) (Shape.reshapeEquiv hs)

/-! ## The quantiser -/

theorem lit448 : (Ideal.ofBits .f32 0x43E00000#32 : EReal) = ((448 : ℝ) : EReal) := by
  simp [Ideal.ofBits, Ideal.ieee, -EReal.coe_mul]; norm_num
theorem litm448 : (Ideal.ofBits .f32 0xC3E00000#32 : EReal) = ((-448 : ℝ) : EReal) := by
  simp [Ideal.ofBits, Ideal.ieee, -EReal.coe_mul]; norm_num

/-- With `A` at least the size of `y`, the product by the scale's reciprocal and the clipped quotient come to the same
    after the scale is put back. -/
theorem quant (A y : EReal) (hy : max y (-y) ≤ A) :
    (y * Ideal.div 1 (A * ((448⁻¹ : ℝ) : EReal))) * (A * ((448⁻¹ : ℝ) : EReal))
      = (min ((448 : ℝ) : EReal) (max ((-448 : ℝ) : EReal) (Ideal.div y (Ideal.div A ((448 : ℝ) : EReal))))) * Ideal.div A ((448 : ℝ) : EReal) := by
  have hd : Ideal.div A ((448 : ℝ) : EReal) = A * ((448⁻¹ : ℝ) : EReal) := by
    rw [Ideal.div_coe (by norm_num), one_div]
  rw [hd]
  have h1 : y ≤ A := (le_max_left _ _).trans hy
  have h2 : -y ≤ A := (le_max_right _ _).trans hy
  have h0 : 0 ≤ A := by
    rcases le_total 0 y with h | h
    · exact h.trans h1
    · exact (EReal.neg_nonneg.mpr h).trans h2
  induction A with
  | bot => exact absurd h0 (by simp)
  | top =>
    have hs : (⊤ : EReal) * ((448⁻¹ : ℝ) : EReal) = ⊤ := EReal.top_mul_coe_of_pos (by norm_num)
    rw [hs]
    simp [Ideal.div]
  | coe a =>
    have ha : 0 ≤ a := by exact_mod_cast h0
    rcases ha.eq_or_lt with rfl | ha
    · simp
    · have hyb : y ≠ ⊥ := by rintro rfl; simp at h2
      have hyt : y ≠ ⊤ := by rintro rfl; simp at h1
      lift y to ℝ using ⟨hyt, hyb⟩
      have g1 : y ≤ a := by exact_mod_cast h1
      have g2 : -y ≤ a := by exact_mod_cast h2
      rw [← EReal.coe_mul]
      have hne : a * 448⁻¹ ≠ 0 := by positivity
      rw [Ideal.div_coe hne, Ideal.div_coe hne, one_mul, ← EReal.coe_mul]
      have e1 : (-448 : ℝ) ≤ y * (1 / (a * 448⁻¹)) := by
        rw [mul_one_div, le_div_iff₀ (by positivity)]; linarith
      have e2 : y * (1 / (a * 448⁻¹)) ≤ 448 := by
        rw [mul_one_div, div_le_iff₀ (by positivity)]; linarith
      rw [max_eq_right (EReal.coe_le_coe_iff.mpr e1), min_eq_right (EReal.coe_le_coe_iff.mpr e2)]

/-! ## Sums -/

/-- A sum over `a * b` positions, block by block. -/
theorem sum_blocks {a b : ℕ} (f : Fin (a * b) → EReal) (e : Fin a → Fin b → Fin (a * b)) (he : ∀ d l, (e d l).val = b * d.val + l.val) :
    ∑ d : Fin a, ∑ l : Fin b, f (e d l) = ∑ k : Fin (a * b), f k := by
  rw [← Fintype.sum_prod_type' (f := fun d l => f (e d l)), ← Equiv.sum_comp finProdFinEquiv]
  refine Finset.sum_congr rfl fun p _ => congrArg f (Fin.ext ?_)
  rw [he]; simp [finProdFinEquiv]; omega

end Cert.Alg
-- ==== Proof.Value.lean ====
/-
  What the devices compute, over the extended reals: each device's strips are its rows of the whole product,
  the table of maxima has the largest entry of the whole product, and the result is quantised by it.
-/
module

public import proofs.«01_k».proof.Proof.Common
public import proofs.«01_k».proof.Proof.Math
public import Idealize.ShloMosaic.Lib.Layout
public import Idealize.ShloMosaic.Lib.Pipeline.ValueKit

@[expose] public section

noncomputable section

namespace Cert.KernelIdeal.Pf

open Cert.KernelIdeal Cert.KernelIdeal.Gen
open Idealize.ShloMosaic Idealize.ShloMosaic.TcCoe

/-! ## The order in which strips come -/

/-- The device whose strip of stream `k` is multiplied in at turn `i`: the device's own first. -/
def seqD (c : Dev nD) (k : Fin 4) (i : ℕ) : Dev nD := (back k)^[i] c
theorem orig_seqD (k : Fin 4) : ∀ (n : ℕ) (c : Dev nD), orig c k n = seqD c k (n + 1)
  | 0, _ => rfl
  | n + 1, c => by
    show orig (back k c) k n = _
    rw [orig_seqD k n]; rfl
theorem seqD_inj (k : Fin 4) : ∀ c : Dev nD, Function.Injective fun i : Fin 16 => seqD c k i.val := by
  fin_cases k <;> decide +kernel

theorem tilesX : Layout.Tiles ⟨2, ![4096, 256]⟩ ⟨2, ![4096, 4096]⟩ 1 16 := by decide
theorem tilesW : Layout.Tiles ⟨2, ![256, 8192]⟩ ⟨2, ![4096, 8192]⟩ 0 16 := by decide

section
variable (X : (⟨2, ![4096, 4096]⟩ : Shape).Idx → EReal) (W : (⟨2, ![4096, 8192]⟩ : Shape).Idx → EReal)

/-- Position `l` of block `d`. -/
def at' (d : Fin 16) (l : Fin 256) : Fin 4096 := ⟨256 * d.val + l.val, by omega⟩
/-- The whole product. -/
def prod : (⟨2, ![4096, 8192]⟩ : Shape).Idx → EReal := fun i => ∑ k : Fin 4096, X (ValueIdx.ix2 (i 0) k) * W (ValueIdx.ix2 k (i 1))
/-- Device `d`'s share of row `a` of block `c`. -/
def part (c d : Fin 16) (a : Fin 256) (j : Fin 8192) : EReal := ∑ l : Fin 256, X (ValueIdx.ix2 (at' c a) (at' d l)) * W (ValueIdx.ix2 (at' d l) j)
theorem sum_part (c : Fin 16) (a : Fin 256) (j : Fin 8192) : ∑ d : Fin 16, part X W c d a j = prod X W (ValueIdx.ix2 (at' c a) j) :=
  Alg.sum_blocks (a := 16) (b := 256) (fun k => X (ValueIdx.ix2 (at' c a) k) * W (ValueIdx.ix2 k j)) at' fun _ _ => rfl

variable (xin : Dev nD → Vec Ideal S4096x256 .bf16) (win : Dev nD → Vec Ideal S256x8192 .bf16)
  (hx : ∀ c, xin c = Layout.block ⟨2, ![4096, 256]⟩ ⟨2, ![4096, 4096]⟩ 1 16 c X tilesX)
  (hw : ∀ c, win c = Layout.block ⟨2, ![256, 8192]⟩ ⟨2, ![4096, 8192]⟩ 0 16 c W tilesW)

/-- Column `j` of strip `k`. -/
def col' (k : Fin 4) (j : Fin 2048) : Fin 8192 := ⟨2048 * k.val + j.val, by omega⟩
theorem strip_ix (k : Fin 4) (a : Fin 256) (j : Fin 2048) : (stripR k).emb (ValueIdx.ix2 a j : S256x2048.Idx) = (ValueIdx.ix2 a (col' k j) : S256x8192.Idx) := by
  refine Shape.idx_ext₂ ?_ ?_
  · rw [ValueKit.rect_emb_unit_val]; exact Nat.zero_add _
  · rw [ValueKit.rect_emb_unit_val]; rfl
theorem row_ix (q : Fin 16) (a l : Fin 256) : (rowR q).emb (ValueIdx.ix2 a l : S256x256.Idx) = (ValueIdx.ix2 (at' q a) l : S4096x256.Idx) := by
  refine Shape.idx_ext₂ ?_ ?_
  · rw [ValueKit.rect_emb_unit_val]; rfl
  · rw [ValueKit.rect_emb_unit_val]; exact Nat.zero_add _

include hx in
theorem xin_ix (d : Dev nD) (r : Fin 4096) (l : Fin 256) : xin d (ValueIdx.ix2 r l : S4096x256.Idx) = X (ValueIdx.ix2 r (at' d l)) := by
  rw [hx, Layout.block_apply]
  refine congrArg X (Shape.idx_ext₂ rfl ?_)
  exact congrArg (· + l.val) (Nat.mul_comm d.val 256)
include hw in
theorem win_ix (d : Dev nD) (l : Fin 256) (j : Fin 8192) : win d (ValueIdx.ix2 l j : S256x8192.Idx) = W (ValueIdx.ix2 (at' d l) j) := by
  rw [hw, Layout.block_apply]
  refine congrArg W (Shape.idx_ext₂ ?_ rfl)
  exact congrArg (· + l.val) (Nat.mul_comm d.val 256)

include hx in
theorem XR_ix (d q : Dev nD) (a l : Fin 256) : XR xin d q (ValueIdx.ix2 a l : S256x256.Idx) = X (ValueIdx.ix2 (at' q a) (at' d l)) := by
  show k0_pay2 (xin d) ((rowR q).emb (ValueIdx.ix2 a l : S256x256.Idx)) = _
  rw [row_ix]
  unfold k0_pay2
  rw [shapeCast_self, shapeCast_self]
  exact xin_ix X xin hx d _ l
include hw in
theorem cast_win_ix (d : Dev nD) (l : Fin 256) (j : Fin 8192) : k0_pay1 (win d) (ValueIdx.ix2 l j : S256x8192.Idx) = W (ValueIdx.ix2 (at' d l) j) := by
  unfold k0_pay1
  rw [shapeCast_self, shapeCast_self]
  exact win_ix W win hw d l j

include hx hw in
theorem Y0_ix (c : Dev nD) (a : Fin 256) (j : Fin 8192) : Y0 xin win c (ValueIdx.ix2 a j : S256x8192.Idx) = part X W c c a j := by
  unfold Y0 k0_pay3
  rw [shapeCast_self]
  refine (Ideal.matmul_plain_apply (M := 256) (K := 256) (N := 8192) none _ _ _ a j).trans ?_
  refine (congrArg (· + _) Ideal.ofBits_zero_f32).trans ((zero_add _).trans (Finset.sum_congr rfl fun l _ => ?_))
  exact congrArg₂ (· * ·) (XR_ix X xin hx c c a l) (cast_win_ix W win hw c l j)

include hx hw in
theorem Ys_ix (c : Dev nD) (k : Fin 4) (a : Fin 256) (j : Fin 2048) : ∀ n,
    Ys xin win c k n (ValueIdx.ix2 a j : S256x2048.Idx) = ∑ i ∈ Finset.range (n + 1), part X W c (seqD c k i) a (col' k j)
  | 0 => by
    show Y0 xin win c ((stripR k).emb (ValueIdx.ix2 a j : S256x2048.Idx)) = _
    rw [strip_ix, Y0_ix X W xin win hx hw, zero_add, Finset.sum_range_one]; rfl
  | n + 1 => by
    show k0_pay5 (XR xin (orig c k n) c) (blk3 (WS win (orig c k n) k)) (Ys xin win c k n) (ValueIdx.ix2 a j : S256x2048.Idx) = _
    unfold k0_pay5
    rw [shapeCast_self, Finset.sum_range_succ, ← Ys_ix c k a j n, orig_seqD]
    refine congrArg (Ys xin win c k n (ValueIdx.ix2 a j : S256x2048.Idx) + ·) ?_
    refine (Ideal.matmul_plain_apply (M := 256) (K := 256) (N := 2048) none _ _ _ a j).trans ?_
    refine (congrArg (· + _) Ideal.ofBits_zero_f32).trans ((zero_add _).trans (Finset.sum_congr rfl fun l _ => ?_))
    refine congrArg₂ (· * ·) (XR_ix X xin hx _ c a l) ?_
    refine Eq.trans ?_ (cast_win_ix W win hw _ l (col' k j))
    rw [← strip_ix]
    show WS win _ k ((Shape.reshapeEquiv _).symm (Shape.reshapeEquiv _ (ValueIdx.ix2 l j : S256x2048.Idx))) = _
    rw [Shape.reshapeEquiv_symm, Shape.reshapeEquiv_reshapeEquiv, Shape.reshapeEquiv_self]
    rfl

include hx hw in
/-- A device's strips are its rows of the whole product. -/
theorem YF_ix (c : Dev nD) (a : Fin 256) (j : Fin 8192) : YF xin win c (ValueIdx.ix2 a j : S256x8192.Idx) = prod X W (ValueIdx.ix2 (at' c a) j) := by
  have hj : j.val < 8192 := j.isLt
  obtain ⟨k, j', rfl⟩ : ∃ k j', col' k j' = j := ⟨⟨j.val / 2048, by omega⟩, ⟨j.val % 2048, by omega⟩, Fin.ext (by show 2048 * (j.val / 2048) + j.val % 2048 = j.val; omega)⟩
  rw [← strip_ix]
  refine (congrFun (YF_strip xin win c k) (ValueIdx.ix2 a j' : S256x2048.Idx)).trans ?_
  rw [Ys_ix X W xin win hx hw, Finset.sum_range (n := 16), ← sum_part]
  exact Fintype.sum_bijective _ ((Fintype.bijective_iff_injective_and_card _).mpr ⟨seqD_inj k c, rfl⟩) _ _ fun _ => rfl

end

end Cert.KernelIdeal.Pf
-- ==== Proof.Outcome.lean ====
/-
  What the devices compute, over the extended reals: the table of maxima has the largest entry of the whole product, and the result is quantised by it.
-/
module

public import proofs.«01_k».proof.Proof.Value

@[expose] public section

noncomputable section

namespace Cert.KernelIdeal.Pf

open Cert.KernelIdeal Cert.KernelIdeal.Gen
open Idealize.ShloMosaic Idealize.ShloMosaic.TcCoe

section
variable (X : (⟨2, ![4096, 4096]⟩ : Shape).Idx → EReal) (W : (⟨2, ![4096, 8192]⟩ : Shape).Idx → EReal)

variable (xin : Dev nD → Vec Ideal S4096x256 .bf16) (win : Dev nD → Vec Ideal S256x8192 .bf16)
  (hx : ∀ c, xin c = Layout.block ⟨2, ![4096, 256]⟩ ⟨2, ![4096, 4096]⟩ 1 16 c X tilesX)
  (hw : ∀ c, win c = Layout.block ⟨2, ![256, 8192]⟩ ⟨2, ![4096, 8192]⟩ 0 16 c W tilesW)

/-! ## The largest entry -/

/-- The size of the largest entry of the whole product. -/
def amax : EReal := ⨆ i, max (prod X W i) (-(prod X W i))

theorem ix_ex (i : S256x8192.Idx) : ∃ (a : Fin 256) (j : Fin 8192), i = ValueIdx.ix2 a j := ⟨i 0, i 1, ValueIdx.eq_ix2 i⟩
theorem ix_ex' (i : (⟨2, ![4096, 8192]⟩ : Shape).Idx) : ∃ (c : Fin 16) (a : Fin 256) (j : Fin 8192), i = ValueIdx.ix2 (at' c a) j := by
  have hi : (i 0).val < 4096 := (i 0).isLt
  have hq : (i 0).val / 256 < 16 := by omega
  have ha : (i 0).val % 256 < 256 := Nat.mod_lt _ (by norm_num)
  have e : at' ⟨(i 0).val / 256, hq⟩ ⟨(i 0).val % 256, ha⟩ = i 0 := Fin.ext (Nat.div_add_mod (i 0).val 256)
  exact ⟨_, _, i 1, by rw [e]; exact ValueIdx.eq_ix2 i⟩
theorem one_size : ∀ b, S1.size b = 1 := by decide
theorem named448 : (Named.named (F := Ideal) κ "inv448" (φ := .f32) 0x3B124925#32 : EReal) = ((448⁻¹ : ℝ) : EReal) := rfl
theorem pay76_eq (V : Vec Ideal S256x8192 .f32) (i : S1x128.Idx) : k0_pay76 (F := Ideal) V i = (⨆ i : S256x8192.Idx, max (V i) (-(V i)) : EReal) := by
  have h := Alg.max_all (s := S256x8192) (absf (F := Ideal) (φ := .f32) V) shapeCasts_S256x8192_S1x256x8192 reduces_S1x256x8192_S1 one_size (.inl rfl) rfl shapeCasts_S1_S1x1x1 ![0, 0, 0] inpos_S1x1x1_p0_0_0
  unfold k0_pay76
  dsimp only
  rw [shapeCast_self, h]
  rfl
theorem pay77_eq (T : Vec Ideal S16x128 .f32) : k0_pay77 (F := Ideal) T = ((⨆ i, T i : EReal) * ((448⁻¹ : ℝ) : EReal) : EReal) := by
  have h := Alg.max_all (s := S16x128) T shapeCasts_S16x128_S1x16x128 reduces_S1x16x128_S1 one_size (.inl rfl) rfl shapeCasts_S1_S1x1x1 ![0, 0, 0] inpos_S1x1x1_p0_0_0
  unfold k0_pay77
  dsimp only
  rw [h, ← named448]
  rfl
include hx hw in
theorem AV_ix (d : Dev nD) (i : S1x128.Idx) : AV xin win d i = (⨆ i : S256x8192.Idx, max (YF xin win d i) (-(YF xin win d i)) : EReal) := by
  unfold AV
  generalize YF xin win d = V
  exact pay76_eq V i

include hx hw in
/-- The maximum of the table is the largest entry, over 448. -/
theorem scale_eq : k0_pay77 (F := Ideal) (AT xin win) = (amax X W * ((448⁻¹ : ℝ) : EReal) : EReal) := by
  have h2 : (⨆ i, AT xin win i : EReal) = amax X W := by
    refine le_antisymm (iSup_le fun i => ?_) (iSup_le fun i => ?_)
    · obtain ⟨q, j, rfl⟩ := cov_ex arow_cov i
      rw [show AT xin win ((arowR q).emb j) = _ from congrFun (AT_row xin win q) j, AV_ix X W xin win hx hw]
      refine iSup_le fun i => ?_
      obtain ⟨a, j, rfl⟩ := ix_ex i
      rw [YF_ix X W xin win hx hw]
      exact le_iSup (fun i => max (prod X W i) (-(prod X W i))) _
    · obtain ⟨q, a, j, rfl⟩ := ix_ex' i
      rw [← YF_ix X W xin win hx hw]
      refine (le_iSup (fun i : S256x8192.Idx => (max (YF xin win q i) (-(YF xin win q i)) : EReal)) (ValueIdx.ix2 a j)).trans ?_
      rw [← AV_ix X W xin win hx hw q (ValueIdx.ix2 0 0 : S1x128.Idx), ← AT_row]
      exact le_iSup (fun i => (AT xin win i : EReal)) _
  rw [pay77_eq, h2]

/-! ## The result -/

/-- The quantised product. -/
def quantised : (⟨2, ![4096, 8192]⟩ : Shape).Idx → EReal := fun i =>
  min ((448 : ℝ) : EReal) (max ((-448 : ℝ) : EReal) (Ideal.div (prod X W i) (Ideal.div (amax X W) ((448 : ℝ) : EReal)))) * Ideal.div (amax X W) ((448 : ℝ) : EReal)

include hx hw in
theorem out_eq (c : Dev nD) : outV xin win c = Layout.block ⟨2, ![256, 8192]⟩ ⟨2, ![4096, 8192]⟩ 0 16 c (quantised X W) tilesW := by
  funext i
  obtain ⟨a, j, rfl⟩ := ix_ex i
  rw [Layout.block_apply]
  have e : (Layout.Tiles.idx (S := ⟨2, ![256, 8192]⟩) (T := ⟨2, ![4096, 8192]⟩) (a := 0) (k := 16) tilesW c (ValueIdx.ix2 a j)) = ValueIdx.ix2 (at' c a) j :=
    Shape.idx_ext₂ (congrArg (· + a.val) (Nat.mul_comm c.val 256)) rfl
  rw [e]
  unfold outV
  rw [scale_eq X W xin win hx hw]
  refine Eq.trans ?_ (Alg.quant (amax X W) (prod X W (ValueIdx.ix2 (at' c a) j)) (le_iSup (fun i => max (prod X W i) (-(prod X W i))) _))
  show (YF xin win c (ValueIdx.ix2 a j : S256x8192.Idx) * Ideal.div (Ideal.ofBits .f32 0x3F800000#32) _) * _ = _
  rw [YF_ix X W xin win hx hw, Ideal.ofBits_one_f32]
  rfl
end

end Cert.KernelIdeal.Pf
-- ==== Proof.Final.lean ====
/-
  The kernel's result array after a run, over the extended reals: its block of the quantised product.
-/
module

public import proofs.«01_k».proof.Proof.Outcome
public import proofs.«01_k».proof.Proof.Run

@[expose] public section

noncomputable section

namespace Cert.KernelIdeal.Pf

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg)

/-- The windows take the arrays whole. -/
theorem xstg_eq (c : Dev nD) : xstg m ρ c = m ((c : Thread nD τ).loc main_arg0) := by
  funext i
  refine congrArg (m ((c : Thread nD τ).loc main_arg0)) (funext fun a => Fin.ext ?_)
  exact Pipeline.Window.rect_emb_val_of_index_zero win0_0 _ a (by revert a; decide +kernel) i
theorem wstg_eq (c : Dev nD) : wstg m ρ c = m ((c : Thread nD τ).loc main_arg1) := by
  funext i
  refine congrArg (m ((c : Thread nD τ).loc main_arg1)) (funext fun a => Fin.ext ?_)
  exact Pipeline.Window.rect_emb_val_of_index_zero win0_1 _ a (by revert a; decide +kernel) i

theorem whole_out : (cfg0.win (2 : Fin 3)).WholeAt t0_0 := by decide +kernel
theorem arr_out (c : Dev nD) (dat : Dat τ (Elt Ideal) ℕ ℕ UU ℕ cfg0 c) (O : Vec Ideal S256x8192 .f32)
    (h : dat.after (2 : Fin 3) t0_0 = O) : dat.arrAt (2 : Fin 3) cfg0.N = O := by
  refine dat.arrAt_eq_of_after_last (2 : Fin 3) t0_0 whole_out _ fun j => ?_
  rw [h]
  rfl
theorem after_out (c : Dev nD) (t : Fin cfg0.N) : (dats m ρ 0 c).after (2 : Fin 3) t = ostg m ρ c := by dsimp only [dats]
theorem final_eq (c : Dev nD) : finalA m ρ c (2 : Fin 3) = ostg m ρ c := arr_out c (dats m ρ 0 c) (ostg m ρ c) (after_out m ρ c t0_0)

theorem block_eq (X : (⟨2, ![4096, 4096]⟩ : Shape).Idx → EReal) (W : (⟨2, ![4096, 8192]⟩ : Shape).Idx → EReal)
    (hx : ∀ c : Dev nD, m ((c : Thread nD τ).loc main_arg0) = Layout.block ⟨2, ![4096, 256]⟩ ⟨2, ![4096, 4096]⟩ 1 16 c X tilesX)
    (hw : ∀ c : Dev nD, m ((c : Thread nD τ).loc main_arg1) = Layout.block ⟨2, ![256, 8192]⟩ ⟨2, ![4096, 8192]⟩ 0 16 c W tilesW) (c : Dev nD) :
    finalA m ρ c (2 : Fin 3) = Layout.block ⟨2, ![256, 8192]⟩ ⟨2, ![4096, 8192]⟩ 0 16 c (quantised X W) tilesW :=
  (final_eq m ρ c).trans (out_eq X W (xstg m ρ) (wstg m ρ) (fun c => (xstg_eq m ρ c).trans (hx c)) (fun c => (wstg_eq m ρ c).trans (hw c)) c)

end Cert.KernelIdeal.Pf
-- ==== Proof.RefValue.lean ====
/-
  What the reference computes, over the extended reals: the whole product, quantised by its largest entry.
-/
module

public import proofs.«01_k».proof.Proof.Outcome
public import proofs.«01_k».proof.Proof.Gen.ReferenceIdeal.Value

@[expose] public section

noncomputable section

namespace Cert.ReferenceIdeal.Pf

open Cert.ReferenceIdeal Cert.ReferenceIdeal.Gen
open Idealize.ShloMosaic Idealize.ShloMosaic.TcCoe
open Cert.KernelIdeal.Pf (prod amax quantised)

variable (m : (ℓ : Loc nD τ sig) → Buf (Elt Ideal) ℓ)

/-- The two arrays as launched. -/
def XX : (⟨2, ![4096, 4096]⟩ : Shape).Idx → EReal := m (((0 : Dev nD) : Thread nD τ).loc main_arg0)
def WW : (⟨2, ![4096, 8192]⟩ : Shape).Idx → EReal := m (((0 : Dev nD) : Thread nD τ).loc main_arg1)

theorem V_v2 (i : S4096x8192.Idx) : V m 0 main_v2 i = prod (XX m) (WW m) i := by
  have h : V m 0 main_v2 = Host.dotGeneral (F := Ideal) dot_S4096x4096_S4096x8192_S4096x8192_1_0_0_1_n_n none
      (extf .f32 (XX m : FVec Ideal S4096x4096 .bf16) bitsLt_bf16_f32) (extf .f32 (WW m : FVec Ideal S4096x8192 .bf16) bitsLt_bf16_f32) := by
    show StableHlo.after hostOps0 _ (Proc.devRef .tc main_v2) = _
    after_results
    rfl
  rw [h]
  obtain ⟨r, j, rfl⟩ : ∃ (r : Fin 4096) (j : Fin 8192), i = ValueIdx.ix2 r j := ⟨i 0, i 1, ValueIdx.eq_ix2 i⟩
  refine (Ideal.matmul_plain_apply (M := 4096) (K := 4096) (N := 8192) (φ₁ := .f32) (φ₂ := .f32) none _ _ (fun _ => (0 : EReal)) r j).trans ?_
  exact zero_add _

theorem one_size : ∀ b, S1.size b = 1 := by decide

/-- The quantiser's block, entry by entry. -/
theorem pay1_eq (V : Vec Ideal S4096x8192 .f32) (i : S4096x8192.Idx) (A : EReal) (hA : (⨆ i, max (V i) (-(V i)) : EReal) = A) :
    k0_pay1 (F := Ideal) V i = min ((448 : ℝ) : EReal) (max ((-448 : ℝ) : EReal) (Ideal.div (V i) (Ideal.div A ((448 : ℝ) : EReal)))) * Ideal.div A ((448 : ℝ) : EReal) := by
  have h := Cert.Alg.max_all (s := S4096x8192) (absf (F := Ideal) (φ := .f32) V) shapeCasts_S4096x8192_S1x4096x8192 reduces_S1x4096x8192_S1 one_size (.inl rfl) rfl shapeCasts_S1_S1x1x1 ![0, 0, 0] inpos_S1x1x1_p0_0_0
  have h' := h.trans hA
  unfold k0_pay1
  dsimp only
  rw [shapeCast_self, h', ← Cert.Alg.lit448, ← Cert.Alg.litm448]
  rfl

theorem result_eq : (dats m 0 0).arrAt 1 cfg0.N = quantised (XX m) (WW m) := by
  refine (dats m 0 0).arrAt_eq_of_after_last 1 (⟨0, by decide⟩ : Fin grid0.N) (by decide +kernel) _ fun j => ?_
  rw [after0_1]
  unfold out0_1
  rw [View.canon_cons_unit_zero (by decide), View.ld_unit_zero (by decide)]
  have hV : iblk m 0 0 (⟨0, by decide⟩ : Fin grid0.N) = fun i => prod (XX m) (WW m) i := by
    funext i
    refine Eq.trans ?_ (V_v2 m i)
    refine congrArg (V m 0 main_v2) (funext fun a => Fin.ext ?_)
    exact Pipeline.Window.rect_emb_val_of_index_zero win0_0 _ a (by revert a; decide +kernel) i
  rw [hV]
  exact pay1_eq (fun i => prod (XX m) (WW m) i) j _ rfl

end Cert.ReferenceIdeal.Pf
-- ==== Proof.lean ====
module

public import proofs.«01_k».proof.Defs
public import proofs.«01_k».proof.Proof.Run
public import proofs.«01_k».proof.Proof.Bits.Run
public import proofs.«01_k».proof.Proof.Final
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.ShloMosaic.TcCoe Idealize.SL.Sem

/-- The printed kernel's run, its operands unchanged and its counters back at zero. -/
theorem frame_p : Cert.quiescent_Kernel (hKernel := Cert.Kernel.Gen.facts) := fun m ρ _ =>
  (θ_run Cert.Kernel.defs _ _).mono
    (fun r h => ⟨fun c => ⟨(h.1 c (0 : Fin 3)).trans ((Cert.Kernel.Pf.dats (F := Bits) m ρ 0 c).arrAt_in (0 : Fin 3) rfl _),
      (h.1 c (1 : Fin 3)).trans ((Cert.Kernel.Pf.dats (F := Bits) m ρ 0 c).arrAt_in (1 : Fin 3) rfl _)⟩, h.2⟩)
    (Cert.Kernel.Pf.run_main (F := Bits) m ρ)

/-- The idealised kernel's. -/
theorem frame_pi : Cert.quiescent_KernelIdeal (hKernelIdeal := Cert.KernelIdeal.Gen.facts) := fun m ρ _ =>
  (θ_run Cert.KernelIdeal.defs _ _).mono
    (fun r h => ⟨fun c => ⟨(h.1 c (0 : Fin 3)).trans ((Cert.KernelIdeal.Pf.dats (F := Ideal) m ρ 0 c).arrAt_in (0 : Fin 3) rfl _),
      (h.1 c (1 : Fin 3)).trans ((Cert.KernelIdeal.Pf.dats (F := Ideal) m ρ 0 c).arrAt_in (1 : Fin 3) rfl _)⟩, h.2⟩)
    (Cert.KernelIdeal.Pf.run_main (F := Ideal) m ρ)

/-- The reference's. -/
theorem frame_ri : Cert.quiescent_ReferenceIdeal (hReferenceIdeal := Cert.ReferenceIdeal.Gen.facts) := fun m ρ _ =>
  Cert.ReferenceIdeal.Gen.frame (F := Ideal) m ρ

/-- The constant named is the constant printed, rounded. -/
theorem preserves : Cert.preserves_Kernel_KernelIdeal :=
  IdealRules.named_const.statement Cert.KernelIdeal.κ "inv448" .f32 0x3B124925#32 ((448⁻¹ : ℝ) : EReal) rfl

/-- Each device's result is its block of the reference's. -/
theorem algebraic : Cert.algebraic_KernelIdeal_ReferenceIdeal (hKernelIdeal := Cert.KernelIdeal.Gen.facts) (hReferenceIdeal := Cert.ReferenceIdeal.Gen.facts) := by
  intro m ρ m' ρ' _ hag
  refine ⟨Cert.KernelIdeal.Pf.quantised (Cert.ReferenceIdeal.Pf.XX m') (Cert.ReferenceIdeal.Pf.WW m'), ?_, ?_⟩
  · refine (θ_run Cert.KernelIdeal.defs _ _).mono (fun r h c => ⟨?_, ?_, ?_⟩) (Cert.KernelIdeal.Pf.run_main (F := Ideal) m ρ)
    · exact (h.1 c (2 : Fin 3)).trans (Cert.KernelIdeal.Pf.block_eq m ρ _ _ (fun c => (hag c).1) (fun c => (hag c).2) c)
    · exact (h.1 c (0 : Fin 3)).trans ((Cert.KernelIdeal.Pf.dats (F := Ideal) m ρ 0 c).arrAt_in (0 : Fin 3) rfl _)
    · exact (h.1 c (1 : Fin 3)).trans ((Cert.KernelIdeal.Pf.dats (F := Ideal) m ρ 0 c).arrAt_in (1 : Fin 3) rfl _)
  · exact (θ_run Cert.ReferenceIdeal.defs _ _).mono (fun r h => ⟨(h 0).1.trans (Cert.ReferenceIdeal.Pf.result_eq m'), (h 0).2.1, (h 0).2.2⟩)
      (Cert.ReferenceIdeal.Value.run_blocks (F := Ideal) m' ρ')

theorem claim : Cert.Claim :=
  ⟨Cert.Kernel.Gen.facts, Cert.KernelIdeal.Gen.facts, Cert.ReferenceIdeal.Gen.facts, frame_p, frame_pi, frame_ri, preserves, algebraic⟩

end Cert.Proof

end
